-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_in_range [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_tables_in_range [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_in_range : Cert.Pre_tables_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal)
    ∧ quiescent_Reference3Ideal_pre_tables_in_range (hReference3Ideal := hReference3Ideal) (hPre_tables_in_range := hPre_tables_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables_in_range := hPre_tables_in_range)
-- ==== Pre_tables_in_range.lean ====
abbrev S69632x512 : Shape := ⟨2, ![69632, 512]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S69632x512 32) (main_arg1 : IVec S136 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 136#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S32768x1024 : Shape := ⟨2, ![32768, 1024]⟩
abbrev S65536x512 : Shape := ⟨2, ![65536, 512]⟩
abbrev S32768x128 : Shape := ⟨2, ![32768, 128]⟩
abbrev S1024 : Shape := ⟨1, ![1024]⟩
abbrev S1x1024 : Shape := ⟨2, ![1, 1024]⟩
abbrev S3x512x1024 : Shape := ⟨3, ![3, 512, 1024]⟩
abbrev S3 : Shape := ⟨1, ![3]⟩
abbrev S3x512x512 : Shape := ⟨3, ![3, 512, 512]⟩
abbrev S2x512x128 : Shape := ⟨3, ![2, 512, 128]⟩
abbrev S2 : Shape := ⟨1, ![2]⟩
abbrev S2x512x1024 : Shape := ⟨3, ![2, 512, 1024]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x512x512 : Shape := ⟨3, ![1, 512, 512]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S65536x512, .i32⟩
  | .hbm, ⟨2, _⟩ => ⟨S32768x128, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S1x1024, .f32⟩
  | .local _ .vmem, ⟨1, _⟩ => ⟨S3x512x1024, .f32⟩
  | .local _ .vmem, ⟨2, _⟩ => ⟨S3x512x512, .i32⟩
  | .local _ .vmem, ⟨3, _⟩ => ⟨S3x512x512, .i32⟩
  | .local _ .vmem, ⟨4, _⟩ => ⟨S2x512x128, .f32⟩
  | .local _ .vmem, ⟨5, _⟩ => ⟨S2x512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_scoped6 : Ref sig .tc := ⟨.vmem, 4, rfl⟩
abbrev cc0_scoped8 : Ref sig .tc := ⟨.vmem, 5, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_20_r0 : BitVec 32 := 0#32
  let c3_i32_r0 : BitVec 32 := 3#32
  let v23_r0 : BitVec 32 := Scalar.remui c0_i32_20_r0 c3_i32_r0
  ![v23_r0.toNat]
def k0_off2 : Fin 3 → Nat :=
  let c0_i32_20_r0 : BitVec 32 := 0#32
  let c3_i32_r0 : BitVec 32 := 3#32
  let v23_r0 : BitVec 32 := Scalar.remui c0_i32_20_r0 c3_i32_r0
  let c0_i32_21_r0 : BitVec 32 := 0#32
  let c0_i32_22_r0 : BitVec 32 := 0#32
  ![v23_r0.toNat, 0, 0]
def k0_off3 : Fin 3 → Nat :=
  let c0_i32_27_r0 : BitVec 32 := 0#32
  let c3_i32_28_r0 : BitVec 32 := 3#32
  let v30_r0 : BitVec 32 := Scalar.remui c0_i32_27_r0 c3_i32_28_r0
  let c0_i32_29_r0 : BitVec 32 := 0#32
  let c0_i32_30_r0 : BitVec 32 := 0#32
  ![v30_r0.toNat, 0, 0]
def k0_off4 : Fin 1 → Nat :=
  let c0_i32_42_r0 : BitVec 32 := 0#32
  let c2_i32_r0 : BitVec 32 := 2#32
  let v44_r0 : BitVec 32 := Scalar.remui c0_i32_42_r0 c2_i32_r0
  ![v44_r0.toNat]
def k0_off5 : Fin 3 → Nat :=
  let c0_i32_42_r0 : BitVec 32 := 0#32
  let c2_i32_r0 : BitVec 32 := 2#32
  let v44_r0 : BitVec 32 := Scalar.remui c0_i32_42_r0 c2_i32_r0
  let c0_i32_43_r0 : BitVec 32 := 0#32
  let c0_i32_44_r0 : BitVec 32 := 0#32
  ![v44_r0.toNat, 0, 0]
def k0_cond1 : BitVec 1 :=
  let true_50_r0 : BitVec 1 := 1#1
  let true_6_r0 : BitVec 1 := 1#1
  let c1_i32_r0 : BitVec 32 := 1#32
  let c0_i32_7_r0 : BitVec 32 := 0#32
  let v9_r0 : BitVec 32 := Scalar.select true_6_r0 c1_i32_r0 c0_i32_7_r0
  let c64_i32_r0 : BitVec 32 := 64#32
  let v10_r0 : BitVec 1 := Scalar.cmpi .eq v9_r0 c64_i32_r0
  let c0_i32_8_r0 : BitVec 32 := 0#32
  let v11_r0 : BitVec 32 := Scalar.select v10_r0 c0_i32_8_r0 v9_r0
  let c0_i32_9_r0 : BitVec 32 := 0#32
  let v12_r0 : BitVec 32 := Scalar.addi v11_r0 c0_i32_9_r0
  let c0_i32_49_r0 : BitVec 32 := 0#32
  let v51_r0 : BitVec 1 := Scalar.cmpi .ne v12_r0 c0_i32_49_r0
  let v52_r0 : BitVec 1 := Scalar.andi true_50_r0 v51_r0
  let true_51_r0 : BitVec 1 := 1#1
  let v53_r0 : BitVec 1 := Scalar.andi v52_r0 true_51_r0
  let v54_r0 : BitVec 32 := Scalar.extui v53_r0
  let c0_i32_52_r0 : BitVec 32 := 0#32
  let v55_r0 : BitVec 1 := Scalar.cmpi .ne v54_r0 c0_i32_52_r0
  v55_r0

def k0_off6 : Fin 1 → Nat :=
  let c0_i32_25_r0 : BitVec 32 := 0#32
  let c1_i32_26_r0 : BitVec 32 := 1#32
  let v29_r0 : BitVec 32 := Scalar.addi c0_i32_25_r0 c1_i32_26_r0
  let c3_i32_105_r0 : BitVec 32 := 3#32
  let v107_r0 : BitVec 32 := Scalar.remui v29_r0 c3_i32_105_r0
  ![v107_r0.toNat]
def k0_off7 : Fin 3 → Nat :=
  let c0_i32_25_r0 : BitVec 32 := 0#32
  let c1_i32_26_r0 : BitVec 32 := 1#32
  let v29_r0 : BitVec 32 := Scalar.addi c0_i32_25_r0 c1_i32_26_r0
  let c3_i32_105_r0 : BitVec 32 := 3#32
  let v107_r0 : BitVec 32 := Scalar.remui v29_r0 c3_i32_105_r0
  let c0_i32_107_r0 : BitVec 32 := 0#32
  let c0_i32_108_r0 : BitVec 32 := 0#32
  ![v107_r0.toNat, 0, 0]
def k0_off8 : Fin 2 → Nat :=
  let c512_i32_106_r0 : BitVec 32 := 512#32
  let true_6_r0 : BitVec 1 := 1#1
  let c1_i32_r0 : BitVec 32 := 1#32
  let c0_i32_7_r0 : BitVec 32 := 0#32
  let v9_r0 : BitVec 32 := Scalar.select true_6_r0 c1_i32_r0 c0_i32_7_r0
  let c64_i32_r0 : BitVec 32 := 64#32
  let v10_r0 : BitVec 1 := Scalar.cmpi .eq v9_r0 c64_i32_r0
  let c0_i32_8_r0 : BitVec 32 := 0#32
  let v11_r0 : BitVec 32 := Scalar.select v10_r0 c0_i32_8_r0 v9_r0
  let c0_i32_9_r0 : BitVec 32 := 0#32
  let v12_r0 : BitVec 32 := Scalar.addi v11_r0 c0_i32_9_r0
  let v108_r0 : BitVec 32 := Scalar.muli c512_i32_106_r0 v12_r0
  let c0_i32_109_r0 : BitVec 32 := 0#32
  ![v108_r0.toNat, 0]
def k0_cond2 : BitVec 1 :=
  let true_55_r0 : BitVec 1 := 1#1
  let true_6_r0 : BitVec 1 := 1#1
  let c1_i32_r0 : BitVec 32 := 1#32
  let c0_i32_7_r0 : BitVec 32 := 0#32
  let v9_r0 : BitVec 32 := Scalar.select true_6_r0 c1_i32_r0 c0_i32_7_r0
  let c64_i32_r0 : BitVec 32 := 64#32
  let v10_r0 : BitVec 1 := Scalar.cmpi .eq v9_r0 c64_i32_r0
  let c0_i32_8_r0 : BitVec 32 := 0#32
  let v11_r0 : BitVec 32 := Scalar.select v10_r0 c0_i32_8_r0 v9_r0
  let c0_i32_9_r0 : BitVec 32 := 0#32
  let v12_r0 : BitVec 32 := Scalar.addi v11_r0 c0_i32_9_r0
  let c0_i32_54_r0 : BitVec 32 := 0#32
  let v58_r0 : BitVec 1 := Scalar.cmpi .ne v12_r0 c0_i32_54_r0
  let v59_r0 : BitVec 1 := Scalar.andi true_55_r0 v58_r0
  let true_56_r0 : BitVec 1 := 1#1
  let v60_r0 : BitVec 1 := Scalar.andi v59_r0 true_56_r0
  let v61_r0 : BitVec 32 := Scalar.extui v60_r0
  let c0_i32_57_r0 : BitVec 32 := 0#32
  let v62_r0 : BitVec 1 := Scalar.cmpi .ne v61_r0 c0_i32_57_r0
  v62_r0

def k0_off9 : Fin 1 → Nat :=
  let c0_i32_33_r0 : BitVec 32 := 0#32
  let c1_i32_34_r0 : BitVec 32 := 1#32
  let v36_r0 : BitVec 32 := Scalar.addi c0_i32_33_r0 c1_i32_34_r0
  let c3_i32_105_r0 : BitVec 32 := 3#32
  let v107_r0 : BitVec 32 := Scalar.remui v36_r0 c3_i32_105_r0
  ![v107_r0.toNat]
def k0_off10 : Fin 3 → Nat :=
  let c0_i32_33_r0 : BitVec 32 := 0#32
  let c1_i32_34_r0 : BitVec 32 := 1#32
  let v36_r0 : BitVec 32 := Scalar.addi c0_i32_33_r0 c1_i32_34_r0
  let c3_i32_105_r0 : BitVec 32 := 3#32
  let v107_r0 : BitVec 32 := Scalar.remui v36_r0 c3_i32_105_r0
  let c0_i32_107_r0 : BitVec 32 := 0#32
  let c0_i32_108_r0 : BitVec 32 := 0#32
  ![v107_r0.toNat, 0, 0]
def k0_off11 : Fin 2 → Nat :=
  let c512_i32_106_r0 : BitVec 32 := 512#32
  let true_6_r0 : BitVec 1 := 1#1
  let c1_i32_r0 : BitVec 32 := 1#32
  let c0_i32_7_r0 : BitVec 32 := 0#32
  let v9_r0 : BitVec 32 := Scalar.select true_6_r0 c1_i32_r0 c0_i32_7_r0
  let c64_i32_r0 : BitVec 32 := 64#32
  let v10_r0 : BitVec 1 := Scalar.cmpi .eq v9_r0 c64_i32_r0
  let c0_i32_8_r0 : BitVec 32 := 0#32
  let v11_r0 : BitVec 32 := Scalar.select v10_r0 c0_i32_8_r0 v9_r0
  let c0_i32_9_r0 : BitVec 32 := 0#32
  let v12_r0 : BitVec 32 := Scalar.addi v11_r0 c0_i32_9_r0
  let v108_r0 : BitVec 32 := Scalar.muli c512_i32_106_r0 v12_r0
  let c0_i32_109_r0 : BitVec 32 := 0#32
  ![v108_r0.toNat, 0]
def k0_cond3 : BitVec 1 :=
  let true_61_r0 : BitVec 1 := 1#1
  let true_6_r0 : BitVec 1 := 1#1
  let c1_i32_r0 : BitVec 32 := 1#32
  let c0_i32_7_r0 : BitVec 32 := 0#32
  let v9_r0 : BitVec 32 := Scalar.select true_6_r0 c1_i32_r0 c0_i32_7_r0
  let c64_i32_r0 : BitVec 32 := 64#32
  let v10_r0 : BitVec 1 := Scalar.cmpi .eq v9_r0 c64_i32_r0
  let c0_i32_8_r0 : BitVec 32 := 0#32
  let v11_r0 : BitVec 32 := Scalar.select v10_r0 c0_i32_8_r0 v9_r0
  let c0_i32_9_r0 : BitVec 32 := 0#32
  let v12_r0 : BitVec 32 := Scalar.addi v11_r0 c0_i32_9_r0
  let c64_i32_59_r0 : BitVec 32 := 64#32
  let v65_r0 : BitVec 32 := Scalar.addi v12_r0 c64_i32_59_r0
  let c64_i32_60_r0 : BitVec 32 := 64#32
  let v66_r0 : BitVec 1 := Scalar.cmpi .ne v65_r0 c64_i32_60_r0
  let v67_r0 : BitVec 1 := Scalar.andi true_61_r0 v66_r0
  let true_62_r0 : BitVec 1 := 1#1
  let v68_r0 : BitVec 1 := Scalar.andi v67_r0 true_62_r0
  let v69_r0 : BitVec 32 := Scalar.extui v68_r0
  let c0_i32_63_r0 : BitVec 32 := 0#32
  let v70_r0 : BitVec 1 := Scalar.cmpi .ne v69_r0 c0_i32_63_r0
  v70_r0

def k0_off12 : Fin 1 → Nat :=
  let c0_i32_40_r0 : BitVec 32 := 0#32
  let c1_i32_41_r0 : BitVec 32 := 1#32
  let v43_r0 : BitVec 32 := Scalar.addi c0_i32_40_r0 c1_i32_41_r0
  let c3_i32_105_r0 : BitVec 32 := 3#32
  let v107_r0 : BitVec 32 := Scalar.remui v43_r0 c3_i32_105_r0
  ![v107_r0.toNat]
def k0_off13 : Fin 3 → Nat :=
  let c0_i32_40_r0 : BitVec 32 := 0#32
  let c1_i32_41_r0 : BitVec 32 := 1#32
  let v43_r0 : BitVec 32 := Scalar.addi c0_i32_40_r0 c1_i32_41_r0
  let c3_i32_105_r0 : BitVec 32 := 3#32
  let v107_r0 : BitVec 32 := Scalar.remui v43_r0 c3_i32_105_r0
  let c0_i32_108_r0 : BitVec 32 := 0#32
  let c0_i32_109_r0 : BitVec 32 := 0#32
  ![v107_r0.toNat, 0, 0]
def k0_off14 : Fin 2 → Nat :=
  let c512_i32_107_r0 : BitVec 32 := 512#32
  let true_6_r0 : BitVec 1 := 1#1
  let c1_i32_r0 : BitVec 32 := 1#32
  let c0_i32_7_r0 : BitVec 32 := 0#32
  let v9_r0 : BitVec 32 := Scalar.select true_6_r0 c1_i32_r0 c0_i32_7_r0
  let c64_i32_r0 : BitVec 32 := 64#32
  let v10_r0 : BitVec 1 := Scalar.cmpi .eq v9_r0 c64_i32_r0
  let c0_i32_8_r0 : BitVec 32 := 0#32
  let v11_r0 : BitVec 32 := Scalar.select v10_r0 c0_i32_8_r0 v9_r0
  let c0_i32_9_r0 : BitVec 32 := 0#32
  let v12_r0 : BitVec 32 := Scalar.addi v11_r0 c0_i32_9_r0
  let c64_i32_106_r0 : BitVec 32 := 64#32
  let v108_r0 : BitVec 32 := Scalar.addi v12_r0 c64_i32_106_r0
  let v109_r0 : BitVec 32 := Scalar.muli c512_i32_107_r0 v108_r0
  let c0_i32_110_r0 : BitVec 32 := 0#32
  ![v109_r0.toNat, 0]
@[reducible] def k0_t1_loop : Scf.Loop 32 :=
  let c0_i32_72_r0 : BitVec 32 := 0#32
  let c64_i32_73_r0 : BitVec 32 := 64#32
  let v73_r0 : BitVec 32 := Scalar.addi c0_i32_72_r0 c64_i32_73_r0
  let c1_i32_74_r0 : BitVec 32 := 1#32
  ⟨c0_i32_72_r0, v73_r0, c1_i32_74_r0⟩
def k0_off15 (arg6_r0 : BitVec 32) : Fin 1 → Nat :=
  let c3_i32_239_r0 : BitVec 32 := 3#32
  let v399_r0 : BitVec 32 := Scalar.remui arg6_r0 c3_i32_239_r0
  ![v399_r0.toNat]
def k0_cond4 (k0_t1 : Fin k0_t1_loop.trips) (arg16_r0 : BitVec 32) : BitVec 1 :=
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c0_i32_117_r0 : BitVec 32 := 0#32
  let v119_r0 : BitVec 32 := Scalar.addi v118_r0 c0_i32_117_r0
  let true_119_r0 : BitVec 1 := 1#1
  let c1_i32_118_r0 : BitVec 32 := 1#32
  let v120_r0 : BitVec 32 := Scalar.addi v118_r0 c1_i32_118_r0
  let v121_r0 : BitVec 32 := Scalar.select true_119_r0 v120_r0 v118_r0
  let c64_i32_120_r0 : BitVec 32 := 64#32
  let v122_r0 : BitVec 1 := Scalar.cmpi .eq v121_r0 c64_i32_120_r0
  let c0_i32_121_r0 : BitVec 32 := 0#32
  let v123_r0 : BitVec 32 := Scalar.select v122_r0 c0_i32_121_r0 v121_r0
  let c0_i32_122_r0 : BitVec 32 := 0#32
  let v124_r0 : BitVec 32 := Scalar.addi v123_r0 c0_i32_122_r0
  let v130_r0 : BitVec 1 := Scalar.cmpi .ne v119_r0 v124_r0
  let c0_i32_72_r0 : BitVec 32 := 0#32
  let c1_i32_74_r0 : BitVec 32 := 1#32
  let arg5_r0 : BitVec 32 := Scf.iv c0_i32_72_r0 c1_i32_74_r0 k0_t1
  let c62_i32_r0 : BitVec 32 := 62#32
  let v131_r0 : BitVec 1 := Scalar.cmpi .sge arg5_r0 c62_i32_r0
  let true_128_r0 : BitVec 1 := 1#1
  let v132_r0 : BitVec 1 := Scalar.xori v131_r0 true_128_r0
  let v133_r0 : BitVec 1 := Scalar.andi v130_r0 v132_r0
  let true_129_r0 : BitVec 1 := 1#1
  let v134_r0 : BitVec 1 := Scalar.andi v133_r0 true_129_r0
  let v135_r0 : BitVec 32 := Scalar.extui v134_r0
  let c0_i32_130_r0 : BitVec 32 := 0#32
  let v136_r0 : BitVec 1 := Scalar.cmpi .ne v135_r0 c0_i32_130_r0
  v136_r0

def k0_off16 (arg6_r0 : BitVec 32) : Fin 3 → Nat :=
  let c3_i32_239_r0 : BitVec 32 := 3#32
  let v399_r0 : BitVec 32 := Scalar.remui arg6_r0 c3_i32_239_r0
  let c0_i32_241_r0 : BitVec 32 := 0#32
  let c0_i32_242_r0 : BitVec 32 := 0#32
  ![v399_r0.toNat, 0, 0]
def k0_off17 (arg16_r0 : BitVec 32) : Fin 2 → Nat :=
  let c512_i32_240_r0 : BitVec 32 := 512#32
  let true_119_r0 : BitVec 1 := 1#1
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c1_i32_118_r0 : BitVec 32 := 1#32
  let v120_r0 : BitVec 32 := Scalar.addi v118_r0 c1_i32_118_r0
  let v121_r0 : BitVec 32 := Scalar.select true_119_r0 v120_r0 v118_r0
  let c64_i32_120_r0 : BitVec 32 := 64#32
  let v122_r0 : BitVec 1 := Scalar.cmpi .eq v121_r0 c64_i32_120_r0
  let c0_i32_121_r0 : BitVec 32 := 0#32
  let v123_r0 : BitVec 32 := Scalar.select v122_r0 c0_i32_121_r0 v121_r0
  let c0_i32_122_r0 : BitVec 32 := 0#32
  let v124_r0 : BitVec 32 := Scalar.addi v123_r0 c0_i32_122_r0
  let v400_r0 : BitVec 32 := Scalar.muli c512_i32_240_r0 v124_r0
  let c0_i32_243_r0 : BitVec 32 := 0#32
  ![v400_r0.toNat, 0]
def k0_off18 (arg8_r0 : BitVec 32) : Fin 1 → Nat :=
  let c3_i32_239_r0 : BitVec 32 := 3#32
  let v399_r0 : BitVec 32 := Scalar.remui arg8_r0 c3_i32_239_r0
  ![v399_r0.toNat]
def k0_cond5 (k0_t1 : Fin k0_t1_loop.trips) (arg16_r0 : BitVec 32) : BitVec 1 :=
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c0_i32_117_r0 : BitVec 32 := 0#32
  let v119_r0 : BitVec 32 := Scalar.addi v118_r0 c0_i32_117_r0
  let true_119_r0 : BitVec 1 := 1#1
  let c1_i32_118_r0 : BitVec 32 := 1#32
  let v120_r0 : BitVec 32 := Scalar.addi v118_r0 c1_i32_118_r0
  let v121_r0 : BitVec 32 := Scalar.select true_119_r0 v120_r0 v118_r0
  let c64_i32_120_r0 : BitVec 32 := 64#32
  let v122_r0 : BitVec 1 := Scalar.cmpi .eq v121_r0 c64_i32_120_r0
  let c0_i32_121_r0 : BitVec 32 := 0#32
  let v123_r0 : BitVec 32 := Scalar.select v122_r0 c0_i32_121_r0 v121_r0
  let c0_i32_122_r0 : BitVec 32 := 0#32
  let v124_r0 : BitVec 32 := Scalar.addi v123_r0 c0_i32_122_r0
  let v140_r0 : BitVec 1 := Scalar.cmpi .ne v119_r0 v124_r0
  let c0_i32_72_r0 : BitVec 32 := 0#32
  let c1_i32_74_r0 : BitVec 32 := 1#32
  let arg5_r0 : BitVec 32 := Scf.iv c0_i32_72_r0 c1_i32_74_r0 k0_t1
  let c62_i32_133_r0 : BitVec 32 := 62#32
  let v141_r0 : BitVec 1 := Scalar.cmpi .sge arg5_r0 c62_i32_133_r0
  let true_134_r0 : BitVec 1 := 1#1
  let v142_r0 : BitVec 1 := Scalar.xori v141_r0 true_134_r0
  let v143_r0 : BitVec 1 := Scalar.andi v140_r0 v142_r0
  let true_135_r0 : BitVec 1 := 1#1
  let v144_r0 : BitVec 1 := Scalar.andi v143_r0 true_135_r0
  let v145_r0 : BitVec 32 := Scalar.extui v144_r0
  let c0_i32_136_r0 : BitVec 32 := 0#32
  let v146_r0 : BitVec 1 := Scalar.cmpi .ne v145_r0 c0_i32_136_r0
  v146_r0

def k0_off19 (arg8_r0 : BitVec 32) : Fin 3 → Nat :=
  let c3_i32_239_r0 : BitVec 32 := 3#32
  let v399_r0 : BitVec 32 := Scalar.remui arg8_r0 c3_i32_239_r0
  let c0_i32_241_r0 : BitVec 32 := 0#32
  let c0_i32_242_r0 : BitVec 32 := 0#32
  ![v399_r0.toNat, 0, 0]
def k0_off20 (arg16_r0 : BitVec 32) : Fin 2 → Nat :=
  let c512_i32_240_r0 : BitVec 32 := 512#32
  let true_119_r0 : BitVec 1 := 1#1
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c1_i32_118_r0 : BitVec 32 := 1#32
  let v120_r0 : BitVec 32 := Scalar.addi v118_r0 c1_i32_118_r0
  let v121_r0 : BitVec 32 := Scalar.select true_119_r0 v120_r0 v118_r0
  let c64_i32_120_r0 : BitVec 32 := 64#32
  let v122_r0 : BitVec 1 := Scalar.cmpi .eq v121_r0 c64_i32_120_r0
  let c0_i32_121_r0 : BitVec 32 := 0#32
  let v123_r0 : BitVec 32 := Scalar.select v122_r0 c0_i32_121_r0 v121_r0
  let c0_i32_122_r0 : BitVec 32 := 0#32
  let v124_r0 : BitVec 32 := Scalar.addi v123_r0 c0_i32_122_r0
  let v400_r0 : BitVec 32 := Scalar.muli c512_i32_240_r0 v124_r0
  let c0_i32_243_r0 : BitVec 32 := 0#32
  ![v400_r0.toNat, 0]
def k0_off21 (arg10_r0 : BitVec 32) : Fin 1 → Nat :=
  let c3_i32_239_r0 : BitVec 32 := 3#32
  let v399_r0 : BitVec 32 := Scalar.remui arg10_r0 c3_i32_239_r0
  ![v399_r0.toNat]
def k0_cond6 (k0_t1 : Fin k0_t1_loop.trips) (arg16_r0 : BitVec 32) : BitVec 1 :=
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c0_i32_117_r0 : BitVec 32 := 0#32
  let v119_r0 : BitVec 32 := Scalar.addi v118_r0 c0_i32_117_r0
  let c64_i32_139_r0 : BitVec 32 := 64#32
  let v150_r0 : BitVec 32 := Scalar.addi v119_r0 c64_i32_139_r0
  let true_119_r0 : BitVec 1 := 1#1
  let c1_i32_118_r0 : BitVec 32 := 1#32
  let v120_r0 : BitVec 32 := Scalar.addi v118_r0 c1_i32_118_r0
  let v121_r0 : BitVec 32 := Scalar.select true_119_r0 v120_r0 v118_r0
  let c64_i32_120_r0 : BitVec 32 := 64#32
  let v122_r0 : BitVec 1 := Scalar.cmpi .eq v121_r0 c64_i32_120_r0
  let c0_i32_121_r0 : BitVec 32 := 0#32
  let v123_r0 : BitVec 32 := Scalar.select v122_r0 c0_i32_121_r0 v121_r0
  let c0_i32_122_r0 : BitVec 32 := 0#32
  let v124_r0 : BitVec 32 := Scalar.addi v123_r0 c0_i32_122_r0
  let c64_i32_140_r0 : BitVec 32 := 64#32
  let v151_r0 : BitVec 32 := Scalar.addi v124_r0 c64_i32_140_r0
  let v152_r0 : BitVec 1 := Scalar.cmpi .ne v150_r0 v151_r0
  let c0_i32_72_r0 : BitVec 32 := 0#32
  let c1_i32_74_r0 : BitVec 32 := 1#32
  let arg5_r0 : BitVec 32 := Scf.iv c0_i32_72_r0 c1_i32_74_r0 k0_t1
  let c62_i32_141_r0 : BitVec 32 := 62#32
  let v153_r0 : BitVec 1 := Scalar.cmpi .sge arg5_r0 c62_i32_141_r0
  let true_142_r0 : BitVec 1 := 1#1
  let v154_r0 : BitVec 1 := Scalar.xori v153_r0 true_142_r0
  let v155_r0 : BitVec 1 := Scalar.andi v152_r0 v154_r0
  let true_143_r0 : BitVec 1 := 1#1
  let v156_r0 : BitVec 1 := Scalar.andi v155_r0 true_143_r0
  let v157_r0 : BitVec 32 := Scalar.extui v156_r0
  let c0_i32_144_r0 : BitVec 32 := 0#32
  let v158_r0 : BitVec 1 := Scalar.cmpi .ne v157_r0 c0_i32_144_r0
  v158_r0

def k0_off22 (arg10_r0 : BitVec 32) : Fin 3 → Nat :=
  let c3_i32_239_r0 : BitVec 32 := 3#32
  let v399_r0 : BitVec 32 := Scalar.remui arg10_r0 c3_i32_239_r0
  let c0_i32_242_r0 : BitVec 32 := 0#32
  let c0_i32_243_r0 : BitVec 32 := 0#32
  ![v399_r0.toNat, 0, 0]
def k0_off23 (arg16_r0 : BitVec 32) : Fin 2 → Nat :=
  let c512_i32_241_r0 : BitVec 32 := 512#32
  let true_119_r0 : BitVec 1 := 1#1
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c1_i32_118_r0 : BitVec 32 := 1#32
  let v120_r0 : BitVec 32 := Scalar.addi v118_r0 c1_i32_118_r0
  let v121_r0 : BitVec 32 := Scalar.select true_119_r0 v120_r0 v118_r0
  let c64_i32_120_r0 : BitVec 32 := 64#32
  let v122_r0 : BitVec 1 := Scalar.cmpi .eq v121_r0 c64_i32_120_r0
  let c0_i32_121_r0 : BitVec 32 := 0#32
  let v123_r0 : BitVec 32 := Scalar.select v122_r0 c0_i32_121_r0 v121_r0
  let c0_i32_122_r0 : BitVec 32 := 0#32
  let v124_r0 : BitVec 32 := Scalar.addi v123_r0 c0_i32_122_r0
  let c64_i32_240_r0 : BitVec 32 := 64#32
  let v400_r0 : BitVec 32 := Scalar.addi v124_r0 c64_i32_240_r0
  let v401_r0 : BitVec 32 := Scalar.muli c512_i32_241_r0 v400_r0
  let c0_i32_244_r0 : BitVec 32 := 0#32
  ![v401_r0.toNat, 0]
def k0_off24 (arg12_r0 : BitVec 32) : Fin 1 → Nat :=
  let c2_i32_239_r0 : BitVec 32 := 2#32
  let v399_r0 : BitVec 32 := Scalar.remui arg12_r0 c2_i32_239_r0
  ![v399_r0.toNat]
def k0_cond7 (k0_t1 : Fin k0_t1_loop.trips) (arg16_r0 : BitVec 32) : BitVec 1 :=
  let c0_i32_107_r0 : BitVec 32 := 0#32
  let v109_r0 : BitVec 32 := Scalar.addi arg16_r0 c0_i32_107_r0
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c0_i32_117_r0 : BitVec 32 := 0#32
  let v119_r0 : BitVec 32 := Scalar.addi v118_r0 c0_i32_117_r0
  let v162_r0 : BitVec 1 := Scalar.cmpi .ne v109_r0 v119_r0
  let c0_i32_72_r0 : BitVec 32 := 0#32
  let c1_i32_74_r0 : BitVec 32 := 1#32
  let arg5_r0 : BitVec 32 := Scf.iv c0_i32_72_r0 c1_i32_74_r0 k0_t1
  let c63_i32_147_r0 : BitVec 32 := 63#32
  let v163_r0 : BitVec 1 := Scalar.cmpi .sge arg5_r0 c63_i32_147_r0
  let true_148_r0 : BitVec 1 := 1#1
  let v164_r0 : BitVec 1 := Scalar.xori v163_r0 true_148_r0
  let v165_r0 : BitVec 1 := Scalar.andi v162_r0 v164_r0
  let true_149_r0 : BitVec 1 := 1#1
  let v166_r0 : BitVec 1 := Scalar.andi v165_r0 true_149_r0
  let v167_r0 : BitVec 32 := Scalar.extui v166_r0
  let c0_i32_150_r0 : BitVec 32 := 0#32
  let v168_r0 : BitVec 1 := Scalar.cmpi .ne v167_r0 c0_i32_150_r0
  v168_r0

def k0_off25 (arg12_r0 : BitVec 32) : Fin 3 → Nat :=
  let c2_i32_239_r0 : BitVec 32 := 2#32
  let v399_r0 : BitVec 32 := Scalar.remui arg12_r0 c2_i32_239_r0
  let c0_i32_241_r0 : BitVec 32 := 0#32
  let c0_i32_242_r0 : BitVec 32 := 0#32
  ![v399_r0.toNat, 0, 0]
def k0_off26 (arg16_r0 : BitVec 32) : Fin 2 → Nat :=
  let c512_i32_240_r0 : BitVec 32 := 512#32
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c0_i32_117_r0 : BitVec 32 := 0#32
  let v119_r0 : BitVec 32 := Scalar.addi v118_r0 c0_i32_117_r0
  let v400_r0 : BitVec 32 := Scalar.muli c512_i32_240_r0 v119_r0
  let c0_i32_243_r0 : BitVec 32 := 0#32
  ![v400_r0.toNat, 0]
def k0_off27 (arg7_r0 : BitVec 32) : Fin 1 → Nat :=
  let c3_i32_240_r0 : BitVec 32 := 3#32
  let v400_r0 : BitVec 32 := Scalar.remui arg7_r0 c3_i32_240_r0
  ![v400_r0.toNat]
def k0_cond8 (k0_t1 : Fin k0_t1_loop.trips) (arg16_r0 : BitVec 32) : BitVec 1 :=
  let c0_i32_107_r0 : BitVec 32 := 0#32
  let v109_r0 : BitVec 32 := Scalar.addi arg16_r0 c0_i32_107_r0
  let true_109_r0 : BitVec 1 := 1#1
  let c1_i32_108_r0 : BitVec 32 := 1#32
  let v110_r0 : BitVec 32 := Scalar.subi arg16_r0 c1_i32_108_r0
  let v111_r0 : BitVec 32 := Scalar.select true_109_r0 v110_r0 arg16_r0
  let c_m1_i32_110_r0 : BitVec 32 := 4294967295#32
  let v112_r0 : BitVec 1 := Scalar.cmpi .eq v111_r0 c_m1_i32_110_r0
  let c63_i32_111_r0 : BitVec 32 := 63#32
  let v113_r0 : BitVec 32 := Scalar.select v112_r0 c63_i32_111_r0 v111_r0
  let c0_i32_112_r0 : BitVec 32 := 0#32
  let v114_r0 : BitVec 32 := Scalar.addi v113_r0 c0_i32_112_r0
  let v176_r0 : BitVec 1 := Scalar.cmpi .ne v109_r0 v114_r0
  let c0_i32_72_r0 : BitVec 32 := 0#32
  let c1_i32_74_r0 : BitVec 32 := 1#32
  let arg5_r0 : BitVec 32 := Scf.iv c0_i32_72_r0 c1_i32_74_r0 k0_t1
  let c0_i32_105_r0 : BitVec 32 := 0#32
  let v107_r0 : BitVec 1 := Scalar.cmpi .eq arg5_r0 c0_i32_105_r0
  let v177_r0 : BitVec 1 := Scalar.ori v176_r0 v107_r0
  let c0_i32_155_r0 : BitVec 32 := 0#32
  let v178_r0 : BitVec 1 := Scalar.cmpi .sge arg5_r0 c0_i32_155_r0
  let v179_r0 : BitVec 1 := Scalar.andi v177_r0 v178_r0
  let v180_r0 : BitVec 32 := Scalar.extui v179_r0
  let c0_i32_156_r0 : BitVec 32 := 0#32
  let v181_r0 : BitVec 1 := Scalar.cmpi .ne v180_r0 c0_i32_156_r0
  v181_r0

def k0_off28 (arg7_r0 : BitVec 32) : Fin 3 → Nat :=
  let c3_i32_240_r0 : BitVec 32 := 3#32
  let v400_r0 : BitVec 32 := Scalar.remui arg7_r0 c3_i32_240_r0
  let c0_i32_241_r0 : BitVec 32 := 0#32
  let c0_i32_242_r0 : BitVec 32 := 0#32
  ![v400_r0.toNat, 0, 0]
def k0_off29 (arg16_r0 : BitVec 32) : Fin 2 → Nat :=
  let c512_i32_239_r0 : BitVec 32 := 512#32
  let c0_i32_107_r0 : BitVec 32 := 0#32
  let v109_r0 : BitVec 32 := Scalar.addi arg16_r0 c0_i32_107_r0
  let v399_r0 : BitVec 32 := Scalar.muli c512_i32_239_r0 v109_r0
  let c0_i32_243_r0 : BitVec 32 := 0#32
  ![v399_r0.toNat, 0]
def k0_off30 (arg9_r0 : BitVec 32) : Fin 1 → Nat :=
  let c3_i32_240_r0 : BitVec 32 := 3#32
  let v400_r0 : BitVec 32 := Scalar.remui arg9_r0 c3_i32_240_r0
  ![v400_r0.toNat]
def k0_cond9 (k0_t1 : Fin k0_t1_loop.trips) (arg16_r0 : BitVec 32) : BitVec 1 :=
  let c0_i32_107_r0 : BitVec 32 := 0#32
  let v109_r0 : BitVec 32 := Scalar.addi arg16_r0 c0_i32_107_r0
  let true_109_r0 : BitVec 1 := 1#1
  let c1_i32_108_r0 : BitVec 32 := 1#32
  let v110_r0 : BitVec 32 := Scalar.subi arg16_r0 c1_i32_108_r0
  let v111_r0 : BitVec 32 := Scalar.select true_109_r0 v110_r0 arg16_r0
  let c_m1_i32_110_r0 : BitVec 32 := 4294967295#32
  let v112_r0 : BitVec 1 := Scalar.cmpi .eq v111_r0 c_m1_i32_110_r0
  let c63_i32_111_r0 : BitVec 32 := 63#32
  let v113_r0 : BitVec 32 := Scalar.select v112_r0 c63_i32_111_r0 v111_r0
  let c0_i32_112_r0 : BitVec 32 := 0#32
  let v114_r0 : BitVec 32 := Scalar.addi v113_r0 c0_i32_112_r0
  let v182_r0 : BitVec 1 := Scalar.cmpi .ne v109_r0 v114_r0
  let c0_i32_72_r0 : BitVec 32 := 0#32
  let c1_i32_74_r0 : BitVec 32 := 1#32
  let arg5_r0 : BitVec 32 := Scf.iv c0_i32_72_r0 c1_i32_74_r0 k0_t1
  let c0_i32_105_r0 : BitVec 32 := 0#32
  let v107_r0 : BitVec 1 := Scalar.cmpi .eq arg5_r0 c0_i32_105_r0
  let v183_r0 : BitVec 1 := Scalar.ori v182_r0 v107_r0
  let c0_i32_157_r0 : BitVec 32 := 0#32
  let v184_r0 : BitVec 1 := Scalar.cmpi .sge arg5_r0 c0_i32_157_r0
  let v185_r0 : BitVec 1 := Scalar.andi v183_r0 v184_r0
  let v186_r0 : BitVec 32 := Scalar.extui v185_r0
  let c0_i32_158_r0 : BitVec 32 := 0#32
  let v187_r0 : BitVec 1 := Scalar.cmpi .ne v186_r0 c0_i32_158_r0
  v187_r0

def k0_off31 (arg9_r0 : BitVec 32) : Fin 3 → Nat :=
  let c3_i32_240_r0 : BitVec 32 := 3#32
  let v400_r0 : BitVec 32 := Scalar.remui arg9_r0 c3_i32_240_r0
  let c0_i32_241_r0 : BitVec 32 := 0#32
  let c0_i32_242_r0 : BitVec 32 := 0#32
  ![v400_r0.toNat, 0, 0]
def k0_off32 (arg16_r0 : BitVec 32) : Fin 2 → Nat :=
  let c512_i32_239_r0 : BitVec 32 := 512#32
  let c0_i32_107_r0 : BitVec 32 := 0#32
  let v109_r0 : BitVec 32 := Scalar.addi arg16_r0 c0_i32_107_r0
  let v399_r0 : BitVec 32 := Scalar.muli c512_i32_239_r0 v109_r0
  let c0_i32_243_r0 : BitVec 32 := 0#32
  ![v399_r0.toNat, 0]
def k0_off33 (arg11_r0 : BitVec 32) : Fin 1 → Nat :=
  let c3_i32_241_r0 : BitVec 32 := 3#32
  let v401_r0 : BitVec 32 := Scalar.remui arg11_r0 c3_i32_241_r0
  ![v401_r0.toNat]
def k0_cond10 (k0_t1 : Fin k0_t1_loop.trips) (arg16_r0 : BitVec 32) : BitVec 1 :=
  let c0_i32_107_r0 : BitVec 32 := 0#32
  let v109_r0 : BitVec 32 := Scalar.addi arg16_r0 c0_i32_107_r0
  let c64_i32_159_r0 : BitVec 32 := 64#32
  let v188_r0 : BitVec 32 := Scalar.addi v109_r0 c64_i32_159_r0
  let true_109_r0 : BitVec 1 := 1#1
  let c1_i32_108_r0 : BitVec 32 := 1#32
  let v110_r0 : BitVec 32 := Scalar.subi arg16_r0 c1_i32_108_r0
  let v111_r0 : BitVec 32 := Scalar.select true_109_r0 v110_r0 arg16_r0
  let c_m1_i32_110_r0 : BitVec 32 := 4294967295#32
  let v112_r0 : BitVec 1 := Scalar.cmpi .eq v111_r0 c_m1_i32_110_r0
  let c63_i32_111_r0 : BitVec 32 := 63#32
  let v113_r0 : BitVec 32 := Scalar.select v112_r0 c63_i32_111_r0 v111_r0
  let c0_i32_112_r0 : BitVec 32 := 0#32
  let v114_r0 : BitVec 32 := Scalar.addi v113_r0 c0_i32_112_r0
  let c64_i32_160_r0 : BitVec 32 := 64#32
  let v189_r0 : BitVec 32 := Scalar.addi v114_r0 c64_i32_160_r0
  let v190_r0 : BitVec 1 := Scalar.cmpi .ne v188_r0 v189_r0
  let c0_i32_72_r0 : BitVec 32 := 0#32
  let c1_i32_74_r0 : BitVec 32 := 1#32
  let arg5_r0 : BitVec 32 := Scf.iv c0_i32_72_r0 c1_i32_74_r0 k0_t1
  let c0_i32_105_r0 : BitVec 32 := 0#32
  let v107_r0 : BitVec 1 := Scalar.cmpi .eq arg5_r0 c0_i32_105_r0
  let v191_r0 : BitVec 1 := Scalar.ori v190_r0 v107_r0
  let c0_i32_161_r0 : BitVec 32 := 0#32
  let v192_r0 : BitVec 1 := Scalar.cmpi .sge arg5_r0 c0_i32_161_r0
  let v193_r0 : BitVec 1 := Scalar.andi v191_r0 v192_r0
  let v194_r0 : BitVec 32 := Scalar.extui v193_r0
  let c0_i32_162_r0 : BitVec 32 := 0#32
  let v195_r0 : BitVec 1 := Scalar.cmpi .ne v194_r0 c0_i32_162_r0
  v195_r0

def k0_off34 (arg11_r0 : BitVec 32) : Fin 3 → Nat :=
  let c3_i32_241_r0 : BitVec 32 := 3#32
  let v401_r0 : BitVec 32 := Scalar.remui arg11_r0 c3_i32_241_r0
  let c0_i32_242_r0 : BitVec 32 := 0#32
  let c0_i32_243_r0 : BitVec 32 := 0#32
  ![v401_r0.toNat, 0, 0]
def k0_off35 (arg16_r0 : BitVec 32) : Fin 2 → Nat :=
  let c512_i32_240_r0 : BitVec 32 := 512#32
  let c0_i32_107_r0 : BitVec 32 := 0#32
  let v109_r0 : BitVec 32 := Scalar.addi arg16_r0 c0_i32_107_r0
  let c64_i32_239_r0 : BitVec 32 := 64#32
  let v399_r0 : BitVec 32 := Scalar.addi v109_r0 c64_i32_239_r0
  let v400_r0 : BitVec 32 := Scalar.muli c512_i32_240_r0 v399_r0
  let c0_i32_244_r0 : BitVec 32 := 0#32
  ![v400_r0.toNat, 0]
def k0_off36 (arg13_r0 : BitVec 32) : Fin 1 → Nat :=
  let c2_i32_240_r0 : BitVec 32 := 2#32
  let v400_r0 : BitVec 32 := Scalar.remui arg13_r0 c2_i32_240_r0
  ![v400_r0.toNat]
def k0_cond11 (k0_t1 : Fin k0_t1_loop.trips) (arg16_r0 : BitVec 32) : BitVec 1 :=
  let c0_i32_107_r0 : BitVec 32 := 0#32
  let v109_r0 : BitVec 32 := Scalar.addi arg16_r0 c0_i32_107_r0
  let true_109_r0 : BitVec 1 := 1#1
  let c1_i32_108_r0 : BitVec 32 := 1#32
  let v110_r0 : BitVec 32 := Scalar.subi arg16_r0 c1_i32_108_r0
  let v111_r0 : BitVec 32 := Scalar.select true_109_r0 v110_r0 arg16_r0
  let c_m1_i32_110_r0 : BitVec 32 := 4294967295#32
  let v112_r0 : BitVec 1 := Scalar.cmpi .eq v111_r0 c_m1_i32_110_r0
  let c63_i32_111_r0 : BitVec 32 := 63#32
  let v113_r0 : BitVec 32 := Scalar.select v112_r0 c63_i32_111_r0 v111_r0
  let c0_i32_112_r0 : BitVec 32 := 0#32
  let v114_r0 : BitVec 32 := Scalar.addi v113_r0 c0_i32_112_r0
  let v196_r0 : BitVec 1 := Scalar.cmpi .ne v109_r0 v114_r0
  let c0_i32_72_r0 : BitVec 32 := 0#32
  let c1_i32_74_r0 : BitVec 32 := 1#32
  let arg5_r0 : BitVec 32 := Scf.iv c0_i32_72_r0 c1_i32_74_r0 k0_t1
  let c0_i32_105_r0 : BitVec 32 := 0#32
  let v107_r0 : BitVec 1 := Scalar.cmpi .eq arg5_r0 c0_i32_105_r0
  let v197_r0 : BitVec 1 := Scalar.ori v196_r0 v107_r0
  let c0_i32_163_r0 : BitVec 32 := 0#32
  let v198_r0 : BitVec 1 := Scalar.cmpi .sge arg5_r0 c0_i32_163_r0
  let v199_r0 : BitVec 1 := Scalar.andi v197_r0 v198_r0
  let v200_r0 : BitVec 32 := Scalar.extui v199_r0
  let c0_i32_164_r0 : BitVec 32 := 0#32
  let v201_r0 : BitVec 1 := Scalar.cmpi .ne v200_r0 c0_i32_164_r0
  v201_r0

def k0_off37 (arg13_r0 : BitVec 32) : Fin 3 → Nat :=
  let c2_i32_240_r0 : BitVec 32 := 2#32
  let v400_r0 : BitVec 32 := Scalar.remui arg13_r0 c2_i32_240_r0
  let c0_i32_241_r0 : BitVec 32 := 0#32
  let c0_i32_242_r0 : BitVec 32 := 0#32
  ![v400_r0.toNat, 0, 0]
def k0_off38 (arg16_r0 : BitVec 32) : Fin 2 → Nat :=
  let c512_i32_239_r0 : BitVec 32 := 512#32
  let c0_i32_107_r0 : BitVec 32 := 0#32
  let v109_r0 : BitVec 32 := Scalar.addi arg16_r0 c0_i32_107_r0
  let v399_r0 : BitVec 32 := Scalar.muli c512_i32_239_r0 v109_r0
  let c0_i32_243_r0 : BitVec 32 := 0#32
  ![v399_r0.toNat, 0]
def k0_off39 (arg13_r0 : BitVec 32) : Fin 3 → Nat :=
  let c2_i32_170_r0 : BitVec 32 := 2#32
  let v211_r0 : BitVec 32 := Scalar.remui arg13_r0 c2_i32_170_r0
  let v213_r0 : Index := Scalar.indexCast v211_r0
  let c0_r0 : Index := 0#32
  let c0_172_r0 : Index := 0#32
  ![v213_r0.toNat, 0, 0]

def k0_chk2 (arg13_r0 : BitVec 32) : Prop :=
  (∀ a, (k0_off39 arg13_r0) a + S1x512x128.size a ≤ S2x512x128.size a)
theorem k0_off39_inb : ∀ (arg13_r0 : BitVec 32) (k0_hw2 : k0_chk2 arg13_r0), ∀ a, (k0_off39 arg13_r0) a + S1x512x128.size a ≤ S2x512x128.size a := fun arg13_r0 k0_hw2 => k0_hw2

def k0_off40 (arg7_r0 : BitVec 32) : Fin 3 → Nat :=
  let c3_i32_167_r0 : BitVec 32 := 3#32
  let v208_r0 : BitVec 32 := Scalar.remui arg7_r0 c3_i32_167_r0
  let v229_r0 : Index := Scalar.indexCast v208_r0
  let c0_178_r0 : Index := 0#32
  let c0_179_r0 : Index := 0#32
  ![v229_r0.toNat, 0, 0]

def k0_chk3 (arg7_r0 : BitVec 32) : Prop :=
  (∀ a, (k0_off40 arg7_r0) a + S1x512x1024.size a ≤ S3x512x1024.size a)
theorem k0_off40_inb : ∀ (arg7_r0 : BitVec 32) (k0_hw3 : k0_chk3 arg7_r0), ∀ a, (k0_off40 arg7_r0) a + S1x512x1024.size a ≤ S3x512x1024.size a := fun arg7_r0 k0_hw3 => k0_hw3

def k0_off41 (arg9_r0 : BitVec 32) : Fin 3 → Nat :=
  let c3_i32_168_r0 : BitVec 32 := 3#32
  let v209_r0 : BitVec 32 := Scalar.remui arg9_r0 c3_i32_168_r0
  let v232_r0 : Index := Scalar.indexCast v209_r0
  let c0_180_r0 : Index := 0#32
  let c0_181_r0 : Index := 0#32
  ![v232_r0.toNat, 0, 0]

def k0_chk4 (arg9_r0 : BitVec 32) : Prop :=
  (∀ a, (k0_off41 arg9_r0) a + S1x512x512.size a ≤ S3x512x512.size a)
theorem k0_off41_inb : ∀ (arg9_r0 : BitVec 32) (k0_hw4 : k0_chk4 arg9_r0), ∀ a, (k0_off41 arg9_r0) a + S1x512x512.size a ≤ S3x512x512.size a := fun arg9_r0 k0_hw4 => k0_hw4

def k0_off42 (arg11_r0 : BitVec 32) : Fin 3 → Nat :=
  let c3_i32_169_r0 : BitVec 32 := 3#32
  let v210_r0 : BitVec 32 := Scalar.remui arg11_r0 c3_i32_169_r0
  let v266_r0 : Index := Scalar.indexCast v210_r0
  let c0_188_r0 : Index := 0#32
  let c0_189_r0 : Index := 0#32
  ![v266_r0.toNat, 0, 0]

def k0_chk5 (arg11_r0 : BitVec 32) : Prop :=
  (∀ a, (k0_off42 arg11_r0) a + S1x512x512.size a ≤ S3x512x512.size a)
theorem k0_off42_inb : ∀ (arg11_r0 : BitVec 32) (k0_hw5 : k0_chk5 arg11_r0), ∀ a, (k0_off42 arg11_r0) a + S1x512x512.size a ≤ S3x512x512.size a := fun arg11_r0 k0_hw5 => k0_hw5

def k0_off43 (arg14_r0 : BitVec 32) : Fin 3 → Nat :=
  let c2_i32_171_r0 : BitVec 32 := 2#32
  let v212_r0 : BitVec 32 := Scalar.remui arg14_r0 c2_i32_171_r0
  let v316_r0 : Index := Scalar.indexCast v212_r0
  let c0_203_r0 : Index := 0#32
  let c0_204_r0 : Index := 0#32
  ![v316_r0.toNat, 0, 0]

def k0_chk6 (arg14_r0 : BitVec 32) : Prop :=
  (∀ a, (k0_off43 arg14_r0) a + S1x512x1024.size a ≤ S2x512x1024.size a)
theorem k0_off43_inb : ∀ (arg14_r0 : BitVec 32) (k0_hw6 : k0_chk6 arg14_r0), ∀ a, (k0_off43 arg14_r0) a + S1x512x1024.size a ≤ S2x512x1024.size a := fun arg14_r0 k0_hw6 => k0_hw6

def k0_off44 (arg14_r0 : BitVec 32) : Fin 1 → Nat :=
  let c2_i32_239_r0 : BitVec 32 := 2#32
  let v399_r0 : BitVec 32 := Scalar.remui arg14_r0 c2_i32_239_r0
  ![v399_r0.toNat]
def k0_cond17 (k0_t1 : Fin k0_t1_loop.trips) (arg16_r0 : BitVec 32) : BitVec 1 :=
  let c0_i32_107_r0 : BitVec 32 := 0#32
  let v109_r0 : BitVec 32 := Scalar.addi arg16_r0 c0_i32_107_r0
  let true_114_r0 : BitVec 1 := 1#1
  let c1_i32_113_r0 : BitVec 32 := 1#32
  let v115_r0 : BitVec 32 := Scalar.addi arg16_r0 c1_i32_113_r0
  let v116_r0 : BitVec 32 := Scalar.select true_114_r0 v115_r0 arg16_r0
  let c64_i32_115_r0 : BitVec 32 := 64#32
  let v117_r0 : BitVec 1 := Scalar.cmpi .eq v116_r0 c64_i32_115_r0
  let c0_i32_116_r0 : BitVec 32 := 0#32
  let v118_r0 : BitVec 32 := Scalar.select v117_r0 c0_i32_116_r0 v116_r0
  let c0_i32_117_r0 : BitVec 32 := 0#32
  let v119_r0 : BitVec 32 := Scalar.addi v118_r0 c0_i32_117_r0
  let v340_r0 : BitVec 1 := Scalar.cmpi .ne v109_r0 v119_r0
  let c0_i32_72_r0 : BitVec 32 := 0#32
  let c1_i32_74_r0 : BitVec 32 := 1#32
  let arg5_r0 : BitVec 32 := Scf.iv c0_i32_72_r0 c1_i32_74_r0 k0_t1
  let c63_i32_106_r0 : BitVec 32 := 63#32
  let v108_r0 : BitVec 1 := Scalar.cmpi .eq arg5_r0 c63_i32_106_r0
  let v341_r0 : BitVec 1 := Scalar.ori v340_r0 v108_r0
  let v342_r0 : BitVec 32 := Scalar.extui v341_r0
  let c0_i32_212_r0 : BitVec 32 := 0#32
  let v343_r0 : BitVec 1 := Scalar.cmpi .ne v342_r0 c0_i32_212_r0
  v343_r0

def k0_off45 (arg16_r0 : BitVec 32) : Fin 2 → Nat :=
  let c512_i32_240_r0 : BitVec 32 := 512#32
  let c0_i32_107_r0 : BitVec 32 := 0#32
  let v109_r0 : BitVec 32 := Scalar.addi arg16_r0 c0_i32_107_r0
  let v400_r0 : BitVec 32 := Scalar.muli c512_i32_240_r0 v109_r0
  let c0_i32_241_r0 : BitVec 32 := 0#32
  ![v400_r0.toNat, 0]
def k0_off46 (arg14_r0 : BitVec 32) : Fin 3 → Nat :=
  let c2_i32_239_r0 : BitVec 32 := 2#32
  let v399_r0 : BitVec 32 := Scalar.remui arg14_r0 c2_i32_239_r0
  let c0_i32_242_r0 : BitVec 32 := 0#32
  let c0_i32_243_r0 : BitVec 32 := 0#32
  ![v399_r0.toNat, 0, 0]
def k0_off47 (arg15_r0 : BitVec 32) : Fin 1 → Nat :=
  let c2_i32_239_r0 : BitVec 32 := 2#32
  let v399_r0 : BitVec 32 := Scalar.remui arg15_r0 c2_i32_239_r0
  ![v399_r0.toNat]
def k0_cond22 (k0_t1 : Fin k0_t1_loop.trips) (arg16_r0 : BitVec 32) : BitVec 1 :=
  let c0_i32_107_r0 : BitVec 32 := 0#32
  let v109_r0 : BitVec 32 := Scalar.addi arg16_r0 c0_i32_107_r0
  let true_109_r0 : BitVec 1 := 1#1
  let c1_i32_108_r0 : BitVec 32 := 1#32
  let v110_r0 : BitVec 32 := Scalar.subi arg16_r0 c1_i32_108_r0
  let v111_r0 : BitVec 32 := Scalar.select true_109_r0 v110_r0 arg16_r0
  let c_m1_i32_110_r0 : BitVec 32 := 4294967295#32
  let v112_r0 : BitVec 1 := Scalar.cmpi .eq v111_r0 c_m1_i32_110_r0
  let c63_i32_111_r0 : BitVec 32 := 63#32
  let v113_r0 : BitVec 32 := Scalar.select v112_r0 c63_i32_111_r0 v111_r0
  let c0_i32_112_r0 : BitVec 32 := 0#32
  let v114_r0 : BitVec 32 := Scalar.addi v113_r0 c0_i32_112_r0
  let v371_r0 : BitVec 1 := Scalar.cmpi .ne v109_r0 v114_r0
  let c0_i32_72_r0 : BitVec 32 := 0#32
  let c1_i32_74_r0 : BitVec 32 := 1#32
  let arg5_r0 : BitVec 32 := Scf.iv c0_i32_72_r0 c1_i32_74_r0 k0_t1
  let c0_i32_105_r0 : BitVec 32 := 0#32
  let v107_r0 : BitVec 1 := Scalar.cmpi .eq arg5_r0 c0_i32_105_r0
  let true_227_r0 : BitVec 1 := 1#1
  let v372_r0 : BitVec 1 := Scalar.xori v107_r0 true_227_r0
  let v373_r0 : BitVec 1 := Scalar.andi v371_r0 v372_r0
  let v374_r0 : BitVec 32 := Scalar.extui v373_r0
  let c0_i32_228_r0 : BitVec 32 := 0#32
  let v375_r0 : BitVec 1 := Scalar.cmpi .ne v374_r0 c0_i32_228_r0
  v375_r0

def k0_off48 (arg16_r0 : BitVec 32) : Fin 2 → Nat :=
  let c512_i32_240_r0 : BitVec 32 := 512#32
  let true_109_r0 : BitVec 1 := 1#1
  let c1_i32_108_r0 : BitVec 32 := 1#32
  let v110_r0 : BitVec 32 := Scalar.subi arg16_r0 c1_i32_108_r0
  let v111_r0 : BitVec 32 := Scalar.select true_109_r0 v110_r0 arg16_r0
  let c_m1_i32_110_r0 : BitVec 32 := 4294967295#32
  let v112_r0 : BitVec 1 := Scalar.cmpi .eq v111_r0 c_m1_i32_110_r0
  let c63_i32_111_r0 : BitVec 32 := 63#32
  let v113_r0 : BitVec 32 := Scalar.select v112_r0 c63_i32_111_r0 v111_r0
  let c0_i32_112_r0 : BitVec 32 := 0#32
  let v114_r0 : BitVec 32 := Scalar.addi v113_r0 c0_i32_112_r0
  let v400_r0 : BitVec 32 := Scalar.muli c512_i32_240_r0 v114_r0
  let c0_i32_241_r0 : BitVec 32 := 0#32
  ![v400_r0.toNat, 0]
def k0_off49 (arg15_r0 : BitVec 32) : Fin 3 → Nat :=
  let c2_i32_239_r0 : BitVec 32 := 2#32
  let v399_r0 : BitVec 32 := Scalar.remui arg15_r0 c2_i32_239_r0
  let c0_i32_242_r0 : BitVec 32 := 0#32
  let c0_i32_243_r0 : BitVec 32 := 0#32
  ![v399_r0.toNat, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) : Prop :=
  (∀ (k0_h4 : k0_cond4 k0_t1 arg16_r0 = 1#1), ∀ a, (k0_off15 arg6_r0) a + S1.size a ≤ S3.size a) ∧
  (∀ (k0_h4 : k0_cond4 k0_t1 arg16_r0 = 1#1), ∀ a, (k0_off16 arg6_r0) a + S1x512x1024.size a ≤ S3x512x1024.size a) ∧
  (∀ (k0_h4 : k0_cond4 k0_t1 arg16_r0 = 1#1), ∀ a, (k0_off17 arg16_r0) a + S512x1024.size a ≤ S32768x1024.size a) ∧
  (∀ (k0_h5 : k0_cond5 k0_t1 arg16_r0 = 1#1), ∀ a, (k0_off18 arg8_r0) a + S1.size a ≤ S3.size a) ∧
  (∀ (k0_h5 : k0_cond5 k0_t1 arg16_r0 = 1#1), ∀ a, (k0_off19 arg8_r0) a + S1x512x512.size a ≤ S3x512x512.size a) ∧
  (∀ (k0_h5 : k0_cond5 k0_t1 arg16_r0 = 1#1), ∀ a, (k0_off20 arg16_r0) a + S512x512.size a ≤ S65536x512.size a) ∧
  (∀ (k0_h6 : k0_cond6 k0_t1 arg16_r0 = 1#1), ∀ a, (k0_off21 arg10_r0) a + S1.size a ≤ S3.size a) ∧
  (∀ (k0_h6 : k0_cond6 k0_t1 arg16_r0 = 1#1), ∀ a, (k0_off22 arg10_r0) a + S1x512x512.size a ≤ S3x512x512.size a) ∧
  (∀ (k0_h6 : k0_cond6 k0_t1 arg16_r0 = 1#1), ∀ a, (k0_off23 arg16_r0) a + S512x512.size a ≤ S65536x512.size a) ∧
  (∀ (k0_h7 : k0_cond7 k0_t1 arg16_r0 = 1#1), ∀ a, (k0_off24 arg12_r0) a + S1.size a ≤ S2.size a) ∧
  (∀ (k0_h7 : k0_cond7 k0_t1 arg16_r0 = 1#1), ∀ a, (k0_off25 arg12_r0) a + S1x512x128.size a ≤ S2x512x128.size a) ∧
  (∀ (k0_h7 : k0_cond7 k0_t1 arg16_r0 = 1#1), ∀ a, (k0_off26 arg16_r0) a + S512x128.size a ≤ S32768x128.size a) ∧
  (∀ (k0_h8 : k0_cond8 k0_t1 arg16_r0 = 1#1), ∀ a, (k0_off27 arg7_r0) a + S1.size a ≤ S3.size a) ∧
  (∀ (k0_h8 : k0_cond8 k0_t1 arg16_r0 = 1#1), ∀ a, (k0_off28 arg7_r0) a + S1x512x1024.size a ≤ S3x512x1024.size a) ∧
  (∀ (k0_h8 : k0_cond8 k0_t1 arg16_r0 = 1#1), ∀ a, (k0_off29 arg16_r0) a + S512x1024.size a ≤ S32768x1024.size a) ∧
  (∀ (k0_h9 : k0_cond9 k0_t1 arg16_r0 = 1#1), ∀ a, (k0_off30 arg9_r0) a + S1.size a ≤ S3.size a) ∧
  (∀ (k0_h9 : k0_cond9 k0_t1 arg16_r0 = 1#1), ∀ a, (k0_off31 arg9_r0) a + S1x512x512.size a ≤ S3x512x512.size a) ∧
  (∀ (k0_h9 : k0_cond9 k0_t1 arg16_r0 = 1#1), ∀ a, (k0_off32 arg16_r0) a + S512x512.size a ≤ S65536x512.size a) ∧
  (∀ (k0_h10 : k0_cond10 k0_t1 arg16_r0 = 1#1), ∀ a, (k0_off33 arg11_r0) a + S1.size a ≤ S3.size a) ∧
  (∀ (k0_h10 : k0_cond10 k0_t1 arg16_r0 = 1#1), ∀ a, (k0_off34 arg11_r0) a + S1x512x512.size a ≤ S3x512x512.size a) ∧
  (∀ (k0_h10 : k0_cond10 k0_t1 arg16_r0 = 1#1), ∀ a, (k0_off35 arg16_r0) a + S512x512.size a ≤ S65536x512.size a) ∧
  (∀ (k0_h11 : k0_cond11 k0_t1 arg16_r0 = 1#1), ∀ a, (k0_off36 arg13_r0) a + S1.size a ≤ S2.size a) ∧
  (∀ (k0_h11 : k0_cond11 k0_t1 arg16_r0 = 1#1), ∀ a, (k0_off37 arg13_r0) a + S1x512x128.size a ≤ S2x512x128.size a) ∧
  (∀ (k0_h11 : k0_cond11 k0_t1 arg16_r0 = 1#1), ∀ a, (k0_off38 arg16_r0) a + S512x128.size a ≤ S32768x128.size a) ∧
  (∀ (k0_h17 : k0_cond17 k0_t1 arg16_r0 = 1#1), ∀ a, (k0_off44 arg14_r0) a + S1.size a ≤ S2.size a) ∧
  (∀ (k0_h17 : k0_cond17 k0_t1 arg16_r0 = 1#1), ∀ a, (k0_off45 arg16_r0) a + S512x1024.size a ≤ S32768x1024.size a) ∧
  (∀ (k0_h17 : k0_cond17 k0_t1 arg16_r0 = 1#1), ∀ a, (k0_off46 arg14_r0) a + S1x512x1024.size a ≤ S2x512x1024.size a) ∧
  (∀ (k0_h22 : k0_cond22 k0_t1 arg16_r0 = 1#1), ∀ a, (k0_off47 arg15_r0) a + S1.size a ≤ S2.size a) ∧
  (∀ (k0_h22 : k0_cond22 k0_t1 arg16_r0 = 1#1), ∀ a, (k0_off48 arg16_r0) a + S512x1024.size a ≤ S32768x1024.size a) ∧
  (∀ (k0_h22 : k0_cond22 k0_t1 arg16_r0 = 1#1), ∀ a, (k0_off49 arg15_r0) a + S1x512x1024.size a ≤ S2x512x1024.size a)
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h4 : k0_cond4 k0_t1 arg16_r0 = 1#1), ∀ a, (k0_off15 arg6_r0) a + S1.size a ≤ S3.size a := fun k0_t1 arg6_r0 arg7_r0 arg8_r0 arg9_r0 arg10_r0 arg11_r0 arg12_r0 arg13_r0 arg14_r0 arg15_r0 arg16_r0 k0_hw1 k0_h4 => k0_hw1.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h4 : k0_cond4 k0_t1 arg16_r0 = 1#1), ∀ a, (k0_off16 arg6_r0) a + S1x512x1024.size a ≤ S3x512x1024.size a := fun k0_t1 arg6_r0 arg7_r0 arg8_r0 arg9_r0 arg10_r0 arg11_r0 arg12_r0 arg13_r0 arg14_r0 arg15_r0 arg16_r0 k0_hw1 k0_h4 => k0_hw1.2.1 k0_h4
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h4 : k0_cond4 k0_t1 arg16_r0 = 1#1), ∀ a, (k0_off17 arg16_r0) a + S512x1024.size a ≤ S32768x1024.size a := fun k0_t1 arg6_r0 arg7_r0 arg8_r0 arg9_r0 arg10_r0 arg11_r0 arg12_r0 arg13_r0 arg14_r0 arg15_r0 arg16_r0 k0_hw1 k0_h4 => k0_hw1.2.2.1 k0_h4
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h5 : k0_cond5 k0_t1 arg16_r0 = 1#1), ∀ a, (k0_off18 arg8_r0) a + S1.size a ≤ S3.size a := fun k0_t1 arg6_r0 arg7_r0 arg8_r0 arg9_r0 arg10_r0 arg11_r0 arg12_r0 arg13_r0 arg14_r0 arg15_r0 arg16_r0 k0_hw1 k0_h5 => k0_hw1.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h5 : k0_cond5 k0_t1 arg16_r0 = 1#1), ∀ a, (k0_off19 arg8_r0) a + S1x512x512.size a ≤ S3x512x512.size a := fun k0_t1 arg6_r0 arg7_r0 arg8_r0 arg9_r0 arg10_r0 arg11_r0 arg12_r0 arg13_r0 arg14_r0 arg15_r0 arg16_r0 k0_hw1 k0_h5 => k0_hw1.2.2.2.2.1 k0_h5
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h5 : k0_cond5 k0_t1 arg16_r0 = 1#1), ∀ a, (k0_off20 arg16_r0) a + S512x512.size a ≤ S65536x512.size a := fun k0_t1 arg6_r0 arg7_r0 arg8_r0 arg9_r0 arg10_r0 arg11_r0 arg12_r0 arg13_r0 arg14_r0 arg15_r0 arg16_r0 k0_hw1 k0_h5 => k0_hw1.2.2.2.2.2.1 k0_h5
theorem k0_off21_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h6 : k0_cond6 k0_t1 arg16_r0 = 1#1), ∀ a, (k0_off21 arg10_r0) a + S1.size a ≤ S3.size a := fun k0_t1 arg6_r0 arg7_r0 arg8_r0 arg9_r0 arg10_r0 arg11_r0 arg12_r0 arg13_r0 arg14_r0 arg15_r0 arg16_r0 k0_hw1 k0_h6 => k0_hw1.2.2.2.2.2.2.1 k0_h6
theorem k0_off22_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h6 : k0_cond6 k0_t1 arg16_r0 = 1#1), ∀ a, (k0_off22 arg10_r0) a + S1x512x512.size a ≤ S3x512x512.size a := fun k0_t1 arg6_r0 arg7_r0 arg8_r0 arg9_r0 arg10_r0 arg11_r0 arg12_r0 arg13_r0 arg14_r0 arg15_r0 arg16_r0 k0_hw1 k0_h6 => k0_hw1.2.2.2.2.2.2.2.1 k0_h6
theorem k0_off23_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h6 : k0_cond6 k0_t1 arg16_r0 = 1#1), ∀ a, (k0_off23 arg16_r0) a + S512x512.size a ≤ S65536x512.size a := fun k0_t1 arg6_r0 arg7_r0 arg8_r0 arg9_r0 arg10_r0 arg11_r0 arg12_r0 arg13_r0 arg14_r0 arg15_r0 arg16_r0 k0_hw1 k0_h6 => k0_hw1.2.2.2.2.2.2.2.2.1 k0_h6
theorem k0_off24_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h7 : k0_cond7 k0_t1 arg16_r0 = 1#1), ∀ a, (k0_off24 arg12_r0) a + S1.size a ≤ S2.size a := fun k0_t1 arg6_r0 arg7_r0 arg8_r0 arg9_r0 arg10_r0 arg11_r0 arg12_r0 arg13_r0 arg14_r0 arg15_r0 arg16_r0 k0_hw1 k0_h7 => k0_hw1.2.2.2.2.2.2.2.2.2.1 k0_h7
theorem k0_off25_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h7 : k0_cond7 k0_t1 arg16_r0 = 1#1), ∀ a, (k0_off25 arg12_r0) a + S1x512x128.size a ≤ S2x512x128.size a := fun k0_t1 arg6_r0 arg7_r0 arg8_r0 arg9_r0 arg10_r0 arg11_r0 arg12_r0 arg13_r0 arg14_r0 arg15_r0 arg16_r0 k0_hw1 k0_h7 => k0_hw1.2.2.2.2.2.2.2.2.2.2.1 k0_h7
theorem k0_off26_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h7 : k0_cond7 k0_t1 arg16_r0 = 1#1), ∀ a, (k0_off26 arg16_r0) a + S512x128.size a ≤ S32768x128.size a := fun k0_t1 arg6_r0 arg7_r0 arg8_r0 arg9_r0 arg10_r0 arg11_r0 arg12_r0 arg13_r0 arg14_r0 arg15_r0 arg16_r0 k0_hw1 k0_h7 => k0_hw1.2.2.2.2.2.2.2.2.2.2.2.1 k0_h7
theorem k0_off27_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h8 : k0_cond8 k0_t1 arg16_r0 = 1#1), ∀ a, (k0_off27 arg7_r0) a + S1.size a ≤ S3.size a := fun k0_t1 arg6_r0 arg7_r0 arg8_r0 arg9_r0 arg10_r0 arg11_r0 arg12_r0 arg13_r0 arg14_r0 arg15_r0 arg16_r0 k0_hw1 k0_h8 => k0_hw1.2.2.2.2.2.2.2.2.2.2.2.2.1 k0_h8
theorem k0_off28_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h8 : k0_cond8 k0_t1 arg16_r0 = 1#1), ∀ a, (k0_off28 arg7_r0) a + S1x512x1024.size a ≤ S3x512x1024.size a := fun k0_t1 arg6_r0 arg7_r0 arg8_r0 arg9_r0 arg10_r0 arg11_r0 arg12_r0 arg13_r0 arg14_r0 arg15_r0 arg16_r0 k0_hw1 k0_h8 => k0_hw1.2.2.2.2.2.2.2.2.2.2.2.2.2.1 k0_h8
theorem k0_off29_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h8 : k0_cond8 k0_t1 arg16_r0 = 1#1), ∀ a, (k0_off29 arg16_r0) a + S512x1024.size a ≤ S32768x1024.size a := fun k0_t1 arg6_r0 arg7_r0 arg8_r0 arg9_r0 arg10_r0 arg11_r0 arg12_r0 arg13_r0 arg14_r0 arg15_r0 arg16_r0 k0_hw1 k0_h8 => k0_hw1.2.2.2.2.2.2.2.2.2.2.2.2.2.2.1 k0_h8
theorem k0_off30_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h9 : k0_cond9 k0_t1 arg16_r0 = 1#1), ∀ a, (k0_off30 arg9_r0) a + S1.size a ≤ S3.size a := fun k0_t1 arg6_r0 arg7_r0 arg8_r0 arg9_r0 arg10_r0 arg11_r0 arg12_r0 arg13_r0 arg14_r0 arg15_r0 arg16_r0 k0_hw1 k0_h9 => k0_hw1.2.2.2.2.2.2.2.2.2.2.2.2.2.2.2.1 k0_h9
theorem k0_off31_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h9 : k0_cond9 k0_t1 arg16_r0 = 1#1), ∀ a, (k0_off31 arg9_r0) a + S1x512x512.size a ≤ S3x512x512.size a := fun k0_t1 arg6_r0 arg7_r0 arg8_r0 arg9_r0 arg10_r0 arg11_r0 arg12_r0 arg13_r0 arg14_r0 arg15_r0 arg16_r0 k0_hw1 k0_h9 => k0_hw1.2.2.2.2.2.2.2.2.2.2.2.2.2.2.2.2.1 k0_h9
theorem k0_off32_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h9 : k0_cond9 k0_t1 arg16_r0 = 1#1), ∀ a, (k0_off32 arg16_r0) a + S512x512.size a ≤ S65536x512.size a := fun k0_t1 arg6_r0 arg7_r0 arg8_r0 arg9_r0 arg10_r0 arg11_r0 arg12_r0 arg13_r0 arg14_r0 arg15_r0 arg16_r0 k0_hw1 k0_h9 => k0_hw1.2.2.2.2.2.2.2.2.2.2.2.2.2.2.2.2.2.1 k0_h9
theorem k0_off33_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h10 : k0_cond10 k0_t1 arg16_r0 = 1#1), ∀ a, (k0_off33 arg11_r0) a + S1.size a ≤ S3.size a := fun k0_t1 arg6_r0 arg7_r0 arg8_r0 arg9_r0 arg10_r0 arg11_r0 arg12_r0 arg13_r0 arg14_r0 arg15_r0 arg16_r0 k0_hw1 k0_h10 => k0_hw1.2.2.2.2.2.2.2.2.2.2.2.2.2.2.2.2.2.2.1 k0_h10
theorem k0_off34_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h10 : k0_cond10 k0_t1 arg16_r0 = 1#1), ∀ a, (k0_off34 arg11_r0) a + S1x512x512.size a ≤ S3x512x512.size a := fun k0_t1 arg6_r0 arg7_r0 arg8_r0 arg9_r0 arg10_r0 arg11_r0 arg12_r0 arg13_r0 arg14_r0 arg15_r0 arg16_r0 k0_hw1 k0_h10 => k0_hw1.2.2.2.2.2.2.2.2.2.2.2.2.2.2.2.2.2.2.2.1 k0_h10
theorem k0_off35_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h10 : k0_cond10 k0_t1 arg16_r0 = 1#1), ∀ a, (k0_off35 arg16_r0) a + S512x512.size a ≤ S65536x512.size a := fun k0_t1 arg6_r0 arg7_r0 arg8_r0 arg9_r0 arg10_r0 arg11_r0 arg12_r0 arg13_r0 arg14_r0 arg15_r0 arg16_r0 k0_hw1 k0_h10 => k0_hw1.2.2.2.2.2.2.2.2.2.2.2.2.2.2.2.2.2.2.2.2.1 k0_h10
theorem k0_off36_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h11 : k0_cond11 k0_t1 arg16_r0 = 1#1), ∀ a, (k0_off36 arg13_r0) a + S1.size a ≤ S2.size a := fun k0_t1 arg6_r0 arg7_r0 arg8_r0 arg9_r0 arg10_r0 arg11_r0 arg12_r0 arg13_r0 arg14_r0 arg15_r0 arg16_r0 k0_hw1 k0_h11 => k0_hw1.2.2.2.2.2.2.2.2.2.2.2.2.2.2.2.2.2.2.2.2.2.1 k0_h11
theorem k0_off37_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h11 : k0_cond11 k0_t1 arg16_r0 = 1#1), ∀ a, (k0_off37 arg13_r0) a + S1x512x128.size a ≤ S2x512x128.size a := fun k0_t1 arg6_r0 arg7_r0 arg8_r0 arg9_r0 arg10_r0 arg11_r0 arg12_r0 arg13_r0 arg14_r0 arg15_r0 arg16_r0 k0_hw1 k0_h11 => k0_hw1.2.2.2.2.2.2.2.2.2.2.2.2.2.2.2.2.2.2.2.2.2.2.1 k0_h11
theorem k0_off38_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h11 : k0_cond11 k0_t1 arg16_r0 = 1#1), ∀ a, (k0_off38 arg16_r0) a + S512x128.size a ≤ S32768x128.size a := fun k0_t1 arg6_r0 arg7_r0 arg8_r0 arg9_r0 arg10_r0 arg11_r0 arg12_r0 arg13_r0 arg14_r0 arg15_r0 arg16_r0 k0_hw1 k0_h11 => k0_hw1.2.2.2.2.2.2.2.2.2.2.2.2.2.2.2.2.2.2.2.2.2.2.2.1 k0_h11
theorem k0_off44_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h17 : k0_cond17 k0_t1 arg16_r0 = 1#1), ∀ a, (k0_off44 arg14_r0) a + S1.size a ≤ S2.size a := fun k0_t1 arg6_r0 arg7_r0 arg8_r0 arg9_r0 arg10_r0 arg11_r0 arg12_r0 arg13_r0 arg14_r0 arg15_r0 arg16_r0 k0_hw1 k0_h17 => k0_hw1.2.2.2.2.2.2.2.2.2.2.2.2.2.2.2.2.2.2.2.2.2.2.2.2.1 k0_h17
theorem k0_off45_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h17 : k0_cond17 k0_t1 arg16_r0 = 1#1), ∀ a, (k0_off45 arg16_r0) a + S512x1024.size a ≤ S32768x1024.size a := fun k0_t1 arg6_r0 arg7_r0 arg8_r0 arg9_r0 arg10_r0 arg11_r0 arg12_r0 arg13_r0 arg14_r0 arg15_r0 arg16_r0 k0_hw1 k0_h17 => k0_hw1.2.2.2.2.2.2.2.2.2.2.2.2.2.2.2.2.2.2.2.2.2.2.2.2.2.1 k0_h17
theorem k0_off46_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h17 : k0_cond17 k0_t1 arg16_r0 = 1#1), ∀ a, (k0_off46 arg14_r0) a + S1x512x1024.size a ≤ S2x512x1024.size a := fun k0_t1 arg6_r0 arg7_r0 arg8_r0 arg9_r0 arg10_r0 arg11_r0 arg12_r0 arg13_r0 arg14_r0 arg15_r0 arg16_r0 k0_hw1 k0_h17 => k0_hw1.2.2.2.2.2.2.2.2.2.2.2.2.2.2.2.2.2.2.2.2.2.2.2.2.2.2.1 k0_h17
theorem k0_off47_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h22 : k0_cond22 k0_t1 arg16_r0 = 1#1), ∀ a, (k0_off47 arg15_r0) a + S1.size a ≤ S2.size a := fun k0_t1 arg6_r0 arg7_r0 arg8_r0 arg9_r0 arg10_r0 arg11_r0 arg12_r0 arg13_r0 arg14_r0 arg15_r0 arg16_r0 k0_hw1 k0_h22 => k0_hw1.2.2.2.2.2.2.2.2.2.2.2.2.2.2.2.2.2.2.2.2.2.2.2.2.2.2.2.1 k0_h22
theorem k0_off48_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h22 : k0_cond22 k0_t1 arg16_r0 = 1#1), ∀ a, (k0_off48 arg16_r0) a + S512x1024.size a ≤ S32768x1024.size a := fun k0_t1 arg6_r0 arg7_r0 arg8_r0 arg9_r0 arg10_r0 arg11_r0 arg12_r0 arg13_r0 arg14_r0 arg15_r0 arg16_r0 k0_hw1 k0_h22 => k0_hw1.2.2.2.2.2.2.2.2.2.2.2.2.2.2.2.2.2.2.2.2.2.2.2.2.2.2.2.2.1 k0_h22
theorem k0_off49_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg6_r0 arg7_r0 arg8_r0 arg9_r0 arg10_r0 arg11_r0 arg12_r0 arg13_r0 arg14_r0 arg15_r0 arg16_r0), ∀ (k0_h22 : k0_cond22 k0_t1 arg16_r0 = 1#1), ∀ a, (k0_off49 arg15_r0) a + S1x512x1024.size a ≤ S2x512x1024.size a := fun k0_t1 arg6_r0 arg7_r0 arg8_r0 arg9_r0 arg10_r0 arg11_r0 arg12_r0 arg13_r0 arg14_r0 arg15_r0 arg16_r0 k0_hw1 k0_h22 => k0_hw1.2.2.2.2.2.2.2.2.2.2.2.2.2.2.2.2.2.2.2.2.2.2.2.2.2.2.2.2.2 k0_h22

def k0_off50 (v74_9_r0 : BitVec 32) : Fin 1 → Nat :=
  let c2_i32_101_r0 : BitVec 32 := 2#32
  let v100_r0 : BitVec 32 := Scalar.remui v74_9_r0 c2_i32_101_r0
  ![v100_r0.toNat]

def k0_off51 (v74_10_r0 : BitVec 32) : Fin 2 → Nat :=
  let c512_i32_r0 : BitVec 32 := 512#32
  let true_77_r0 : BitVec 1 := 1#1
  let c1_i32_76_r0 : BitVec 32 := 1#32
  let v75_r0 : BitVec 32 := Scalar.subi v74_10_r0 c1_i32_76_r0
  let v76_r0 : BitVec 32 := Scalar.select true_77_r0 v75_r0 v74_10_r0
  let c_m1_i32_78_r0 : BitVec 32 := 4294967295#32
  let v77_r0 : BitVec 1 := Scalar.cmpi .eq v76_r0 c_m1_i32_78_r0
  let c63_i32_79_r0 : BitVec 32 := 63#32
  let v78_r0 : BitVec 32 := Scalar.select v77_r0 c63_i32_79_r0 v76_r0
  let c0_i32_80_r0 : BitVec 32 := 0#32
  let v79_r0 : BitVec 32 := Scalar.addi v78_r0 c0_i32_80_r0
  let v101_r0 : BitVec 32 := Scalar.muli c512_i32_r0 v79_r0
  let c0_i32_102_r0 : BitVec 32 := 0#32
  ![v101_r0.toNat, 0]

def k0_chk8 (v74_10_r0 : BitVec 32) : Prop :=
  (∀ a, (k0_off51 v74_10_r0) a + S512x1024.size a ≤ S32768x1024.size a)
theorem k0_off51_inb : ∀ (v74_10_r0 : BitVec 32) (k0_hw8 : k0_chk8 v74_10_r0), ∀ a, (k0_off51 v74_10_r0) a + S512x1024.size a ≤ S32768x1024.size a := fun v74_10_r0 k0_hw8 => k0_hw8

def k0_off52 (v74_9_r0 : BitVec 32) : Fin 3 → Nat :=
  let c2_i32_101_r0 : BitVec 32 := 2#32
  let v100_r0 : BitVec 32 := Scalar.remui v74_9_r0 c2_i32_101_r0
  let c0_i32_103_r0 : BitVec 32 := 0#32
  let c0_i32_104_r0 : BitVec 32 := 0#32
  ![v100_r0.toNat, 0, 0]

def k0_chk7 (v74_9_r0 : BitVec 32) : Prop :=
  (∀ a, (k0_off50 v74_9_r0) a + S1.size a ≤ S2.size a) ∧
  (∀ a, (k0_off52 v74_9_r0) a + S1x512x1024.size a ≤ S2x512x1024.size a)
theorem k0_off50_inb : ∀ (v74_9_r0 : BitVec 32) (k0_hw7 : k0_chk7 v74_9_r0), ∀ a, (k0_off50 v74_9_r0) a + S1.size a ≤ S2.size a := fun v74_9_r0 k0_hw7 => k0_hw7.1
theorem k0_off52_inb : ∀ (v74_9_r0 : BitVec 32) (k0_hw7 : k0_chk7 v74_9_r0), ∀ a, (k0_off52 v74_9_r0) a + S1x512x1024.size a ≤ S2x512x1024.size a := fun v74_9_r0 k0_hw7 => k0_hw7.2

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S65536x512 : Shape := ⟨2, ![65536, 512]⟩
abbrev S32768x128 : Shape := ⟨2, ![32768, 128]⟩
abbrev S1024 : Shape := ⟨1, ![1024]⟩
abbrev S2x32768x4x1x128 : Shape := ⟨5, ![2, 32768, 4, 1, 128]⟩
abbrev S_ : Shape := ⟨0, ![]⟩
abbrev S2x32768x4x2x128 : Shape := ⟨5, ![2, 32768, 4, 2, 128]⟩
abbrev S2x32768x1024 : Shape := ⟨3, ![2, 32768, 1024]⟩
abbrev S32768x1 : Shape := ⟨2, ![32768, 1]⟩
abbrev S1x32768x1024 : Shape := ⟨3, ![1, 32768, 1024]⟩
abbrev S32768 : Shape := ⟨1, ![32768]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S65536x512, .i32⟩
  | .hbm, ⟨2, _⟩ => ⟨S32768x128, .f32⟩
  | .hbm, ⟨3, _⟩ => ⟨S1024, .f32⟩
  | .hbm, ⟨4, _⟩ => ⟨S2x32768x4x1x128, .i32⟩
  | .hbm, ⟨5, _⟩ => ⟨S_, .i32⟩
  | .hbm, ⟨6, _⟩ => ⟨S2x32768x4x1x128, .i32⟩
  | .hbm, ⟨7, _⟩ => ⟨S2x32768x4x1x128, .i32⟩
  | .hbm, ⟨8, _⟩ => ⟨S_, .i32⟩
  | .hbm, ⟨9, _⟩ => ⟨S2x32768x4x1x128, .i32⟩
  | .hbm, ⟨10, _⟩ => ⟨S2x32768x4x1x128, .i32⟩
  | .hbm, ⟨11, _⟩ => ⟨S2x32768x4x2x128, .i32⟩
  | .hbm, ⟨12, _⟩ => ⟨S2x32768x4x2x128, .f32⟩
  | .hbm, ⟨13, _⟩ => ⟨S2x32768x1024, .f32⟩
  | .hbm, ⟨14, _⟩ => ⟨S32768x1, .f32⟩
  | .hbm, ⟨15, _⟩ => ⟨S1x32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1, .f32⟩
  | .hbm, ⟨20, _⟩ => ⟨S1x32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x512 : Shape := ⟨2, ![1, 512]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S256x256 : Shape := ⟨2, ![256, 256]⟩
abbrev S512x256 : Shape := ⟨2, ![512, 256]⟩
abbrev S512x1 : Shape := ⟨2, ![512, 1]⟩
abbrev S512x2816 : Shape := ⟨2, ![512, 2816]⟩

abbrev nBuf : Space → Nat
  | .hbm => 22
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x512, .bf16⟩
  | .hbm, ⟨4, _⟩ => ⟨S32768x512, .bf16⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024x1024, .bf16⟩
  | .hbm, ⟨13, _⟩ => ⟨S1x512, .f32⟩
  | .hbm, ⟨14, _⟩ => ⟨S1x512, .f32⟩
  | .hbm, ⟨15, _⟩ => ⟨S512x1024, .bf16⟩
  | .hbm, ⟨16, _⟩ => ⟨S512x1024, .bf16⟩
  | .hbm, ⟨17, _⟩ => ⟨S1x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1024x1024, .f32⟩
  | .local _ .vmem, ⟨19, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S32768x512 : Shape := ⟨2, ![32768, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x8x64 : Shape := ⟨3, ![32768, 8, 64]⟩
abbrev S_ : Shape := ⟨0, ![]⟩
abbrev S32768x8 : Shape := ⟨2, ![32768, 8]⟩
abbrev S32768x8x1 : Shape := ⟨3, ![32768, 8, 1]⟩
abbrev S8x64 : Shape := ⟨2, ![8, 64]⟩
abbrev S1x8x64 : Shape := ⟨3, ![1, 8, 64]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x512, .bf16⟩
  | .hbm, ⟨4, _⟩ => ⟨S32768x512, .bf16⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S32768x8x64, .f32⟩
  | .hbm, ⟨13, _⟩ => ⟨S_, .f32⟩
  | .hbm, ⟨14, _⟩ => ⟨S32768x8, .f32⟩
  | .hbm, ⟨15, _⟩ => ⟨S32768x8x1, .f32⟩
  | .hbm, ⟨16, _⟩ => ⟨S_, .f32⟩
  | .hbm, ⟨17, _⟩ => ⟨S32768x8x1, .f32⟩
  | .hbm, ⟨18, _⟩ => ⟨S32768x8x1, .f32⟩
  | .hbm, ⟨19, _⟩ => ⟨S32768x8x64, .f32⟩
  | .hbm, ⟨20, _⟩ => ⟨S32768x8x64, .f32⟩
  | .hbm, ⟨21, _⟩ => ⟨S32768x8x64, .f32⟩
  | .hbm, ⟨22, _⟩ => ⟨S_, .f32⟩
  | .hbm, ⟨23, _⟩ => ⟨S32768x8, .f32⟩
  | .hbm, ⟨24, _⟩ => ⟨S32768x8x1, .f32⟩
  | .hbm, ⟨25, _⟩ => ⟨S_, .f32⟩
  | .hbm, ⟨26, _⟩ => ⟨S32768x8x1, .f32⟩
  | .hbm, ⟨27, _⟩ => ⟨S32768x8x1, .f32⟩
  | .hbm, ⟨28, _⟩ => ⟨S_, .f32⟩
  | .hbm, ⟨29, _⟩ => ⟨S32768x8x1, .f32⟩
  | .hbm, ⟨30, _⟩ => ⟨S32768x8x1, .f32⟩
  | .hbm, ⟨31, _⟩ => ⟨S32768x8x1, .f32⟩
  | .hbm, ⟨32, _⟩ => ⟨S32768x8x64, .f32⟩
  | .hbm, ⟨33, _⟩ => ⟨S32768x8x64, .f32⟩
  | .hbm, ⟨34, _⟩ => ⟨S8x64, .f32⟩
  | .hbm, ⟨35, _⟩ => ⟨S1x8x64, .f32⟩
  | .hbm, ⟨36, _⟩ => ⟨S32768x8x64, .f32⟩
  | .hbm, ⟨37, _⟩ => ⟨S32768x8x64, .f32⟩
  | .hbm, ⟨38, _⟩ => ⟨S8x64, .f32⟩
  | .hbm, ⟨39, _⟩ => ⟨S1x8x64, .f32⟩
  | .hbm, ⟨40, _⟩ => ⟨S32768x8x64, .f32⟩
  | .hbm, ⟨41, _⟩ => ⟨S32768x8x64, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S1x1024, .f32⟩
  | .hbm, ⟨65, _⟩ => ⟨S32768x1024, .f32⟩
  | .hbm, ⟨66, _⟩ => ⟨S32768x1024, .f32⟩
  | .hbm, ⟨67, _⟩ => ⟨S32768x2816, .f32⟩
  | .hbm, ⟨68, _⟩ => ⟨S32768x2816, .f32⟩
  | .hbm, ⟨69, _⟩ => ⟨S32768x2816, .f32⟩
  | .hbm, ⟨70, _⟩ => ⟨S_, .f32⟩
  | .hbm, ⟨71, _⟩ => ⟨S32768x2816, .f32⟩
  | .hbm, ⟨72, _⟩ => ⟨S32768x2816, .f32⟩
  | .hbm, ⟨73, _⟩ => ⟨S_, .f32⟩
  | .hbm, ⟨74, _⟩ => ⟨S32768x2816, .f32⟩
  | .hbm, ⟨75, _⟩ => ⟨S32768x2816, .f32⟩
  | .hbm, ⟨76, _⟩ => ⟨S32768x2816, .f32⟩
  | .hbm, ⟨77, _⟩ => ⟨S32768x2816, .f32⟩
  | .hbm, ⟨78, _⟩ => ⟨S32768x2816, .f32⟩
  | .hbm, ⟨79, _⟩ => ⟨S32768x1024, .f32⟩
  | .hbm, ⟨80, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Kernel3.lean ====
abbrev S69632x512 : Shape := ⟨2, ![69632, 512]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩
abbrev S136x1 : Shape := ⟨2, ![136, 1]⟩
abbrev S69632x1024 : Shape := ⟨2, ![69632, 1024]⟩
abbrev S512x512 : Shape := ⟨2, ![512, 512]⟩
abbrev S1x1024x3584 : Shape := ⟨3, ![1, 1024, 3584]⟩
abbrev S1x3584x1024 : Shape := ⟨3, ![1, 3584, 1024]⟩
abbrev S512x1024 : Shape := ⟨2, ![512, 1024]⟩
abbrev S512x128 : Shape := ⟨2, ![512, 128]⟩
abbrev S1024x3584 : Shape := ⟨2, ![1024, 3584]⟩
abbrev S512x3584 : Shape := ⟨2, ![512, 3584]⟩
abbrev S3584x1024 : Shape := ⟨2, ![3584, 1024]⟩

abbrev nBuf : Space → Nat
  | .hbm => 23
  | .vmem => 10
  | .smem => 2
  | _ => 0

abbrev bufTy : (tb : Table) → Fin (tcTables nBuf tb) → BufTy
  | .hbm, ⟨0, _⟩ => ⟨S69632x512, .i32⟩
  | .hbm, ⟨1, _⟩ => ⟨S136, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S136, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S136, .i32⟩
  | .hbm, ⟨10, _⟩ => ⟨S136, .i32⟩
  | .hbm, ⟨11, _⟩ => ⟨S_, .i32⟩
  | .hbm, ⟨12, _⟩ => ⟨S136, .i32⟩
  | .hbm, ⟨13, _⟩ => ⟨S136, .i1⟩
  | .hbm, ⟨14, _⟩ => ⟨S_, .i32⟩
  | .hbm, ⟨15, _⟩ => ⟨S136, .i32⟩
  | .hbm, ⟨16, _⟩ => ⟨S136, .i32⟩
  | .hbm, ⟨17, _⟩ => ⟨S136, .i32⟩
  | .hbm, ⟨18, _⟩ => ⟨S136x1, .i32⟩
  | .hbm, ⟨19, _⟩ => ⟨S8x1024x3584, .bf16⟩
  | .hbm, ⟨20, _⟩ => ⟨S8x1024x3584, .bf16⟩
  | .hbm, ⟨21, _⟩ => ⟨S8x3584x1024, .bf16⟩
  | .hbm, ⟨22, _⟩ => ⟨S69632x1024, .bf16⟩
  | .local _ .vmem, ⟨0, _⟩ => ⟨S512x512, .i32⟩
  | .local _ .vmem, ⟨1, _⟩ => ⟨S512x512, .i32⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S512x1024, .bf16⟩
  | .local _ .vmem, ⟨9, _⟩ => ⟨S512x1024, .bf16⟩
  | .local _ .smem, ⟨0, _⟩ => ⟨S136, .i32⟩
  | .local _ .smem, ⟨1, _⟩ => ⟨S1, .i32⟩
  | _, _ => ⟨S69632x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v11 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_v11.idx, main_arg2.idx], fun | 0 => main_v11.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S69632x512 : Shape := ⟨2, ![69632, 512]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S136x512x4x1x128 : Shape := ⟨5, ![136, 512, 4, 1, 128]⟩
abbrev S_ : Shape := ⟨0, ![]⟩
abbrev S136x512x4x2x128 : Shape := ⟨5, ![136, 512, 4, 2, 128]⟩
abbrev S136x512x1024 : Shape := ⟨3, ![136, 512, 1024]⟩
abbrev S136x1 : Shape := ⟨2, ![136, 1]⟩
abbrev S136x1024x3584 : Shape := ⟨3, ![136, 1024, 3584]⟩
abbrev S136x512x3584 : Shape := ⟨3, ![136, 512, 3584]⟩
abbrev S136x3584x1024 : Shape := ⟨3, ![136, 3584, 1024]⟩
abbrev S136x1x1 : Shape := ⟨3, ![136, 1, 1]⟩
abbrev S69632x1024 : Shape := ⟨2, ![69632, 1024]⟩

abbrev nBuf : Space → Nat
  | .hbm => 67
  | .vmem => 0
  | .smem => 0
  | _ => 0

abbrev bufTy : (tb : Table) → Fin (tcTables nBuf tb) → BufTy
  | .hbm, ⟨0, _⟩ => ⟨S69632x512, .i32⟩
  | .hbm, ⟨1, _⟩ => ⟨S136, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S136x512x4x1x128, .i32⟩
  | .hbm, ⟨7, _⟩ => ⟨S_, .i32⟩
  | .hbm, ⟨8, _⟩ => ⟨S136x512x4x1x128, .i32⟩
  | .hbm, ⟨9, _⟩ => ⟨S136x512x4x1x128, .i32⟩
  | .hbm, ⟨10, _⟩ => ⟨S_, .i32⟩
  | .hbm, ⟨11, _⟩ => ⟨S136x512x4x1x128, .i32⟩
  | .hbm, ⟨12, _⟩ => ⟨S136x512x4x1x128, .i32⟩
  | .hbm, ⟨13, _⟩ => ⟨S136x512x4x2x128, .i32⟩
  | .hbm, ⟨14, _⟩ => ⟨S136x512x4x2x128, .f32⟩
  | .hbm, ⟨15, _⟩ => ⟨S136x512x1024, .f32⟩
  | .hbm, ⟨16, _⟩ => ⟨S_, .i32⟩
  | .hbm, ⟨17, _⟩ => ⟨S136, .i32⟩
  | .hbm, ⟨18, _⟩ => ⟨S136, .i1⟩
  | .hbm, ⟨19, _⟩ => ⟨S_, .i32⟩
  | .hbm, ⟨20, _⟩ => ⟨S136, .i32⟩
  | .hbm, ⟨21, _⟩ => ⟨S136, .i32⟩
  | .hbm, ⟨22, _⟩ => ⟨S136, .i32⟩
  | .hbm, ⟨23, _⟩ => ⟨S136x1, .i32⟩
  | .hbm, ⟨24, _⟩ => ⟨S136x1024x3584, .f32⟩
  | .hbm, ⟨25, _⟩ => ⟨S136x512x3584, .f32⟩
  | .hbm, ⟨26, _⟩ => ⟨S136x512x3584, .f32⟩
  | .hbm, ⟨27, _⟩ => ⟨S136x512x3584, .f32⟩
  | .hbm, ⟨28, _⟩ => ⟨S_, .f32⟩
  | .hbm, ⟨29, _⟩ => ⟨S136x512x3584, .f32⟩
  | .hbm, ⟨30, _⟩ => ⟨S136x512x3584, .f32⟩
  | .hbm, ⟨31, _⟩ => ⟨S_, .f32⟩
  | .hbm, ⟨32, _⟩ => ⟨S136x512x3584, .f32⟩
  | .hbm, ⟨33, _⟩ => ⟨S136x512x3584, .f32⟩
  | .hbm, ⟨34, _⟩ => ⟨S136x512x3584, .f32⟩
  | .hbm, ⟨35, _⟩ => ⟨S_, .i32⟩
  | .hbm, ⟨36, _⟩ => ⟨S136, .i32⟩
  | .hbm, ⟨37, _⟩ => ⟨S136, .i1⟩
  | .hbm, ⟨38, _⟩ => ⟨S_, .i32⟩
  | .hbm, ⟨39, _⟩ => ⟨S136, .i32⟩
  | .hbm, ⟨40, _⟩ => ⟨S136, .i32⟩
  | .hbm, ⟨41, _⟩ => ⟨S136, .i32⟩
  | .hbm, ⟨42, _⟩ => ⟨S136x1, .i32⟩
  | .hbm, ⟨43, _⟩ => ⟨S136x1024x3584, .f32⟩
  | .hbm, ⟨44, _⟩ => ⟨S136x512x3584, .f32⟩
  | .hbm, ⟨45, _⟩ => ⟨S136x512x3584, .f32⟩
  | .hbm, ⟨46, _⟩ => ⟨S_, .i32⟩
  | .hbm, ⟨47, _⟩ => ⟨S136, .i32⟩
  | .hbm, ⟨48, _⟩ => ⟨S136, .i1⟩
  | .hbm, ⟨49, _⟩ => ⟨S_, .i32⟩
  | .hbm, ⟨50, _⟩ => ⟨S136, .i32⟩
  | .hbm, ⟨51, _⟩ => ⟨S136, .i32⟩
  | .hbm, ⟨52, _⟩ => ⟨S136, .i32⟩
  | .hbm, ⟨53, _⟩ => ⟨S136x1, .i32⟩
  | .hbm, ⟨54, _⟩ => ⟨S136x3584x1024, .f32⟩
  | .hbm, ⟨55, _⟩ => ⟨S136x512x1024, .f32⟩
  | .hbm, ⟨56, _⟩ => ⟨S136, .i32⟩
  | .hbm, ⟨57, _⟩ => ⟨S136, .i32⟩
  | .hbm, ⟨58, _⟩ => ⟨S136, .i1⟩
  | .hbm, ⟨59, _⟩ => ⟨S136x1x1, .i1⟩
  | .hbm, ⟨60, _⟩ => ⟨S_, .f32⟩
  | .hbm, ⟨61, _⟩ => ⟨S_, .f32⟩
  | .hbm, ⟨62, _⟩ => ⟨S136x512x1024, .i1⟩
  | .hbm, ⟨63, _⟩ => ⟨S136x512x1024, .f32⟩
  | .hbm, ⟨64, _⟩ => ⟨S136x512x1024, .f32⟩
  | .hbm, ⟨65, _⟩ => ⟨S69632x1024, .f32⟩
  | .hbm, ⟨66, _⟩ => ⟨S69632x1024, .bf16⟩
  | _, _ => ⟨S69632x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Proof.Names.lean ====
/-
  The combine kernel's names: the slots, semaphores and row blocks its pipeline streams, and the words its loop carries.

  The kernel streams four inputs (the residual, the first and the second expert row of every token, the routing
  metadata) and one output through VMEM slots, 64 blocks of 512 rows each. A slot, a semaphore and a block each get ONE
  name here, indexed by its number; the printed slices are those names (`@[sl_canon]`), their offsets being computed
  from words the loop carries, whose values at trip `k` are the five counters of § Words.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring.Trips
public import Idealize.ShloMosaic.Lib.Tactic

@[expose] public section

noncomputable section

namespace Cert.Proof.Combine

open Cert.KernelIdeal Cert.KernelIdeal.Gen
open Idealize.ShloMosaic
open Idealize.ShloMosaic.TcCoe Idealize.ShloMosaic.Tactic

/-! ## Offsets by number -/

/-- The cell of slot `s`. -/
abbrev semOff {n : ℕ} (s : Fin n) : Fin 1 → ℕ := ![s.val]
/-- Slot `s` of a buffer of slots. -/
abbrev slotOff {n : ℕ} (s : Fin n) : Fin 3 → ℕ := ![s.val, 0, 0]
/-- Block `b`, 512 rows, of an array of rows, counted from row `r`. -/
abbrev rowOff (r : ℕ) (b : Fin 64) : Fin 2 → ℕ := ![r + 512 * b.val, 0]

/-- A slot's cell lies among the cells, a slot in its buffer, a block in its array. -/
theorem sem3_inb (s : Fin 3) : ∀ a, semOff s a + S1.size a ≤ S3.size a := by revert s; decide
theorem sem2_inb (s : Fin 2) : ∀ a, semOff s a + S1.size a ≤ S2.size a := by revert s; decide
theorem xslot_inb (s : Fin 3) : ∀ a, slotOff s a + S1x512x1024.size a ≤ S3x512x1024.size a := by revert s; decide
theorem yslot_inb (s : Fin 3) : ∀ a, slotOff s a + S1x512x512.size a ≤ S3x512x512.size a := by revert s; decide
theorem mslot_inb (s : Fin 2) : ∀ a, slotOff s a + S1x512x128.size a ≤ S2x512x128.size a := by revert s; decide
theorem oslot_inb (s : Fin 2) : ∀ a, slotOff s a + S1x512x1024.size a ≤ S2x512x1024.size a := by revert s; decide
theorem xrow_inb (b : Fin 64) : ∀ a, rowOff 0 b a + S512x1024.size a ≤ S32768x1024.size a := by revert b; decide
theorem y1row_inb (b : Fin 64) : ∀ a, rowOff 0 b a + S512x512.size a ≤ S65536x512.size a := by revert b; decide
theorem y2row_inb (b : Fin 64) : ∀ a, rowOff 32768 b a + S512x512.size a ≤ S65536x512.size a := by revert b; decide
theorem mrow_inb (b : Fin 64) : ∀ a, rowOff 0 b a + S512x128.size a ≤ S32768x128.size a := by revert b; decide

/-! ## The arrays and the buffers -/

/-- The residual, the packed expert rows, the routing metadata, the result. -/
abbrev xM : Memref sig .tc .hbm S32768x1024 .f32 := Memref.whole main_arg0
abbrev yM : Memref sig .tc .hbm S65536x512 .i32 := Memref.whole main_arg1
abbrev mM : Memref sig .tc .hbm S32768x128 .f32 := Memref.whole main_arg2
abbrev oM : Memref sig .tc .hbm S32768x1024 .f32 := Memref.whole main_v1
/-- Their slots, three for the residual's blocks and each expert's, two for the metadata's and the result's. -/
abbrev xBuf : Memref sig .tc .vmem S3x512x1024 .f32 := Memref.whole cc0_scoped0
abbrev y1Buf : Memref sig .tc .vmem S3x512x512 .i32 := Memref.whole cc0_scoped2
abbrev y2Buf : Memref sig .tc .vmem S3x512x512 .i32 := Memref.whole cc0_scoped4
abbrev mBuf : Memref sig .tc .vmem S2x512x128 .f32 := Memref.whole cc0_scoped6
abbrev oBuf : Memref sig .tc .vmem S2x512x1024 .f32 := Memref.whole cc0_scoped8

/-- The semaphore of slot `s` of an array of three, and of two. -/
abbrev cell3 (A : DmaSems sig S3) (s : Fin 3) : DmaSems sig S_ := (A.slice (Rect.unit (s := S3) (semOff s) S1.size (sem3_inb s))).squeeze S_ squeezes_S1_S_
abbrev cell2 (A : DmaSems sig S2) (s : Fin 2) : DmaSems sig S_ := (A.slice (Rect.unit (s := S2) (semOff s) S1.size (sem2_inb s))).squeeze S_ squeezes_S1_S_

/-- The residual's slot `s`, its semaphore, and block `b` of the residual. -/
def xS (s : Fin 3) : Memref sig .tc .vmem S512x1024 .f32 :=
  (xBuf.slice (Rect.unit (s := S3x512x1024) (slotOff s) S1x512x1024.size (xslot_inb s)) (fun _ => rfl)).squeeze S512x1024 squeezes_S1x512x1024_S512x1024
def xC (s : Fin 3) : DmaSems sig S_ := cell3 cc0_scoped1 s
def xB (b : Fin 64) : Memref sig .tc .hbm S512x1024 .f32 := xM.slice (Rect.unit (s := S32768x1024) (rowOff 0 b) S512x1024.size (xrow_inb b)) (fun _ => rfl)
/-- The first expert rows': block `b` of the packed rows' first half. -/
def y1S (s : Fin 3) : Memref sig .tc .vmem S512x512 .i32 :=
  (y1Buf.slice (Rect.unit (s := S3x512x512) (slotOff s) S1x512x512.size (yslot_inb s)) (fun _ => rfl)).squeeze S512x512 squeezes_S1x512x512_S512x512
def y1C (s : Fin 3) : DmaSems sig S_ := cell3 cc0_scoped3 s
def y1B (b : Fin 64) : Memref sig .tc .hbm S512x512 .i32 := yM.slice (Rect.unit (s := S65536x512) (rowOff 0 b) S512x512.size (y1row_inb b)) (fun _ => rfl)
/-- The second expert rows': block `b` of the packed rows' second half. -/
def y2S (s : Fin 3) : Memref sig .tc .vmem S512x512 .i32 :=
  (y2Buf.slice (Rect.unit (s := S3x512x512) (slotOff s) S1x512x512.size (yslot_inb s)) (fun _ => rfl)).squeeze S512x512 squeezes_S1x512x512_S512x512
def y2C (s : Fin 3) : DmaSems sig S_ := cell3 cc0_scoped5 s
def y2B (b : Fin 64) : Memref sig .tc .hbm S512x512 .i32 := yM.slice (Rect.unit (s := S65536x512) (rowOff 32768 b) S512x512.size (y2row_inb b)) (fun _ => rfl)
/-- The metadata's. -/
def mS (s : Fin 2) : Memref sig .tc .vmem S512x128 .f32 :=
  (mBuf.slice (Rect.unit (s := S2x512x128) (slotOff s) S1x512x128.size (mslot_inb s)) (fun _ => rfl)).squeeze S512x128 squeezes_S1x512x128_S512x128
def mC (s : Fin 2) : DmaSems sig S_ := cell2 cc0_scoped7 s
def mB (b : Fin 64) : Memref sig .tc .hbm S512x128 .f32 := mM.slice (Rect.unit (s := S32768x128) (rowOff 0 b) S512x128.size (mrow_inb b)) (fun _ => rfl)
/-- The result's. -/
def oS (s : Fin 2) : Memref sig .tc .vmem S512x1024 .f32 :=
  (oBuf.slice (Rect.unit (s := S2x512x1024) (slotOff s) S1x512x1024.size (oslot_inb s)) (fun _ => rfl)).squeeze S512x1024 squeezes_S1x512x1024_S512x1024
def oC (s : Fin 2) : DmaSems sig S_ := cell2 cc0_scoped9 s
def oB (b : Fin 64) : Memref sig .tc .hbm S512x1024 .f32 := oM.slice (Rect.unit (s := S32768x1024) (rowOff 0 b) S512x1024.size (xrow_inb b)) (fun _ => rfl)

instance {n : ℕ} (s : Fin n) : ClosedOff (slotOff s) := ⟨slotOff s, rfl⟩
instance (r : ℕ) (b : Fin 64) : ClosedOff (rowOff r b) := ⟨rowOff r b, rfl⟩

/-! ## Words: what the loop carries before trip `k`

Fetches run two blocks ahead for the residual and the expert rows and one ahead for the metadata, and stop at the last
block; waits run with the trip; the result's copies are waited a trip later; the block number wraps at the last trip. -/

/-- Blocks fetched so far, two ahead; -/
def cA (k : ℕ) : BitVec 32 := BitVec.ofNat 32 (min (k + 2) 64)
/-- one ahead; -/
def cB (k : ℕ) : BitVec 32 := BitVec.ofNat 32 (min (k + 1) 64)
/-- blocks waited, and copies of the result started; -/
def cK (k : ℕ) : BitVec 32 := BitVec.ofNat 32 k
/-- copies of the result waited; -/
def cD (k : ℕ) : BitVec 32 := BitVec.ofNat 32 (k - 1)
/-- the block the trip works on. -/
def cI (k : ℕ) : BitVec 32 := BitVec.ofNat 32 (k % 64)

/-- The loop runs 64 trips. -/
theorem trips_eq : k0_t1_loop.trips = 64 := by decide

/-! ### Which of a trip's guards hold -/

theorem cond4_pos (k : Fin k0_t1_loop.trips) : k.val + 2 < 64 → k0_cond4 k (cI k.val) = 1#1 := by revert k; decide +kernel
theorem cond5_pos (k : Fin k0_t1_loop.trips) : k.val + 2 < 64 → k0_cond5 k (cI k.val) = 1#1 := by revert k; decide +kernel
theorem cond6_pos (k : Fin k0_t1_loop.trips) : k.val + 2 < 64 → k0_cond6 k (cI k.val) = 1#1 := by revert k; decide +kernel
theorem cond7_pos (k : Fin k0_t1_loop.trips) : k.val + 1 < 64 → k0_cond7 k (cI k.val) = 1#1 := by revert k; decide +kernel
theorem cond4_neg (k : Fin k0_t1_loop.trips) : 62 ≤ k.val → ¬ k0_cond4 k (cI k.val) = 1#1 := by revert k; decide +kernel
theorem cond5_neg (k : Fin k0_t1_loop.trips) : 62 ≤ k.val → ¬ k0_cond5 k (cI k.val) = 1#1 := by revert k; decide +kernel
theorem cond6_neg (k : Fin k0_t1_loop.trips) : 62 ≤ k.val → ¬ k0_cond6 k (cI k.val) = 1#1 := by revert k; decide +kernel
theorem cond7_neg (k : Fin k0_t1_loop.trips) : 63 ≤ k.val → ¬ k0_cond7 k (cI k.val) = 1#1 := by revert k; decide +kernel
theorem cond8_pos (k : Fin k0_t1_loop.trips) : k0_cond8 k (cI k.val) = 1#1 := by revert k; decide +kernel
theorem cond9_pos (k : Fin k0_t1_loop.trips) : k0_cond9 k (cI k.val) = 1#1 := by revert k; decide +kernel
theorem cond10_pos (k : Fin k0_t1_loop.trips) : k0_cond10 k (cI k.val) = 1#1 := by revert k; decide +kernel
theorem cond11_pos (k : Fin k0_t1_loop.trips) : k0_cond11 k (cI k.val) = 1#1 := by revert k; decide +kernel
theorem cond17_pos (k : Fin k0_t1_loop.trips) : k0_cond17 k (cI k.val) = 1#1 := by revert k; decide +kernel
theorem cond22_pos (k : Fin k0_t1_loop.trips) : 1 ≤ k.val → k0_cond22 k (cI k.val) = 1#1 := by revert k; decide +kernel
theorem cond22_neg (k : Fin k0_t1_loop.trips) : k.val = 0 → ¬ k0_cond22 k (cI k.val) = 1#1 := by revert k; decide +kernel

/-! ### The checks a trip assumes -/

theorem chk1_trip (k : Fin k0_t1_loop.trips) :
    k0_chk1 k (cA k.val) (cK k.val) (cA k.val) (cK k.val) (cA k.val) (cK k.val) (cB k.val) (cK k.val) (cK k.val) (cD k.val) (cI k.val) := by
  revert k; decide +kernel
theorem chk2_trip (k : Fin k0_t1_loop.trips) : k0_chk2 (cK k.val) := by revert k; decide +kernel
theorem chk3_trip (k : Fin k0_t1_loop.trips) : k0_chk3 (cK k.val) := by revert k; decide +kernel
theorem chk4_trip (k : Fin k0_t1_loop.trips) : k0_chk4 (cK k.val) := by revert k; decide +kernel
theorem chk5_trip (k : Fin k0_t1_loop.trips) : k0_chk5 (cK k.val) := by revert k; decide +kernel
theorem chk6_trip (k : Fin k0_t1_loop.trips) : k0_chk6 (cK k.val) := by revert k; decide +kernel
theorem chk7_exit : k0_chk7 (cD k0_t1_loop.trips) := by decide +kernel
theorem chk8_exit : k0_chk8 (cI k0_t1_loop.trips) := by decide +kernel

/-! ### The offsets a trip computes, by number -/

section Offsets
variable (k : Fin k0_t1_loop.trips)

theorem off15_eq : k.val + 2 < 64 → k0_off15 (cA k.val) = semOff (Ring.sl 3 (k.val + 2)) := by revert k; decide +kernel
theorem off16_eq : k.val + 2 < 64 → k0_off16 (cA k.val) = slotOff (Ring.sl 3 (k.val + 2)) := by revert k; decide +kernel
theorem off17_eq : k.val + 2 < 64 → k0_off17 (cI k.val) = rowOff 0 (Ring.bk 64 (k.val + 2)) := by revert k; decide +kernel
theorem off18_eq : k.val + 2 < 64 → k0_off18 (cA k.val) = semOff (Ring.sl 3 (k.val + 2)) := by revert k; decide +kernel
theorem off19_eq : k.val + 2 < 64 → k0_off19 (cA k.val) = slotOff (Ring.sl 3 (k.val + 2)) := by revert k; decide +kernel
theorem off20_eq : k.val + 2 < 64 → k0_off20 (cI k.val) = rowOff 0 (Ring.bk 64 (k.val + 2)) := by revert k; decide +kernel
theorem off21_eq : k.val + 2 < 64 → k0_off21 (cA k.val) = semOff (Ring.sl 3 (k.val + 2)) := by revert k; decide +kernel
theorem off22_eq : k.val + 2 < 64 → k0_off22 (cA k.val) = slotOff (Ring.sl 3 (k.val + 2)) := by revert k; decide +kernel
theorem off23_eq : k.val + 2 < 64 → k0_off23 (cI k.val) = rowOff 32768 (Ring.bk 64 (k.val + 2)) := by revert k; decide +kernel
theorem off24_eq : k.val + 1 < 64 → k0_off24 (cB k.val) = semOff (Ring.sl 2 (k.val + 1)) := by revert k; decide +kernel
theorem off25_eq : k.val + 1 < 64 → k0_off25 (cB k.val) = slotOff (Ring.sl 2 (k.val + 1)) := by revert k; decide +kernel
theorem off26_eq : k.val + 1 < 64 → k0_off26 (cI k.val) = rowOff 0 (Ring.bk 64 (k.val + 1)) := by revert k; decide +kernel
theorem off27_eq : k0_off27 (cK k.val) = semOff (Ring.sl 3 k.val) := by revert k; decide +kernel
theorem off28_eq : k0_off28 (cK k.val) = slotOff (Ring.sl 3 k.val) := by revert k; decide +kernel
theorem off29_eq : k0_off29 (cI k.val) = rowOff 0 (Ring.bk 64 k.val) := by revert k; decide +kernel
theorem off30_eq : k0_off30 (cK k.val) = semOff (Ring.sl 3 k.val) := by revert k; decide +kernel
theorem off31_eq : k0_off31 (cK k.val) = slotOff (Ring.sl 3 k.val) := by revert k; decide +kernel
theorem off32_eq : k0_off32 (cI k.val) = rowOff 0 (Ring.bk 64 k.val) := by revert k; decide +kernel
theorem off33_eq : k0_off33 (cK k.val) = semOff (Ring.sl 3 k.val) := by revert k; decide +kernel
theorem off34_eq : k0_off34 (cK k.val) = slotOff (Ring.sl 3 k.val) := by revert k; decide +kernel
theorem off35_eq : k0_off35 (cI k.val) = rowOff 32768 (Ring.bk 64 k.val) := by revert k; decide +kernel
theorem off36_eq : k0_off36 (cK k.val) = semOff (Ring.sl 2 k.val) := by revert k; decide +kernel
theorem off37_eq : k0_off37 (cK k.val) = slotOff (Ring.sl 2 k.val) := by revert k; decide +kernel
theorem off38_eq : k0_off38 (cI k.val) = rowOff 0 (Ring.bk 64 k.val) := by revert k; decide +kernel
theorem off39_eq : k0_off39 (cK k.val) = slotOff (Ring.sl 2 k.val) := by revert k; decide +kernel
theorem off40_eq : k0_off40 (cK k.val) = slotOff (Ring.sl 3 k.val) := by revert k; decide +kernel
theorem off41_eq : k0_off41 (cK k.val) = slotOff (Ring.sl 3 k.val) := by revert k; decide +kernel
theorem off42_eq : k0_off42 (cK k.val) = slotOff (Ring.sl 3 k.val) := by revert k; decide +kernel
theorem off43_eq : k0_off43 (cK k.val) = slotOff (Ring.sl 2 k.val) := by revert k; decide +kernel
theorem off44_eq : k0_off44 (cK k.val) = semOff (Ring.sl 2 k.val) := by revert k; decide +kernel
theorem off45_eq : k0_off45 (cI k.val) = rowOff 0 (Ring.bk 64 k.val) := by revert k; decide +kernel
theorem off46_eq : k0_off46 (cK k.val) = slotOff (Ring.sl 2 k.val) := by revert k; decide +kernel
theorem off47_eq : 1 ≤ k.val → k0_off47 (cD k.val) = semOff (Ring.sl 2 (k.val + 1)) := by revert k; decide +kernel
theorem off48_eq : 1 ≤ k.val → k0_off48 (cI k.val) = rowOff 0 (Ring.bk 64 (k.val - 1)) := by revert k; decide +kernel
theorem off49_eq : 1 ≤ k.val → k0_off49 (cD k.val) = slotOff (Ring.sl 2 (k.val + 1)) := by revert k; decide +kernel

instance : ClosedOff (k0_off28 (cK k.val)) := ⟨_, off28_eq k⟩
instance : ClosedOff (k0_off31 (cK k.val)) := ⟨_, off31_eq k⟩
instance : ClosedOff (k0_off34 (cK k.val)) := ⟨_, off34_eq k⟩
instance : ClosedOff (k0_off37 (cK k.val)) := ⟨_, off37_eq k⟩
instance : ClosedOff (k0_off39 (cK k.val)) := ⟨_, off39_eq k⟩
instance : ClosedOff (k0_off40 (cK k.val)) := ⟨_, off40_eq k⟩
instance : ClosedOff (k0_off41 (cK k.val)) := ⟨_, off41_eq k⟩
instance : ClosedOff (k0_off42 (cK k.val)) := ⟨_, off42_eq k⟩
instance : ClosedOff (k0_off43 (cK k.val)) := ⟨_, off43_eq k⟩
instance : ClosedOff (k0_off46 (cK k.val)) := ⟨_, off46_eq k⟩

end Offsets

/-! ## The printed slices are the names -/

theorem cell3_congr (A : DmaSems sig S3) {off : Fin 1 → ℕ} {s : Fin 3} (e : off = semOff s) (hh) :
    (A.slice (Rect.unit (s := S3) off S1.size hh)).squeeze S_ squeezes_S1_S_ = cell3 A s :=
  congrArg (fun B : DmaSems sig S1 => B.squeeze S_ squeezes_S1_S_) (SemArray.slice_unit_congr _ e _ _)
theorem cell2_congr (A : DmaSems sig S2) {off : Fin 1 → ℕ} {s : Fin 2} (e : off = semOff s) (hh) :
    (A.slice (Rect.unit (s := S2) off S1.size hh)).squeeze S_ squeezes_S1_S_ = cell2 A s :=
  congrArg (fun B : DmaSems sig S1 => B.squeeze S_ squeezes_S1_S_) (SemArray.slice_unit_congr _ e _ _)
theorem xS_congr {off : Fin 3 → ℕ} {s : Fin 3} (e : off = slotOff s) (hh hs) :
    (xBuf.slice (Rect.unit (s := S3x512x1024) off S1x512x1024.size hh) hs).squeeze S512x1024 squeezes_S1x512x1024_S512x1024 = xS s :=
  congrArg (fun M : Memref sig .tc .vmem S1x512x1024 .f32 => M.squeeze S512x1024 squeezes_S1x512x1024_S512x1024) (Memref.slice_unit_congr _ e _ _ _ _)
theorem y1S_congr {off : Fin 3 → ℕ} {s : Fin 3} (e : off = slotOff s) (hh hs) :
    (y1Buf.slice (Rect.unit (s := S3x512x512) off S1x512x512.size hh) hs).squeeze S512x512 squeezes_S1x512x512_S512x512 = y1S s :=
  congrArg (fun M : Memref sig .tc .vmem S1x512x512 .i32 => M.squeeze S512x512 squeezes_S1x512x512_S512x512) (Memref.slice_unit_congr _ e _ _ _ _)
theorem y2S_congr {off : Fin 3 → ℕ} {s : Fin 3} (e : off = slotOff s) (hh hs) :
    (y2Buf.slice (Rect.unit (s := S3x512x512) off S1x512x512.size hh) hs).squeeze S512x512 squeezes_S1x512x512_S512x512 = y2S s :=
  congrArg (fun M : Memref sig .tc .vmem S1x512x512 .i32 => M.squeeze S512x512 squeezes_S1x512x512_S512x512) (Memref.slice_unit_congr _ e _ _ _ _)
theorem mS_congr {off : Fin 3 → ℕ} {s : Fin 2} (e : off = slotOff s) (hh hs) :
    (mBuf.slice (Rect.unit (s := S2x512x128) off S1x512x128.size hh) hs).squeeze S512x128 squeezes_S1x512x128_S512x128 = mS s :=
  congrArg (fun M : Memref sig .tc .vmem S1x512x128 .f32 => M.squeeze S512x128 squeezes_S1x512x128_S512x128) (Memref.slice_unit_congr _ e _ _ _ _)
theorem oS_congr {off : Fin 3 → ℕ} {s : Fin 2} (e : off = slotOff s) (hh hs) :
    (oBuf.slice (Rect.unit (s := S2x512x1024) off S1x512x1024.size hh) hs).squeeze S512x1024 squeezes_S1x512x1024_S512x1024 = oS s :=
  congrArg (fun M : Memref sig .tc .vmem S1x512x1024 .f32 => M.squeeze S512x1024 squeezes_S1x512x1024_S512x1024) (Memref.slice_unit_congr _ e _ _ _ _)
theorem xB_congr {off : Fin 2 → ℕ} {b : Fin 64} (e : off = rowOff 0 b) (hh hs) : xM.slice (Rect.unit (s := S32768x1024) off S512x1024.size hh) hs = xB b := Memref.slice_unit_congr _ e _ _ _ (fun _ => rfl)
theorem y1B_congr {off : Fin 2 → ℕ} {b : Fin 64} (e : off = rowOff 0 b) (hh hs) : yM.slice (Rect.unit (s := S65536x512) off S512x512.size hh) hs = y1B b := Memref.slice_unit_congr _ e _ _ _ (fun _ => rfl)
theorem y2B_congr {off : Fin 2 → ℕ} {b : Fin 64} (e : off = rowOff 32768 b) (hh hs) : yM.slice (Rect.unit (s := S65536x512) off S512x512.size hh) hs = y2B b := Memref.slice_unit_congr _ e _ _ _ (fun _ => rfl)
theorem mB_congr {off : Fin 2 → ℕ} {b : Fin 64} (e : off = rowOff 0 b) (hh hs) : mM.slice (Rect.unit (s := S32768x128) off S512x128.size hh) hs = mB b := Memref.slice_unit_congr _ e _ _ _ (fun _ => rfl)
theorem oB_congr {off : Fin 2 → ℕ} {b : Fin 64} (e : off = rowOff 0 b) (hh hs) : oM.slice (Rect.unit (s := S32768x1024) off S512x1024.size hh) hs = oB b := Memref.slice_unit_congr _ e _ _ _ (fun _ => rfl)

section Canon
variable (k : Fin k0_t1_loop.trips)

/-! ### A trip's fetches, while there is a block to fetch -/

@[sl_canon] theorem xC_fetch (h : k.val + 2 < 64) (hh) : (cc0_scoped1.slice (Rect.unit (s := S3) (k0_off15 (cA k.val)) S1.size hh)).squeeze S_ squeezes_S1_S_ = xC (Ring.sl 3 (k.val + 2)) := cell3_congr _ (off15_eq k h) _
@[sl_canon] theorem xS_fetch (h : k.val + 2 < 64) (hh hs) : (xBuf.slice (Rect.unit (s := S3x512x1024) (k0_off16 (cA k.val)) S1x512x1024.size hh) hs).squeeze S512x1024 squeezes_S1x512x1024_S512x1024 = xS (Ring.sl 3 (k.val + 2)) := xS_congr (off16_eq k h) _ _
@[sl_canon] theorem xB_fetch (h : k.val + 2 < 64) (hh hs) : xM.slice (Rect.unit (s := S32768x1024) (k0_off17 (cI k.val)) S512x1024.size hh) hs = xB (Ring.bk 64 (k.val + 2)) := xB_congr (off17_eq k h) _ _
@[sl_canon] theorem y1C_fetch (h : k.val + 2 < 64) (hh) : (cc0_scoped3.slice (Rect.unit (s := S3) (k0_off18 (cA k.val)) S1.size hh)).squeeze S_ squeezes_S1_S_ = y1C (Ring.sl 3 (k.val + 2)) := cell3_congr _ (off18_eq k h) _
@[sl_canon] theorem y1S_fetch (h : k.val + 2 < 64) (hh hs) : (y1Buf.slice (Rect.unit (s := S3x512x512) (k0_off19 (cA k.val)) S1x512x512.size hh) hs).squeeze S512x512 squeezes_S1x512x512_S512x512 = y1S (Ring.sl 3 (k.val + 2)) := y1S_congr (off19_eq k h) _ _
@[sl_canon] theorem y1B_fetch (h : k.val + 2 < 64) (hh hs) : yM.slice (Rect.unit (s := S65536x512) (k0_off20 (cI k.val)) S512x512.size hh) hs = y1B (Ring.bk 64 (k.val + 2)) := y1B_congr (off20_eq k h) _ _
@[sl_canon] theorem y2C_fetch (h : k.val + 2 < 64) (hh) : (cc0_scoped5.slice (Rect.unit (s := S3) (k0_off21 (cA k.val)) S1.size hh)).squeeze S_ squeezes_S1_S_ = y2C (Ring.sl 3 (k.val + 2)) := cell3_congr _ (off21_eq k h) _
@[sl_canon] theorem y2S_fetch (h : k.val + 2 < 64) (hh hs) : (y2Buf.slice (Rect.unit (s := S3x512x512) (k0_off22 (cA k.val)) S1x512x512.size hh) hs).squeeze S512x512 squeezes_S1x512x512_S512x512 = y2S (Ring.sl 3 (k.val + 2)) := y2S_congr (off22_eq k h) _ _
@[sl_canon] theorem y2B_fetch (h : k.val + 2 < 64) (hh hs) : yM.slice (Rect.unit (s := S65536x512) (k0_off23 (cI k.val)) S512x512.size hh) hs = y2B (Ring.bk 64 (k.val + 2)) := y2B_congr (off23_eq k h) _ _
@[sl_canon] theorem mC_fetch (h : k.val + 1 < 64) (hh) : (cc0_scoped7.slice (Rect.unit (s := S2) (k0_off24 (cB k.val)) S1.size hh)).squeeze S_ squeezes_S1_S_ = mC (Ring.sl 2 (k.val + 1)) := cell2_congr _ (off24_eq k h) _
@[sl_canon] theorem mS_fetch (h : k.val + 1 < 64) (hh hs) : (mBuf.slice (Rect.unit (s := S2x512x128) (k0_off25 (cB k.val)) S1x512x128.size hh) hs).squeeze S512x128 squeezes_S1x512x128_S512x128 = mS (Ring.sl 2 (k.val + 1)) := mS_congr (off25_eq k h) _ _
@[sl_canon] theorem mB_fetch (h : k.val + 1 < 64) (hh hs) : mM.slice (Rect.unit (s := S32768x128) (k0_off26 (cI k.val)) S512x128.size hh) hs = mB (Ring.bk 64 (k.val + 1)) := mB_congr (off26_eq k h) _ _

/-! ### A trip's waits for its own block -/

@[sl_canon] theorem xC_wait (hh) : (cc0_scoped1.slice (Rect.unit (s := S3) (k0_off27 (cK k.val)) S1.size hh)).squeeze S_ squeezes_S1_S_ = xC (Ring.sl 3 k.val) := cell3_congr _ (off27_eq k) _
@[sl_canon] theorem xS_wait (hh hs) : (xBuf.slice (Rect.unit (s := S3x512x1024) (k0_off28 (cK k.val)) S1x512x1024.size hh) hs).squeeze S512x1024 squeezes_S1x512x1024_S512x1024 = xS (Ring.sl 3 k.val) := xS_congr (off28_eq k) _ _
@[sl_canon] theorem xB_wait (hh hs) : xM.slice (Rect.unit (s := S32768x1024) (k0_off29 (cI k.val)) S512x1024.size hh) hs = xB (Ring.bk 64 k.val) := xB_congr (off29_eq k) _ _
@[sl_canon] theorem y1C_wait (hh) : (cc0_scoped3.slice (Rect.unit (s := S3) (k0_off30 (cK k.val)) S1.size hh)).squeeze S_ squeezes_S1_S_ = y1C (Ring.sl 3 k.val) := cell3_congr _ (off30_eq k) _
@[sl_canon] theorem y1S_wait (hh hs) : (y1Buf.slice (Rect.unit (s := S3x512x512) (k0_off31 (cK k.val)) S1x512x512.size hh) hs).squeeze S512x512 squeezes_S1x512x512_S512x512 = y1S (Ring.sl 3 k.val) := y1S_congr (off31_eq k) _ _
@[sl_canon] theorem y1B_wait (hh hs) : yM.slice (Rect.unit (s := S65536x512) (k0_off32 (cI k.val)) S512x512.size hh) hs = y1B (Ring.bk 64 k.val) := y1B_congr (off32_eq k) _ _
@[sl_canon] theorem y2C_wait (hh) : (cc0_scoped5.slice (Rect.unit (s := S3) (k0_off33 (cK k.val)) S1.size hh)).squeeze S_ squeezes_S1_S_ = y2C (Ring.sl 3 k.val) := cell3_congr _ (off33_eq k) _
@[sl_canon] theorem y2S_wait (hh hs) : (y2Buf.slice (Rect.unit (s := S3x512x512) (k0_off34 (cK k.val)) S1x512x512.size hh) hs).squeeze S512x512 squeezes_S1x512x512_S512x512 = y2S (Ring.sl 3 k.val) := y2S_congr (off34_eq k) _ _
@[sl_canon] theorem y2B_wait (hh hs) : yM.slice (Rect.unit (s := S65536x512) (k0_off35 (cI k.val)) S512x512.size hh) hs = y2B (Ring.bk 64 k.val) := y2B_congr (off35_eq k) _ _
@[sl_canon] theorem mC_wait (hh) : (cc0_scoped7.slice (Rect.unit (s := S2) (k0_off36 (cK k.val)) S1.size hh)).squeeze S_ squeezes_S1_S_ = mC (Ring.sl 2 k.val) := cell2_congr _ (off36_eq k) _
@[sl_canon] theorem mS_wait (hh hs) : (mBuf.slice (Rect.unit (s := S2x512x128) (k0_off37 (cK k.val)) S1x512x128.size hh) hs).squeeze S512x128 squeezes_S1x512x128_S512x128 = mS (Ring.sl 2 k.val) := mS_congr (off37_eq k) _ _
@[sl_canon] theorem mB_wait (hh hs) : mM.slice (Rect.unit (s := S32768x128) (k0_off38 (cI k.val)) S512x128.size hh) hs = mB (Ring.bk 64 k.val) := mB_congr (off38_eq k) _ _

/-! ### The result's copy started, and the copy of the trip before waited -/

@[sl_canon] theorem oC_start (hh) : (cc0_scoped9.slice (Rect.unit (s := S2) (k0_off44 (cK k.val)) S1.size hh)).squeeze S_ squeezes_S1_S_ = oC (Ring.sl 2 k.val) := cell2_congr _ (off44_eq k) _
@[sl_canon] theorem oB_start (hh hs) : oM.slice (Rect.unit (s := S32768x1024) (k0_off45 (cI k.val)) S512x1024.size hh) hs = oB (Ring.bk 64 k.val) := oB_congr (off45_eq k) _ _
@[sl_canon] theorem oS_start (hh hs) : (oBuf.slice (Rect.unit (s := S2x512x1024) (k0_off46 (cK k.val)) S1x512x1024.size hh) hs).squeeze S512x1024 squeezes_S1x512x1024_S512x1024 = oS (Ring.sl 2 k.val) := oS_congr (off46_eq k) _ _
@[sl_canon] theorem oC_wait (h : 1 ≤ k.val) (hh) : (cc0_scoped9.slice (Rect.unit (s := S2) (k0_off47 (cD k.val)) S1.size hh)).squeeze S_ squeezes_S1_S_ = oC (Ring.sl 2 (k.val + 1)) := cell2_congr _ (off47_eq k h) _
@[sl_canon] theorem oB_wait (h : 1 ≤ k.val) (hh hs) : oM.slice (Rect.unit (s := S32768x1024) (k0_off48 (cI k.val)) S512x1024.size hh) hs = oB (Ring.bk 64 (k.val - 1)) := oB_congr (off48_eq k h) _ _
@[sl_canon] theorem oS_wait (h : 1 ≤ k.val) (hh hs) : (oBuf.slice (Rect.unit (s := S2x512x1024) (k0_off49 (cD k.val)) S1x512x1024.size hh) hs).squeeze S512x1024 squeezes_S1x512x1024_S512x1024 = oS (Ring.sl 2 (k.val + 1)) := oS_congr (off49_eq k h) _ _

end Canon

/-! ### The prologue's fetches of blocks 0 and 1, and the wait for the last copy -/

@[sl_canon] theorem xC_0 (hh) : (cc0_scoped1.slice (Rect.unit (s := S3) k0_off1 S1.size hh)).squeeze S_ squeezes_S1_S_ = xC 0 := cell3_congr _ (by decide) _
@[sl_canon] theorem xS_0 (hh hs) : (xBuf.slice (Rect.unit (s := S3x512x1024) k0_off2 S1x512x1024.size hh) hs).squeeze S512x1024 squeezes_S1x512x1024_S512x1024 = xS 0 := xS_congr (by decide) _ _
@[sl_canon] theorem xB_0 (hh hs) : xM.slice (Rect.unit (s := S32768x1024) ![0, 0] S512x1024.size hh) hs = xB 0 := xB_congr (by decide) _ _
@[sl_canon] theorem y1C_0 (hh) : (cc0_scoped3.slice (Rect.unit (s := S3) k0_off1 S1.size hh)).squeeze S_ squeezes_S1_S_ = y1C 0 := cell3_congr _ (by decide) _
@[sl_canon] theorem y1S_0 (hh hs) : (y1Buf.slice (Rect.unit (s := S3x512x512) k0_off3 S1x512x512.size hh) hs).squeeze S512x512 squeezes_S1x512x512_S512x512 = y1S 0 := y1S_congr (by decide) _ _
@[sl_canon] theorem y1B_0 (hh hs) : yM.slice (Rect.unit (s := S65536x512) ![0, 0] S512x512.size hh) hs = y1B 0 := y1B_congr (by decide) _ _
@[sl_canon] theorem y2C_0 (hh) : (cc0_scoped5.slice (Rect.unit (s := S3) k0_off1 S1.size hh)).squeeze S_ squeezes_S1_S_ = y2C 0 := cell3_congr _ (by decide) _
@[sl_canon] theorem y2S_0 (hh hs) : (y2Buf.slice (Rect.unit (s := S3x512x512) k0_off3 S1x512x512.size hh) hs).squeeze S512x512 squeezes_S1x512x512_S512x512 = y2S 0 := y2S_congr (by decide) _ _
@[sl_canon] theorem y2B_0 (hh hs) : yM.slice (Rect.unit (s := S65536x512) ![32768, 0] S512x512.size hh) hs = y2B 0 := y2B_congr (by decide) _ _
@[sl_canon] theorem mC_0 (hh) : (cc0_scoped7.slice (Rect.unit (s := S2) k0_off4 S1.size hh)).squeeze S_ squeezes_S1_S_ = mC 0 := cell2_congr _ (by decide) _
@[sl_canon] theorem mS_0 (hh hs) : (mBuf.slice (Rect.unit (s := S2x512x128) k0_off5 S1x512x128.size hh) hs).squeeze S512x128 squeezes_S1x512x128_S512x128 = mS 0 := mS_congr (by decide) _ _
@[sl_canon] theorem mB_0 (hh hs) : mM.slice (Rect.unit (s := S32768x128) ![0, 0] S512x128.size hh) hs = mB 0 := mB_congr (by decide) _ _
@[sl_canon] theorem xC_1 (hh) : (cc0_scoped1.slice (Rect.unit (s := S3) k0_off6 S1.size hh)).squeeze S_ squeezes_S1_S_ = xC 1 := cell3_congr _ (by decide) _
@[sl_canon] theorem xS_1 (hh hs) : (xBuf.slice (Rect.unit (s := S3x512x1024) k0_off7 S1x512x1024.size hh) hs).squeeze S512x1024 squeezes_S1x512x1024_S512x1024 = xS 1 := xS_congr (by decide) _ _
@[sl_canon] theorem xB_1 (hh hs) : xM.slice (Rect.unit (s := S32768x1024) k0_off8 S512x1024.size hh) hs = xB 1 := xB_congr (by decide) _ _
@[sl_canon] theorem y1C_1 (hh) : (cc0_scoped3.slice (Rect.unit (s := S3) k0_off9 S1.size hh)).squeeze S_ squeezes_S1_S_ = y1C 1 := cell3_congr _ (by decide) _
@[sl_canon] theorem y1S_1 (hh hs) : (y1Buf.slice (Rect.unit (s := S3x512x512) k0_off10 S1x512x512.size hh) hs).squeeze S512x512 squeezes_S1x512x512_S512x512 = y1S 1 := y1S_congr (by decide) _ _
@[sl_canon] theorem y1B_1 (hh hs) : yM.slice (Rect.unit (s := S65536x512) k0_off11 S512x512.size hh) hs = y1B 1 := y1B_congr (by decide) _ _
@[sl_canon] theorem y2C_1 (hh) : (cc0_scoped5.slice (Rect.unit (s := S3) k0_off12 S1.size hh)).squeeze S_ squeezes_S1_S_ = y2C 1 := cell3_congr _ (by decide) _
@[sl_canon] theorem y2S_1 (hh hs) : (y2Buf.slice (Rect.unit (s := S3x512x512) k0_off13 S1x512x512.size hh) hs).squeeze S512x512 squeezes_S1x512x512_S512x512 = y2S 1 := y2S_congr (by decide) _ _
@[sl_canon] theorem y2B_1 (hh hs) : yM.slice (Rect.unit (s := S65536x512) k0_off14 S512x512.size hh) hs = y2B 1 := y2B_congr (by decide) _ _
@[sl_canon] theorem oC_last (hh) : (cc0_scoped9.slice (Rect.unit (s := S2) (k0_off50 (cD k0_t1_loop.trips)) S1.size hh)).squeeze S_ squeezes_S1_S_ = oC 1 := cell2_congr _ (by decide +kernel) _
@[sl_canon] theorem oB_last (hh hs) : oM.slice (Rect.unit (s := S32768x1024) (k0_off51 (cI k0_t1_loop.trips)) S512x1024.size hh) hs = oB 63 := oB_congr (by decide +kernel) _ _
@[sl_canon] theorem oS_last (hh hs) : (oBuf.slice (Rect.unit (s := S2x512x1024) (k0_off52 (cD k0_t1_loop.trips)) S1x512x1024.size hh) hs).squeeze S512x1024 squeezes_S1x512x1024_S512x1024 = oS 1 := oS_congr (by decide +kernel) _ _

end Cert.Proof.Combine

end
-- ==== Proof.Streams.lean ====
/-
  The three kinds of stream the pipelined loop runs, each as one proposition per trip.

  Before trip `k` a stream of 64 blocks through three slots, fetched two blocks ahead, holds every block that is not in
  flight, the slots of blocks `k` and `k + 1` (in flight while those blocks exist, free after), and the slot of block
  `k + 2`, free. A stream through two slots is fetched one ahead. The result's stream starts block `k`'s copy at trip
  `k` and waits for it a trip later. Each is opened here to what a trip touches beside a wand that closes it for the
  next trip.
-/
module

public import Idealize.ShloMosaic.Lib.Ring.Trips
public import Idealize.ShloMosaic.Lib.Tactic

@[expose] public section

noncomputable section

namespace Cert.Proof.Combine

open Idealize.ShloMosaic Idealize.ShloMosaic.Ring
open Idealize.SL Idealize.SL.RA Idealize.SL.BI
open scoped Idealize.SL.BI
open Idealize.SL.BI.BIBase Idealize.SL.BI.Laws Idealize.SL.ProofMode Idealize.SL.Sem

variable {M : Type _} [URA M]

/-- An equation of propositions as an entailment. -/
theorem of_eq {P Q : sProp M} (e : P = Q) : P ⊢ Q := e ▸ .rfl

/-- A block added to a set of blocks held. -/
theorem bigSep_put {I : Type _} [DecidableEq I] {i : I} {s : Finset I} (h : i ∉ s) {Φ : I → sProp M} :
    bigSep (insert i s) Φ = iprop(Φ i ∗ bigSep s Φ) := bigSep_insert h

/-- Every block home, the first two, or the first, apart. -/
theorem homes_two (home : Fin 64 → sProp M) : bigSep Finset.univ home ⊢ iprop(home 0 ∗ home 1 ∗ bigSep (homeSet 2 0) home) := by
  have e : (Finset.univ : Finset (Fin 64)) = insert 0 (insert 1 (homeSet 2 0)) := by decide
  have h0 : (0 : Fin 64) ∉ insert 1 (homeSet (NB := 64) 2 0) := by decide
  have h1 : (1 : Fin 64) ∉ homeSet (NB := 64) 2 0 := by decide
  rw [e, bigSep_put h0, bigSep_put h1]
theorem homes_one (home : Fin 64 → sProp M) : bigSep Finset.univ home ⊢ iprop(home 0 ∗ bigSep (homeSet 1 0) home) := by
  have e : (Finset.univ : Finset (Fin 64)) = insert 0 (homeSet 1 0) := by decide
  have h0 : (0 : Fin 64) ∉ homeSet (NB := 64) 1 0 := by decide
  rw [e, bigSep_put h0]

section In3
variable (home : Fin 64 → sProp M) (free : Fin 3 → sProp M) (fly : Fin 3 → Fin 64 → sProp M)

/-- A three-slot stream before trip `k`. -/
def In3 (k : ℕ) : sProp M :=
  iprop(bigSep (homeSet 2 k) home ∗ roleAt (free (sl 3 k)) (fly (sl 3 k)) k ∗ roleAt (free (sl 3 (k + 1))) (fly (sl 3 (k + 1))) (k + 1) ∗ free (sl 3 (k + 2)))

/-- A trip that fetches block `k + 2` and waits for block `k`. -/
theorem In3_fetch (k : ℕ) (h : k + 2 < 64) :
    In3 home free fly k ⊢ iprop(home (bk 64 (k + 2)) ∗ fly (sl 3 k) (bk 64 k) ∗ free (sl 3 (k + 2))
      ∗ (home (bk 64 k) ∗ free (sl 3 k) ∗ fly (sl 3 (k + 2)) (bk 64 (k + 2)) -∗ In3 home free fly (k + 1))) := by
  unfold In3
  rw [homeSet_out 2 k h, bigSep_put (bkL_not_mem_erase 2 k), homeSet_succ 2 k h,
    bigSep_put (bk_not_mem_erase 2 k (by omega) (by decide)), roleAt_of_lt _ _ k (by omega), show k + 1 + 1 = k + 2 from rfl,
    roleAt_of_lt _ _ (k + 2) h, sl_succ_add 3 k 2 rfl]
  iintro ⟨⟨Hh, Hr⟩, H0, H1, H2⟩
  isplitl [Hh]; · iexact Hh
  isplitl [H0]; · iexact H0
  isplitl [H2]; · iexact H2
  iintro ⟨A, B, C⟩
  isplitl [A Hr]
  · isplitl [A]; · iexact A
    iexact Hr
  isplitl [H1]; · iexact H1
  isplitl [C]; · iexact C
  iexact B

/-- A trip that only waits for block `k`: there is no block `k + 2`. -/
theorem In3_drain (k : ℕ) (h : 64 ≤ k + 2) (hk : k < 64) :
    In3 home free fly k ⊢ iprop(fly (sl 3 k) (bk 64 k) ∗ (home (bk 64 k) ∗ free (sl 3 k) -∗ In3 home free fly (k + 1))) := by
  unfold In3
  rw [homeSet_succ_tail 2 k h hk, bigSep_put (bk_not_mem_homeSet 2 k hk (by decide)), roleAt_of_lt _ _ k hk,
    show k + 1 + 1 = k + 2 from rfl, roleAt_of_le _ _ (k + 2) h, sl_succ_add 3 k 2 rfl]
  iintro ⟨Hr, H0, H1, H2⟩
  isplitl [H0]; · iexact H0
  iintro ⟨A, B⟩
  isplitl [A Hr]
  · isplitl [A]; · iexact A
    iexact Hr
  isplitl [H1]; · iexact H1
  isplitl [H2]; · iexact H2
  iexact B

/-- Before the first trip blocks 0 and 1 are in flight. -/
theorem In3_start : iprop(bigSep (homeSet 2 0) home ∗ fly 0 0 ∗ fly 1 1 ∗ free 2) ⊢ In3 home free fly 0 := by
  unfold In3; rw [roleAt_of_lt _ _ 0 (by decide), roleAt_of_lt _ _ (0 + 1) (by decide)]; exact .rfl

/-- After the last every block is home and every slot free. -/
theorem In3_end : In3 home free fly 64 ⊢ iprop(bigSep Finset.univ home ∗ free 0 ∗ free 1 ∗ free 2) := by
  unfold In3; rw [homeSet_last 2 64 le_rfl, roleAt_of_le _ _ 64 le_rfl, roleAt_of_le _ _ (64 + 1) (by decide)]
  have e0 : sl 3 64 = 1 := by decide
  have e1 : sl 3 (64 + 1) = 2 := by decide
  have e2 : sl 3 (64 + 2) = 0 := by decide
  rw [e0, e1, e2]
  iintro ⟨H, H1, H2, H0⟩
  isplitl [H]; · iexact H
  isplitl [H0]; · iexact H0
  isplitl [H1]; · iexact H1
  iexact H2

end In3

section In2
variable (home : Fin 64 → sProp M) (free : Fin 2 → sProp M) (fly : Fin 2 → Fin 64 → sProp M)

/-- A two-slot stream before trip `k`. -/
def In2 (k : ℕ) : sProp M :=
  iprop(bigSep (homeSet 1 k) home ∗ roleAt (free (sl 2 k)) (fly (sl 2 k)) k ∗ free (sl 2 (k + 1)))

/-- A trip that fetches block `k + 1` and waits for block `k`. -/
theorem In2_fetch (k : ℕ) (h : k + 1 < 64) :
    In2 home free fly k ⊢ iprop(home (bk 64 (k + 1)) ∗ fly (sl 2 k) (bk 64 k) ∗ free (sl 2 (k + 1))
      ∗ (home (bk 64 k) ∗ free (sl 2 k) ∗ fly (sl 2 (k + 1)) (bk 64 (k + 1)) -∗ In2 home free fly (k + 1))) := by
  unfold In2
  rw [homeSet_out 1 k h, bigSep_put (bkL_not_mem_erase 1 k), homeSet_succ 1 k h,
    bigSep_put (bk_not_mem_erase 1 k (by omega) (by decide)), roleAt_of_lt _ _ k (by omega), roleAt_of_lt _ _ (k + 1) h, sl_succ_add 2 k 1 rfl]
  iintro ⟨⟨Hh, Hr⟩, H0, H1⟩
  isplitl [Hh]; · iexact Hh
  isplitl [H0]; · iexact H0
  isplitl [H1]; · iexact H1
  iintro ⟨A, B, C⟩
  isplitl [A Hr]
  · isplitl [A]; · iexact A
    iexact Hr
  isplitl [C]; · iexact C
  iexact B

/-- The last trip only waits. -/
theorem In2_drain (k : ℕ) (h : 64 ≤ k + 1) (hk : k < 64) :
    In2 home free fly k ⊢ iprop(fly (sl 2 k) (bk 64 k) ∗ (home (bk 64 k) ∗ free (sl 2 k) -∗ In2 home free fly (k + 1))) := by
  unfold In2
  rw [homeSet_succ_tail 1 k h hk, bigSep_put (bk_not_mem_homeSet 1 k hk (by decide)), roleAt_of_lt _ _ k hk,
    roleAt_of_le _ _ (k + 1) h, sl_succ_add 2 k 1 rfl]
  iintro ⟨Hr, H0, H1⟩
  isplitl [H0]; · iexact H0
  iintro ⟨A, B⟩
  isplitl [A Hr]
  · isplitl [A]; · iexact A
    iexact Hr
  isplitl [H1]; · iexact H1
  iexact B

/-- Before the first trip block 0 is in flight. -/
theorem In2_start : iprop(bigSep (homeSet 1 0) home ∗ fly 0 0 ∗ free 1) ⊢ In2 home free fly 0 := by
  unfold In2; rw [roleAt_of_lt _ _ 0 (by decide)]; exact .rfl

/-- After the last every block is home and every slot free. -/
theorem In2_end : In2 home free fly 64 ⊢ iprop(bigSep Finset.univ home ∗ free 0 ∗ free 1) := by
  unfold In2; rw [homeSet_last 1 64 le_rfl, roleAt_of_le _ _ 64 le_rfl]; exact .rfl

end In2

section Out
variable (ahead behind : Fin 64 → sProp M) (free : Fin 2 → sProp M) (fly : Fin 2 → Fin 64 → sProp M)

/-- The result's stream before trip `k`: the blocks not yet copied, the blocks copied, slot `k` free, the other slot in
    flight with block `k - 1` once there is one. -/
def Out (k : ℕ) : sProp M :=
  iprop(bigSep (aheadSet k) ahead ∗ bigSep (behindSet 1 k) behind ∗ free (sl 2 k) ∗ roleBAt 1 (free (sl 2 (k + 1))) (fly (sl 2 (k + 1))) k)

/-- A trip that starts block `k`'s copy and waits for block `k - 1`'s. -/
theorem Out_step (k : ℕ) (h1 : 1 ≤ k) (h : k < 64) :
    Out ahead behind free fly k ⊢ iprop(ahead (bk 64 k) ∗ free (sl 2 k) ∗ fly (sl 2 (k + 1)) (bk 64 (k - 1))
      ∗ (behind (bk 64 (k - 1)) ∗ free (sl 2 (k + 1)) ∗ fly (sl 2 k) (bk 64 k) -∗ Out ahead behind free fly (k + 1))) := by
  unfold Out
  rw [aheadSet_open k h, bigSep_put (bk_not_mem_aheadSet_succ k h), behindSet_close 1 k h1 h, bigSep_put (bk_not_mem_behindSet 1 k h1 h),
    roleBAt_of_le 1 _ _ k h1, roleBAt_of_le 1 _ _ (k + 1) (by omega), sl_succ_add 2 k 1 rfl, Nat.add_sub_cancel]
  iintro ⟨⟨Ha, Hr⟩, Hb, Hf, Hl⟩
  isplitl [Ha]; · iexact Ha
  isplitl [Hf]; · iexact Hf
  isplitl [Hl]; · iexact Hl
  iintro ⟨A, B, C⟩
  isplitl [Hr]; · iexact Hr
  isplitl [A Hb]
  · isplitl [A]; · iexact A
    iexact Hb
  isplitl [B]; · iexact B
  iexact C

/-- The first trip starts block 0's copy and has none to wait for. -/
theorem Out_first (k : ℕ) (h0 : k = 0) :
    Out ahead behind free fly k ⊢ iprop(ahead (bk 64 k) ∗ free (sl 2 k) ∗ (fly (sl 2 k) (bk 64 k) -∗ Out ahead behind free fly (k + 1))) := by
  subst h0
  unfold Out
  rw [aheadSet_open 0 (by decide), bigSep_put (bk_not_mem_aheadSet_succ 0 (by decide)), behindSet_boot 1 0 (by decide), behindSet_boot 1 (0 + 1) (by decide),
    roleBAt_of_lt 1 _ _ 0 (by decide), roleBAt_of_le 1 _ _ (0 + 1) (by decide), sl_succ_add 2 0 1 rfl, Nat.add_sub_cancel]
  iintro ⟨⟨Ha, Hr⟩, Hb, Hf, Hl⟩
  isplitl [Ha]; · iexact Ha
  isplitl [Hf]; · iexact Hf
  iintro C
  isplitl [Hr]; · iexact Hr
  isplitl [Hb]; · iexact Hb
  isplitl [Hl]; · iexact Hl
  iexact C

/-- Before the first trip no block is copied and both slots are free. -/
theorem Out_start : iprop(bigSep Finset.univ ahead ∗ free 0 ∗ free 1) ⊢ Out ahead behind free fly 0 := by
  unfold Out
  rw [aheadSet_zero, behindSet_boot 1 0 (by decide), roleBAt_of_lt 1 _ _ 0 (by decide), bigSep_empty]
  iintro ⟨H, H0, H1⟩
  isplitl [H]; · iexact H
  isplitr; · iempintro
  isplitl [H0]; · iexact H0
  iexact H1

/-- After the last trip the last block's copy is in flight from slot 1. -/
theorem Out_end :
    Out ahead behind free fly 64 ⊢ iprop(free 0 ∗ fly 1 63 ∗ (behind 63 -∗ bigSep Finset.univ behind)) := by
  have e : (Finset.univ : Finset (Fin 64)) = insert 63 (behindSet 1 64) := by decide
  have e' : (63 : Fin 64) ∉ behindSet (NB := 64) 1 64 := by decide
  unfold Out
  rw [e, bigSep_put e', roleBAt_of_le 1 _ _ 64 (by decide)]
  have e0 : sl 2 64 = 0 := by decide
  have e1 : sl 2 (64 + 1) = 1 := by decide
  have e2 : bk 64 (64 - 1) = 63 := by decide
  rw [e0, e1, e2]
  iintro ⟨-, Hb, H0, H1⟩
  isplitl [H0]; · iexact H0
  isplitl [H1]; · iexact H1
  iintro A
  isplitl [A]; · iexact A
  iexact Hb

end Out

end Cert.Proof.Combine

end
-- ==== Proof.Trip.lean ====
/-
  One trip of the pipelined loop: what it holds before and after, and the block it computes.
-/
module

public import proofs.«01_k».proof.Proof.Names
public import proofs.«01_k».proof.Proof.Streams
public import Idealize.ShloMosaic.Lib.Pipeline.Value

@[expose] public section

set_option backward.proofsInPublic true
set_option backward.isDefEq.respectTransparency.types false
set_option warn.classDefReducibility false

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The run's resources: the pipeline library's beside the counters the kernel's own copies ride on. -/
abbrev UU (nD : ℕ) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## What is held -/

section Held
variable (c : Dev nD) {sp sp' : Space} {s : Shape} {e : EltTy}

/-- A memref held at contents `f`, and a semaphore at zero. -/
abbrev held (M : Memref sig .tc sp s e) (f : Buf (Elt F) (M.view.loc (c : Thread nD τ))) : sProp 𝕄 :=
  M.view.loc (c : Thread nD τ) ↦[M.view.set]{fullShare} f
abbrev cellP (C : DmaSems sig S_) : sProp 𝕄 := semVal ((c : Thread nD τ), SemLoc.dma C.sem) 0
/-- A slot free: held at anything, its semaphore at zero. -/
abbrev freeP (S : Memref sig .tc sp s e) (C : DmaSems sig S_) : sProp 𝕄 :=
  iprop((∃ f : Buf (Elt F) (S.view.loc (c : Thread nD τ)), held c S f) ∗ cellP c C)
/-- A slot in flight with a block: the copy will leave the block's elements in the slot, over whatever was there, and
    give the block back. -/
abbrev flyP (C : DmaSems sig S_) (N : ℕ) (S : Memref sig .tc sp s e) (B : Memref sig .tc sp' s e) (X : Buf (Elt F) (B.view.loc (c : Thread nD τ))) : sProp 𝕄 :=
  iprop(∃ f : Buf (Elt F) (S.view.loc (c : Thread nD τ)), Transfers.Flight countersEmb (c : Thread nD τ) (SemLoc.dma C.sem) () N
    iprop(held c S (S.view.writes (Elt F) f [⟨Rect.whole s, ReadAs.same.apply (B.view.read (Elt F) X)⟩]) ∗ held c B X))
end Held

section Trip
variable (c : Dev nD) (XA : Buf (Elt F) (xM.view.loc (c : Thread nD τ))) (YA : Buf (Elt F) (yM.view.loc (c : Thread nD τ)))
  (MA : Buf (Elt F) (mM.view.loc (c : Thread nD τ))) (OA : Buf (Elt F) (oM.view.loc (c : Thread nD τ)))
  (arg3 : Memref sig .tc .vmem S1x1024 .f32) (harg3 : arg3.IsWhole) (gA : Buf (Elt F) (arg3.view.loc (c : Thread nD τ)))

/-! ## The block a trip computes -/

/-- What the body stores, of what it loads: the metadata's, the residual's and the two experts' slots, and the gain. -/
def outVal (m : Vec F S1x512x128 .f32) (x : Vec F S1x512x1024 .f32) (y1 y2 : Vec F S1x512x512 .i32) (g : Vec F S1x1024 .f32) : FVec F S1x512x1024 .f32 :=
  k0_pay25 (k0_pay3 m) (k0_pay4 x)
    (k0_pay12 (k0_pay2 m) (k0_pay5 y1) (k0_pay7 y1) (k0_pay8 y1) (k0_pay9 y1) (k0_pay10 y1) k0_pay11)
    (k0_pay15 y2) (k0_pay16 y2) (k0_pay18 y2) (k0_pay19 y2) (k0_pay21 y2) (k0_pay22 y2) (k0_pay23 y2) (k0_pay24 y2) g

/-- Block `b` of an array as the body loads it from a slot. -/
abbrev mBlk (b : Fin 64) : Vec F S1x512x128 .f32 := shapeCast S1x512x128 ((mB b).view.read (Elt F) MA) (by decide)
abbrev xBlk (b : Fin 64) : Vec F S1x512x1024 .f32 := shapeCast S1x512x1024 ((xB b).view.read (Elt F) XA) (by decide)
abbrev y1Blk (b : Fin 64) : Vec F S1x512x512 .i32 := shapeCast S1x512x512 ((y1B b).view.read (Elt F) YA) (by decide)
abbrev y2Blk (b : Fin 64) : Vec F S1x512x512 .i32 := shapeCast S1x512x512 ((y2B b).view.read (Elt F) YA) (by decide)
/-- The gain as the body loads it. -/
abbrev gVal : Vec F S1x1024 .f32 := arg3.view.readAt (Elt F) (Rect.unit (s := S1x1024) ![0, 0] S1x1024.size inb_S1x1024_S1x1024_0_0).toLoadRect gA

/-- Block `b` of the result. -/
def outBlk (b : Fin 64) : S512x1024.Idx → Elt F .f32 :=
  shapeCast S512x1024 (outVal (mBlk c MA b) (xBlk c XA b) (y1Blk c YA b) (y2Blk c YA b) (gVal c arg3 gA)) shapeCasts_S1x512x1024_S512x1024

/-- A load through the buffer at the rectangle of a slot a copy has filled reads the copy's payload. -/
theorem loaded {sp : Space} {s s' : Shape} {e : EltTy} (M : Memref sig .tc sp s e) (r : Rect s) (hr : ∀ a, r.stride a = 1) (hq : r.shape.Squeezes s')
    (hc : r.shape.ShapeCasts s') (hc' : s'.ShapeCasts r.shape) (f : M.view.ty.Contents (Elt F)) (w : s'.Idx → Elt F e) :
    M.view.readAt (Elt F) r.toLoadRect (((M.slice r hr).squeeze s' hq).view.writes (Elt F) f [⟨Rect.whole s', w⟩]) = shapeCast r.shape w hc' := by
  have h := Memref.read_squeeze_slice (Val := Elt F) M r hr hq hc (((M.slice r hr).squeeze s' hq).view.writes (Elt F) f [⟨Rect.whole s', w⟩])
  rw [View.read_writes_whole] at h
  exact (shapeCast_shapeCast _ hc hc').symm.trans (congrArg (fun v => shapeCast r.shape v hc') h.symm)

/-- A slot read back after a store through the buffer at the slot's rectangle is what was stored. -/
theorem stored {sp : Space} {s s' : Shape} {e : EltTy} (M : Memref sig .tc sp s e) (r : Rect s) (hr : ∀ a, r.stride a = 1) (hq : r.shape.Squeezes s')
    (hc : r.shape.ShapeCasts s') (f : M.view.ty.Contents (Elt F)) (w : r.shape.Idx → Elt F e) :
    ((M.slice r hr).squeeze s' hq).view.read (Elt F) (View.write (Elt F) (M.access r) f w Finset.univ) = shapeCast s' w hc := by
  rw [Memref.read_squeeze_slice (Val := Elt F) M r hr hq hc]
  exact congrArg (fun v => shapeCast s' v hc) (View.read_write_univ (v := M.access r) f w)

variable (k : Fin k0_t1_loop.trips)

theorem x_loaded (inb) (w : S512x1024.Idx → Elt F .f32) :
    View.readAt (Elt F) xBuf.view (Rect.unit (s := S3x512x1024) (k0_off40 (cK k.val)) S1x512x1024.size inb).toLoadRect
      ((xS (Ring.sl 3 k.val)).view.writes (Elt F) (xS (Ring.sl 3 k.val)).view.junk [⟨Rect.whole S512x1024, w⟩]) = shapeCast S1x512x1024 w (by decide) := by
  revert inb; rw [off40_eq k]; intro _
  exact loaded xBuf (Rect.unit (s := S3x512x1024) (slotOff (Ring.sl 3 k.val)) S1x512x1024.size (xslot_inb _)) (fun _ => rfl) squeezes_S1x512x1024_S512x1024 (show S1x512x1024.ShapeCasts S512x1024 by decide) (show S512x1024.ShapeCasts S1x512x1024 by decide) (xS (Ring.sl 3 k.val)).view.junk w
theorem y1_loaded (inb) (w : S512x512.Idx → Elt F .i32) :
    View.readAt (Elt F) y1Buf.view (Rect.unit (s := S3x512x512) (k0_off41 (cK k.val)) S1x512x512.size inb).toLoadRect
      ((y1S (Ring.sl 3 k.val)).view.writes (Elt F) (y1S (Ring.sl 3 k.val)).view.junk [⟨Rect.whole S512x512, w⟩]) = shapeCast S1x512x512 w (by decide) := by
  revert inb; rw [off41_eq k]; intro _
  exact loaded y1Buf (Rect.unit (s := S3x512x512) (slotOff (Ring.sl 3 k.val)) S1x512x512.size (yslot_inb _)) (fun _ => rfl) squeezes_S1x512x512_S512x512 (show S1x512x512.ShapeCasts S512x512 by decide) (show S512x512.ShapeCasts S1x512x512 by decide) (y1S (Ring.sl 3 k.val)).view.junk w
theorem y2_loaded (inb) (w : S512x512.Idx → Elt F .i32) :
    View.readAt (Elt F) y2Buf.view (Rect.unit (s := S3x512x512) (k0_off42 (cK k.val)) S1x512x512.size inb).toLoadRect
      ((y2S (Ring.sl 3 k.val)).view.writes (Elt F) (y2S (Ring.sl 3 k.val)).view.junk [⟨Rect.whole S512x512, w⟩]) = shapeCast S1x512x512 w (by decide) := by
  revert inb; rw [off42_eq k]; intro _
  exact loaded y2Buf (Rect.unit (s := S3x512x512) (slotOff (Ring.sl 3 k.val)) S1x512x512.size (yslot_inb _)) (fun _ => rfl) squeezes_S1x512x512_S512x512 (show S1x512x512.ShapeCasts S512x512 by decide) (show S512x512.ShapeCasts S1x512x512 by decide) (y2S (Ring.sl 3 k.val)).view.junk w
theorem m_loaded (inb) (w : S512x128.Idx → Elt F .f32) :
    View.readAt (Elt F) mBuf.view (Rect.unit (s := S2x512x128) (k0_off39 (cK k.val)) S1x512x128.size inb).toLoadRect
      ((mS (Ring.sl 2 k.val)).view.writes (Elt F) (mS (Ring.sl 2 k.val)).view.junk [⟨Rect.whole S512x128, w⟩]) = shapeCast S1x512x128 w (by decide) := by
  revert inb; rw [off39_eq k]; intro _
  exact loaded mBuf (Rect.unit (s := S2x512x128) (slotOff (Ring.sl 2 k.val)) S1x512x128.size (mslot_inb _)) (fun _ => rfl) squeezes_S1x512x128_S512x128 (show S1x512x128.ShapeCasts S512x128 by decide) (show S512x128.ShapeCasts S1x512x128 by decide) (mS (Ring.sl 2 k.val)).view.junk w
theorem o_stored (inb) (f : oBuf.view.ty.Contents (Elt F)) (w : S1x512x1024.Idx → Elt F .f32) :
    (oS (Ring.sl 2 k.val)).view.read (Elt F) (View.write (Elt F)
      (oBuf.access (Rect.unit (s := S2x512x1024) (k0_off43 (cK k.val)) S1x512x1024.size inb)) f w Finset.univ)
      = shapeCast S512x1024 w shapeCasts_S1x512x1024_S512x1024 := by
  revert inb w; rw [off43_eq k]; intro _ w
  exact stored oBuf (Rect.unit (s := S2x512x1024) (slotOff (Ring.sl 2 k.val)) S1x512x1024.size (oslot_inb _)) (fun _ => rfl) squeezes_S1x512x1024_S512x1024 shapeCasts_S1x512x1024_S512x1024 f w

theorem inb39 : ∀ a, k0_off39 (cK k.val) a + S1x512x128.size a ≤ S2x512x128.size a := by rw [off39_eq k]; exact mslot_inb _
theorem inb40 : ∀ a, k0_off40 (cK k.val) a + S1x512x1024.size a ≤ S3x512x1024.size a := by rw [off40_eq k]; exact xslot_inb _
theorem inb41 : ∀ a, k0_off41 (cK k.val) a + S1x512x512.size a ≤ S3x512x512.size a := by rw [off41_eq k]; exact yslot_inb _
theorem inb42 : ∀ a, k0_off42 (cK k.val) a + S1x512x512.size a ≤ S3x512x512.size a := by rw [off42_eq k]; exact yslot_inb _

/-- What trip `k` stores, of what its loads read, is block `k` of the result. -/
theorem outVal_loaded :
    shapeCast S512x1024 (outVal
      (View.readAt (Elt F) mBuf.view (Rect.unit (s := S2x512x128) (k0_off39 (cK k.val)) S1x512x128.size (inb39 k)).toLoadRect
        ((mS (Ring.sl 2 k.val)).view.writes (Elt F) (mS (Ring.sl 2 k.val)).view.junk [⟨Rect.whole S512x128, ReadAs.same.apply ((mB (Ring.bk 64 k.val)).view.read (Elt F) MA)⟩]))
      (View.readAt (Elt F) xBuf.view (Rect.unit (s := S3x512x1024) (k0_off40 (cK k.val)) S1x512x1024.size (inb40 k)).toLoadRect
        ((xS (Ring.sl 3 k.val)).view.writes (Elt F) (xS (Ring.sl 3 k.val)).view.junk [⟨Rect.whole S512x1024, ReadAs.same.apply ((xB (Ring.bk 64 k.val)).view.read (Elt F) XA)⟩]))
      (View.readAt (Elt F) y1Buf.view (Rect.unit (s := S3x512x512) (k0_off41 (cK k.val)) S1x512x512.size (inb41 k)).toLoadRect
        ((y1S (Ring.sl 3 k.val)).view.writes (Elt F) (y1S (Ring.sl 3 k.val)).view.junk [⟨Rect.whole S512x512, ReadAs.same.apply ((y1B (Ring.bk 64 k.val)).view.read (Elt F) YA)⟩]))
      (View.readAt (Elt F) y2Buf.view (Rect.unit (s := S3x512x512) (k0_off42 (cK k.val)) S1x512x512.size (inb42 k)).toLoadRect
        ((y2S (Ring.sl 3 k.val)).view.writes (Elt F) (y2S (Ring.sl 3 k.val)).view.junk [⟨Rect.whole S512x512, ReadAs.same.apply ((y2B (Ring.bk 64 k.val)).view.read (Elt F) YA)⟩]))
      (arg3.view.readAt (Elt F) (Rect.unit (s := S1x1024) ![0, 0] S1x1024.size inb_S1x1024_S1x1024_0_0).toLoadRect gA))
      shapeCasts_S1x512x1024_S512x1024 = outBlk c XA YA MA arg3 gA (Ring.bk 64 k.val) := by
  rw [m_loaded, x_loaded, y1_loaded, y2_loaded]
  rfl

/-! ## The streams -/

abbrev xHome (b : Fin 64) : sProp 𝕄 := held c (xB b) XA
abbrev y1Home (b : Fin 64) : sProp 𝕄 := held c (y1B b) YA
abbrev y2Home (b : Fin 64) : sProp 𝕄 := held c (y2B b) YA
abbrev mHome (b : Fin 64) : sProp 𝕄 := held c (mB b) MA
/-- A block of the result before it is written, and after. -/
abbrev oHome (b : Fin 64) : sProp 𝕄 := held c (oB b) OA
abbrev oDone (b : Fin 64) : sProp 𝕄 := held c (oB b) ((oB b).view.writes (Elt F) OA [⟨Rect.whole S512x1024, outBlk c XA YA MA arg3 gA b⟩])
abbrev xFree (s : Fin 3) : sProp 𝕄 := freeP (F := F) c (xS s) (xC s)
abbrev y1Free (s : Fin 3) : sProp 𝕄 := freeP (F := F) c (y1S s) (y1C s)
abbrev y2Free (s : Fin 3) : sProp 𝕄 := freeP (F := F) c (y2S s) (y2C s)
abbrev mFree (s : Fin 2) : sProp 𝕄 := freeP (F := F) c (mS s) (mC s)
abbrev oFree (s : Fin 2) : sProp 𝕄 := freeP (F := F) c (oS s) (oC s)
abbrev xFly (s : Fin 3) (b : Fin 64) : sProp 𝕄 := flyP c (xC s) 65536 (xS s) (xB b) XA
abbrev y1Fly (s : Fin 3) (b : Fin 64) : sProp 𝕄 := flyP c (y1C s) 32768 (y1S s) (y1B b) YA
abbrev y2Fly (s : Fin 3) (b : Fin 64) : sProp 𝕄 := flyP c (y2C s) 32768 (y2S s) (y2B b) YA
abbrev mFly (s : Fin 2) (b : Fin 64) : sProp 𝕄 := flyP c (mC s) 8192 (mS s) (mB b) MA
/-- Block `b` of the result on its way out of slot `s`. -/
abbrev oFly (s : Fin 2) (b : Fin 64) : sProp 𝕄 :=
  iprop(∃ f : Buf (Elt F) ((oS s).view.loc (c : Thread nD τ)), Transfers.Flight countersEmb (c : Thread nD τ) (SemLoc.dma (oC s).sem) () 65536
    iprop(oDone c XA YA MA OA arg3 gA b ∗ held c (oS s) f))

theorem oFly_intro (s : Fin 2) (b : Fin 64) (f : Buf (Elt F) ((oS s).view.loc (c : Thread nD τ))) (P : S512x1024.Idx → Elt F .f32) (e : P = outBlk c XA YA MA arg3 gA b) :
    Transfers.Flight countersEmb (c : Thread nD τ) (SemLoc.dma (oC s).sem) () 65536
      iprop(held c (oB b) ((oB b).view.writes (Elt F) OA [⟨Rect.whole S512x1024, P⟩]) ∗ held c (oS s) f) ⊢ oFly c XA YA MA OA arg3 gA s b := by
  subst e
  iintro H
  iexists f
  iexact H

/-- What the loop holds before trip `k`. -/
def Res (k : ℕ) : sProp 𝕄 :=
  iprop(held c arg3 gA ∗ (∃ W, owes (c : Thread nD τ) 0 W)
    ∗ In3 (xHome c XA) (xFree (F := F) c) (xFly c XA) k ∗ In3 (y1Home c YA) (y1Free (F := F) c) (y1Fly c YA) k
    ∗ In3 (y2Home c YA) (y2Free (F := F) c) (y2Fly c YA) k ∗ In2 (mHome c MA) (mFree (F := F) c) (mFly c MA) k
    ∗ Out (oHome c OA) (oDone c XA YA MA OA arg3 gA) (oFree (F := F) c) (oFly c XA YA MA OA arg3 gA) k)

abbrev Words : Type := BitVec 32 × BitVec 32 × BitVec 32 × BitVec 32 × BitVec 32 × BitVec 32 × BitVec 32 × BitVec 32 × BitVec 32 × BitVec 32 × BitVec 32
/-- The words the loop carries before trip `k`. -/
def words (k : ℕ) : Words := (cA k, cK k, cA k, cK k, cA k, cK k, cB k, cK k, cK k, cD k, cI k)

variable (v12 v36 v43 v50 v57 : BitVec 32) (v58 v59 : BitVec 1)

/-- Trip `k`'s program. -/
abbrev tripG (w : Words) :=
  k0_t1_body (F := F) xM (Memref.isWhole_whole _) yM (Memref.isWhole_whole _) mM (Memref.isWhole_whole _) arg3 harg3 oM (Memref.isWhole_whole _)
    xBuf (Memref.isWhole_whole _) cc0_scoped1 y1Buf (Memref.isWhole_whole _) cc0_scoped3 y2Buf (Memref.isWhole_whole _) cc0_scoped5 mBuf (Memref.isWhole_whole _) cc0_scoped7 oBuf (Memref.isWhole_whole _) cc0_scoped9
    v12 v36 v43 v50 v57 v58 v59 k w

/-- A trip in the middle: every fetch issued, the previous trip's block drained. -/
theorem trip_mid (hk1 : 1 ≤ k.val) (hk2 : k.val + 2 < 64) :
    Res c XA YA MA OA arg3 gA k.val ⊢ wp frame (wpE (defs₀ (F := F)) 𝒱₀ (c : Thread nD τ) none) Set.univ
      (tripG (F := F) arg3 harg3 k v12 v36 v43 v50 v57 v58 v59 (words k.val))
      (fun acc => iprop(⌜acc = words (k.val + 1)⌝ ∗ Res c XA YA MA OA arg3 gA (k.val + 1))) := by
  have hk : k.val < 64 := k.isLt
  have hk3 : k.val + 1 < 64 := by omega
  unfold Res
  iintro ⟨Hg, ⟨%W, HW⟩, HX, HY, HZ, HM, HO⟩
  ihave HX := (In3_fetch _ _ _ k.val hk2) $$ HX
  icases HX with ⟨HXb, ⟨%fx, HX⟩, ⟨⟨%fx2, HXs⟩, HXc⟩, HXk⟩
  ihave HY := (In3_fetch _ _ _ k.val hk2) $$ HY
  icases HY with ⟨HYb, ⟨%fy, HY⟩, ⟨⟨%fy2, HYs⟩, HYc⟩, HYk⟩
  ihave HZ := (In3_fetch _ _ _ k.val hk2) $$ HZ
  icases HZ with ⟨HZb, ⟨%fz, HZ⟩, ⟨⟨%fz2, HZs⟩, HZc⟩, HZk⟩
  ihave HM := (In2_fetch _ _ _ k.val hk3) $$ HM
  icases HM with ⟨HMb, ⟨%fm, HM⟩, ⟨⟨%fm2, HMs⟩, HMc⟩, HMk⟩
  ihave HO := (Out_step _ _ _ _ k.val hk1 hk) $$ HO
  icases HO with ⟨HOb, ⟨⟨%fo, HOs⟩, HOc⟩, ⟨%fo2, HO⟩, HOk⟩
  have h1 := chk1_trip k
  have h2 := chk2_trip k
  have h3 := chk3_trip k
  have h4 := chk4_trip k
  have h5 := chk5_trip k
  have h6 := chk6_trip k
  dsimp only [tripG, words]
  sl_unfold [k0_t1_body]
  sl_open_parts
  simp (config := {proj := false}) only [dif_pos (cond4_pos k hk2), dif_pos (cond5_pos k hk2), dif_pos (cond6_pos k hk2), dif_pos (cond7_pos k hk3),
    dif_pos (cond8_pos k), dif_pos (cond9_pos k), dif_pos (cond10_pos k), dif_pos (cond11_pos k), dif_pos (cond17_pos k), dif_pos (cond22_pos k hk1), ite_self]
  sl_exec
  sl_step
  isplitr
  · ipureintro
    simp only [words, Prod.mk.injEq]
    clear * -
    refine ⟨?_, ?_, ?_, ?_, ?_, ?_, ?_, ?_, ?_, ?_, ?_⟩ <;> (revert k; decide +kernel)
  isplitl [Hg]; · iexact Hg
  isplitl [HW]; · iexists _; iexact HW
  isplitl [HXk HX_src HX_dst HX HXc]
  · iapply HXk
    isplitl [HX_src]; · iexact HX_src
    isplitl [HX_dst HX]
    · isplitl [HX_dst]; · iexists _; iexact HX_dst
      iexact HX
    iexists _; iexact HXc
  isplitl [HYk HY_src HY_dst HY HYc]
  · iapply HYk
    isplitl [HY_src]; · iexact HY_src
    isplitl [HY_dst HY]
    · isplitl [HY_dst]; · iexists _; iexact HY_dst
      iexact HY
    iexists _; iexact HYc
  isplitl [HZk HZ_src HZ_dst HZ HZc]
  · iapply HZk
    isplitl [HZ_src]; · iexact HZ_src
    isplitl [HZ_dst HZ]
    · isplitl [HZ_dst]; · iexists _; iexact HZ_dst
      iexact HZ
    iexists _; iexact HZc
  isplitl [HMk HM_src HM_dst HM HMc]
  · iapply HMk
    isplitl [HM_src]; · iexact HM_src
    isplitl [HM_dst HM]
    · isplitl [HM_dst]; · iexists _; iexact HM_dst
      iexact HM
    iexists _; iexact HMc
  iapply HOk
  isplitl [HO_dst]; · iexact HO_dst
  isplitl [HO_src HO]
  · isplitl [HO_src]; · iexists _; iexact HO_src
    iexact HO
  have e : trip_mid.sl.dma7 c XA YA MA arg3 gA k fo h1 h2 h3 h4 h5 h6 = outBlk c XA YA MA arg3 gA (Ring.bk 64 k.val) := by
    refine (o_stored k _ fo _).trans ?_
    refine Eq.trans (congrArg (fun v => shapeCast S512x1024 v shapeCasts_S1x512x1024_S512x1024) ?_) (outVal_loaded c XA YA MA arg3 gA k)
    unfold outVal
    dsimp only
    delta trip_mid.sl.v214_r0 trip_mid.sl.v230_r0 trip_mid.sl.v233_r0 trip_mid.sl.v267_r0
    rfl
  iapply (oFly_intro c XA YA MA OA arg3 gA (Ring.sl 2 k.val) (Ring.bk 64 k.val) _ _ e)
  iexact HOc

/-- The first trip: no block of the result to drain yet. -/
theorem trip_first (hk1 : k.val = 0) :
    Res c XA YA MA OA arg3 gA k.val ⊢ wp frame (wpE (defs₀ (F := F)) 𝒱₀ (c : Thread nD τ) none) Set.univ
      (tripG (F := F) arg3 harg3 k v12 v36 v43 v50 v57 v58 v59 (words k.val))
      (fun acc => iprop(⌜acc = words (k.val + 1)⌝ ∗ Res c XA YA MA OA arg3 gA (k.val + 1))) := by
  have hk : k.val < 64 := k.isLt
  have hk2 : k.val + 2 < 64 := by omega
  have hk3 : k.val + 1 < 64 := by omega
  unfold Res
  iintro ⟨Hg, ⟨%W, HW⟩, HX, HY, HZ, HM, HO⟩
  ihave HX := (In3_fetch _ _ _ k.val hk2) $$ HX
  icases HX with ⟨HXb, ⟨%fx, HX⟩, ⟨⟨%fx2, HXs⟩, HXc⟩, HXk⟩
  ihave HY := (In3_fetch _ _ _ k.val hk2) $$ HY
  icases HY with ⟨HYb, ⟨%fy, HY⟩, ⟨⟨%fy2, HYs⟩, HYc⟩, HYk⟩
  ihave HZ := (In3_fetch _ _ _ k.val hk2) $$ HZ
  icases HZ with ⟨HZb, ⟨%fz, HZ⟩, ⟨⟨%fz2, HZs⟩, HZc⟩, HZk⟩
  ihave HM := (In2_fetch _ _ _ k.val hk3) $$ HM
  icases HM with ⟨HMb, ⟨%fm, HM⟩, ⟨⟨%fm2, HMs⟩, HMc⟩, HMk⟩
  ihave HO := (Out_first _ _ _ _ k.val hk1) $$ HO
  icases HO with ⟨HOb, ⟨⟨%fo, HOs⟩, HOc⟩, HOk⟩
  have h1 := chk1_trip k
  have h2 := chk2_trip k
  have h3 := chk3_trip k
  have h4 := chk4_trip k
  have h5 := chk5_trip k
  have h6 := chk6_trip k
  dsimp only [tripG, words]
  sl_unfold [k0_t1_body]
  sl_open_parts
  simp (config := {proj := false}) only [dif_pos (cond4_pos k hk2), dif_pos (cond5_pos k hk2), dif_pos (cond6_pos k hk2), dif_pos (cond7_pos k hk3),
    dif_pos (cond8_pos k), dif_pos (cond9_pos k), dif_pos (cond10_pos k), dif_pos (cond11_pos k), dif_pos (cond17_pos k), dif_neg (cond22_neg k hk1), ite_self]
  sl_exec
  sl_step
  isplitr
  · ipureintro
    simp only [words, Prod.mk.injEq]
    clear * -
    refine ⟨?_, ?_, ?_, ?_, ?_, ?_, ?_, ?_, ?_, ?_, ?_⟩ <;> (revert k; decide +kernel)
  isplitl [Hg]; · iexact Hg
  isplitl [HW]; · iexists _; iexact HW
  isplitl [HXk HX_src HX_dst HX HXc]
  · iapply HXk
    isplitl [HX_src]; · iexact HX_src
    isplitl [HX_dst HX]
    · isplitl [HX_dst]; · iexists _; iexact HX_dst
      iexact HX
    iexists _; iexact HXc
  isplitl [HYk HY_src HY_dst HY HYc]
  · iapply HYk
    isplitl [HY_src]; · iexact HY_src
    isplitl [HY_dst HY]
    · isplitl [HY_dst]; · iexists _; iexact HY_dst
      iexact HY
    iexists _; iexact HYc
  isplitl [HZk HZ_src HZ_dst HZ HZc]
  · iapply HZk
    isplitl [HZ_src]; · iexact HZ_src
    isplitl [HZ_dst HZ]
    · isplitl [HZ_dst]; · iexists _; iexact HZ_dst
      iexact HZ
    iexists _; iexact HZc
  isplitl [HMk HM_src HM_dst HM HMc]
  · iapply HMk
    isplitl [HM_src]; · iexact HM_src
    isplitl [HM_dst HM]
    · isplitl [HM_dst]; · iexists _; iexact HM_dst
      iexact HM
    iexists _; iexact HMc
  iapply HOk
  have e : trip_first.sl.dma7 c XA YA MA arg3 gA k fo h1 h2 h3 h4 h5 h6 = outBlk c XA YA MA arg3 gA (Ring.bk 64 k.val) := by
    refine (o_stored k _ fo _).trans ?_
    refine Eq.trans (congrArg (fun v => shapeCast S512x1024 v shapeCasts_S1x512x1024_S512x1024) ?_) (outVal_loaded c XA YA MA arg3 gA k)
    unfold outVal
    dsimp only
    delta trip_first.sl.v214_r0 trip_first.sl.v230_r0 trip_first.sl.v233_r0 trip_first.sl.v267_r0
    rfl
  iapply (oFly_intro c XA YA MA OA arg3 gA (Ring.sl 2 k.val) (Ring.bk 64 k.val) _ _ e)
  iexact HOc

/-- The last trip but one: the residual's and the experts' blocks have all been fetched. -/
theorem trip_late (hk2 : 62 ≤ k.val) (hk3 : k.val + 1 < 64) :
    Res c XA YA MA OA arg3 gA k.val ⊢ wp frame (wpE (defs₀ (F := F)) 𝒱₀ (c : Thread nD τ) none) Set.univ
      (tripG (F := F) arg3 harg3 k v12 v36 v43 v50 v57 v58 v59 (words k.val))
      (fun acc => iprop(⌜acc = words (k.val + 1)⌝ ∗ Res c XA YA MA OA arg3 gA (k.val + 1))) := by
  have hk : k.val < 64 := k.isLt
  have hk1 : 1 ≤ k.val := by omega
  unfold Res
  iintro ⟨Hg, ⟨%W, HW⟩, HX, HY, HZ, HM, HO⟩
  ihave HX := (In3_drain _ _ _ k.val (by omega) hk) $$ HX
  icases HX with ⟨⟨%fx, HX⟩, HXk⟩
  ihave HY := (In3_drain _ _ _ k.val (by omega) hk) $$ HY
  icases HY with ⟨⟨%fy, HY⟩, HYk⟩
  ihave HZ := (In3_drain _ _ _ k.val (by omega) hk) $$ HZ
  icases HZ with ⟨⟨%fz, HZ⟩, HZk⟩
  ihave HM := (In2_fetch _ _ _ k.val hk3) $$ HM
  icases HM with ⟨HMb, ⟨%fm, HM⟩, ⟨⟨%fm2, HMs⟩, HMc⟩, HMk⟩
  ihave HO := (Out_step _ _ _ _ k.val hk1 hk) $$ HO
  icases HO with ⟨HOb, ⟨⟨%fo, HOs⟩, HOc⟩, ⟨%fo2, HO⟩, HOk⟩
  have h1 := chk1_trip k
  have h2 := chk2_trip k
  have h3 := chk3_trip k
  have h4 := chk4_trip k
  have h5 := chk5_trip k
  have h6 := chk6_trip k
  dsimp only [tripG, words]
  sl_unfold [k0_t1_body]
  sl_open_parts
  simp (config := {proj := false}) only [dif_neg (cond4_neg k hk2), dif_neg (cond5_neg k hk2), dif_neg (cond6_neg k hk2), dif_pos (cond7_pos k hk3),
    dif_pos (cond8_pos k), dif_pos (cond9_pos k), dif_pos (cond10_pos k), dif_pos (cond11_pos k), dif_pos (cond17_pos k), dif_pos (cond22_pos k hk1), ite_self]
  sl_exec
  sl_step
  isplitr
  · ipureintro
    simp only [words, Prod.mk.injEq]
    clear * -
    refine ⟨?_, ?_, ?_, ?_, ?_, ?_, ?_, ?_, ?_, ?_, ?_⟩ <;> (revert k; decide +kernel)
  isplitl [Hg]; · iexact Hg
  isplitl [HW]; · iexists _; iexact HW
  isplitl [HXk HX_src HX_dst HX]
  · iapply HXk
    isplitl [HX_src]; · iexact HX_src
    isplitl [HX_dst]; · iexists _; iexact HX_dst
    iexact HX
  isplitl [HYk HY_src HY_dst HY]
  · iapply HYk
    isplitl [HY_src]; · iexact HY_src
    isplitl [HY_dst]; · iexists _; iexact HY_dst
    iexact HY
  isplitl [HZk HZ_src HZ_dst HZ]
  · iapply HZk
    isplitl [HZ_src]; · iexact HZ_src
    isplitl [HZ_dst]; · iexists _; iexact HZ_dst
    iexact HZ
  isplitl [HMk HM_src HM_dst HM HMc]
  · iapply HMk
    isplitl [HM_src]; · iexact HM_src
    isplitl [HM_dst HM]
    · isplitl [HM_dst]; · iexists _; iexact HM_dst
      iexact HM
    iexists _; iexact HMc
  iapply HOk
  isplitl [HO_dst]; · iexact HO_dst
  isplitl [HO_src HO]
  · isplitl [HO_src]; · iexists _; iexact HO_src
    iexact HO
  have e : trip_late.sl.dma7 c XA YA MA arg3 gA k fo h1 h2 h3 h4 h5 h6 = outBlk c XA YA MA arg3 gA (Ring.bk 64 k.val) := by
    refine (o_stored k _ fo _).trans ?_
    refine Eq.trans (congrArg (fun v => shapeCast S512x1024 v shapeCasts_S1x512x1024_S512x1024) ?_) (outVal_loaded c XA YA MA arg3 gA k)
    unfold outVal
    dsimp only
    delta trip_late.sl.v214_r0 trip_late.sl.v230_r0 trip_late.sl.v233_r0 trip_late.sl.v267_r0
    rfl
  iapply (oFly_intro c XA YA MA OA arg3 gA (Ring.sl 2 k.val) (Ring.bk 64 k.val) _ _ e)
  iexact HOc

/-- The last trip: nothing left to fetch. -/
theorem trip_last (hk3 : 63 ≤ k.val) :
    Res c XA YA MA OA arg3 gA k.val ⊢ wp frame (wpE (defs₀ (F := F)) 𝒱₀ (c : Thread nD τ) none) Set.univ
      (tripG (F := F) arg3 harg3 k v12 v36 v43 v50 v57 v58 v59 (words k.val))
      (fun acc => iprop(⌜acc = words (k.val + 1)⌝ ∗ Res c XA YA MA OA arg3 gA (k.val + 1))) := by
  have hk : k.val < 64 := k.isLt
  have hk1 : 1 ≤ k.val := by omega
  have hk2 : 62 ≤ k.val := by omega
  unfold Res
  iintro ⟨Hg, ⟨%W, HW⟩, HX, HY, HZ, HM, HO⟩
  ihave HX := (In3_drain _ _ _ k.val (by omega) hk) $$ HX
  icases HX with ⟨⟨%fx, HX⟩, HXk⟩
  ihave HY := (In3_drain _ _ _ k.val (by omega) hk) $$ HY
  icases HY with ⟨⟨%fy, HY⟩, HYk⟩
  ihave HZ := (In3_drain _ _ _ k.val (by omega) hk) $$ HZ
  icases HZ with ⟨⟨%fz, HZ⟩, HZk⟩
  ihave HM := (In2_drain _ _ _ k.val (by omega) hk) $$ HM
  icases HM with ⟨⟨%fm, HM⟩, HMk⟩
  ihave HO := (Out_step _ _ _ _ k.val hk1 hk) $$ HO
  icases HO with ⟨HOb, ⟨⟨%fo, HOs⟩, HOc⟩, ⟨%fo2, HO⟩, HOk⟩
  have h1 := chk1_trip k
  have h2 := chk2_trip k
  have h3 := chk3_trip k
  have h4 := chk4_trip k
  have h5 := chk5_trip k
  have h6 := chk6_trip k
  dsimp only [tripG, words]
  sl_unfold [k0_t1_body]
  sl_open_parts
  simp (config := {proj := false}) only [dif_neg (cond4_neg k hk2), dif_neg (cond5_neg k hk2), dif_neg (cond6_neg k hk2), dif_neg (cond7_neg k hk3),
    dif_pos (cond8_pos k), dif_pos (cond9_pos k), dif_pos (cond10_pos k), dif_pos (cond11_pos k), dif_pos (cond17_pos k), dif_pos (cond22_pos k hk1), ite_self]
  sl_exec
  sl_step
  isplitr
  · ipureintro
    simp only [words, Prod.mk.injEq]
    clear * -
    refine ⟨?_, ?_, ?_, ?_, ?_, ?_, ?_, ?_, ?_, ?_, ?_⟩ <;> (revert k; decide +kernel)
  isplitl [Hg]; · iexact Hg
  isplitl [HW]; · iexists _; iexact HW
  isplitl [HXk HX_src HX_dst HX]
  · iapply HXk
    isplitl [HX_src]; · iexact HX_src
    isplitl [HX_dst]; · iexists _; iexact HX_dst
    iexact HX
  isplitl [HYk HY_src HY_dst HY]
  · iapply HYk
    isplitl [HY_src]; · iexact HY_src
    isplitl [HY_dst]; · iexists _; iexact HY_dst
    iexact HY
  isplitl [HZk HZ_src HZ_dst HZ]
  · iapply HZk
    isplitl [HZ_src]; · iexact HZ_src
    isplitl [HZ_dst]; · iexists _; iexact HZ_dst
    iexact HZ
  isplitl [HMk HM_src HM_dst HM]
  · iapply HMk
    isplitl [HM_src]; · iexact HM_src
    isplitl [HM_dst]; · iexists _; iexact HM_dst
    iexact HM
  iapply HOk
  isplitl [HO_dst]; · iexact HO_dst
  isplitl [HO_src HO]
  · isplitl [HO_src]; · iexists _; iexact HO_src
    iexact HO
  have e : trip_last.sl.dma7 c XA YA MA arg3 gA k fo h1 h2 h3 h4 h5 h6 = outBlk c XA YA MA arg3 gA (Ring.bk 64 k.val) := by
    refine (o_stored k _ fo _).trans ?_
    refine Eq.trans (congrArg (fun v => shapeCast S512x1024 v shapeCasts_S1x512x1024_S512x1024) ?_) (outVal_loaded c XA YA MA arg3 gA k)
    unfold outVal
    dsimp only
    delta trip_last.sl.v214_r0 trip_last.sl.v230_r0 trip_last.sl.v233_r0 trip_last.sl.v267_r0
    rfl
  iapply (oFly_intro c XA YA MA OA arg3 gA (Ring.sl 2 k.val) (Ring.bk 64 k.val) _ _ e)
  iexact HOc

/-- Every trip. -/
theorem trip :
    Res c XA YA MA OA arg3 gA k.val ⊢ wp frame (wpE (defs₀ (F := F)) 𝒱₀ (c : Thread nD τ) none) Set.univ
      (tripG (F := F) arg3 harg3 k v12 v36 v43 v50 v57 v58 v59 (words k.val))
      (fun acc => iprop(⌜acc = words (k.val + 1)⌝ ∗ Res c XA YA MA OA arg3 gA (k.val + 1))) := by
  by_cases h0 : k.val = 0
  · exact trip_first c XA YA MA OA arg3 harg3 gA k v12 v36 v43 v50 v57 v58 v59 h0
  by_cases h1 : k.val + 2 < 64
  · exact trip_mid c XA YA MA OA arg3 harg3 gA k v12 v36 v43 v50 v57 v58 v59 (by omega) h1
  by_cases h2 : k.val + 1 < 64
  · exact trip_late c XA YA MA OA arg3 harg3 gA k v12 v36 v43 v50 v57 v58 v59 (by omega) h2
  · exact trip_last c XA YA MA OA arg3 harg3 gA k v12 v36 v43 v50 v57 v58 v59 (by omega)

end Trip

end Cert.Proof.Combine

end
-- ==== Proof.Body.lean ====
/-
  The kernel's body: the prologue that fills the first slots, the loop, the wait for the last block of the result.
-/
module

public import proofs.«01_k».proof.Proof.Trip

@[expose] public section

set_option backward.proofsInPublic true
set_option backward.isDefEq.respectTransparency.types false
set_option warn.classDefReducibility false

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

section Body
variable (c : Dev nD) (XA : Buf (Elt F) (xM.view.loc (c : Thread nD τ))) (YA : Buf (Elt F) (yM.view.loc (c : Thread nD τ)))
  (MA : Buf (Elt F) (mM.view.loc (c : Thread nD τ))) (OA : Buf (Elt F) (oM.view.loc (c : Thread nD τ)))
  (arg3 : Memref sig .tc .vmem S1x1024 .f32) (harg3 : arg3.IsWhole) (gA : Buf (Elt F) (arg3.view.loc (c : Thread nD τ)))

/-- The body's program. -/
abbrev bodyG : Prog (TpuEff nD τ sig (Elt F) Λ₀ .tc) PUnit :=
  cc0_moe_combine_norm xM (Memref.isWhole_whole _) yM (Memref.isWhole_whole _) mM (Memref.isWhole_whole _) arg3 harg3 oM (Memref.isWhole_whole _)
    xBuf (Memref.isWhole_whole _) cc0_scoped1 y1Buf (Memref.isWhole_whole _) cc0_scoped3 y2Buf (Memref.isWhole_whole _) cc0_scoped5 mBuf (Memref.isWhole_whole _) cc0_scoped7 oBuf (Memref.isWhole_whole _) cc0_scoped9

/-- Every slot at anything, its semaphore at zero. -/
def slots : sProp 𝕄 :=
  iprop((xFree (F := F) c 0 ∗ xFree (F := F) c 1 ∗ xFree (F := F) c 2) ∗ (y1Free (F := F) c 0 ∗ y1Free (F := F) c 1 ∗ y1Free (F := F) c 2)
    ∗ (y2Free (F := F) c 0 ∗ y2Free (F := F) c 1 ∗ y2Free (F := F) c 2) ∗ (mFree (F := F) c 0 ∗ mFree (F := F) c 1) ∗ (oFree (F := F) c 0 ∗ oFree (F := F) c 1))

/-- Before the first trip: the prologue's copies in flight, the rest home and free. -/
theorem res_start (W : Waits sig Unit) :
    iprop(held c arg3 gA ∗ owes (c : Thread nD τ) 0 W
      ∗ (bigSep (Ring.homeSet 2 0) (xHome c XA) ∗ xFly c XA 0 0 ∗ xFly c XA 1 1 ∗ xFree (F := F) c 2)
      ∗ (bigSep (Ring.homeSet 2 0) (y1Home c YA) ∗ y1Fly c YA 0 0 ∗ y1Fly c YA 1 1 ∗ y1Free (F := F) c 2)
      ∗ (bigSep (Ring.homeSet 2 0) (y2Home c YA) ∗ y2Fly c YA 0 0 ∗ y2Fly c YA 1 1 ∗ y2Free (F := F) c 2)
      ∗ (bigSep (Ring.homeSet 1 0) (mHome c MA) ∗ mFly c MA 0 0 ∗ mFree (F := F) c 1)
      ∗ (bigSep Finset.univ (oHome c OA) ∗ oFree (F := F) c 0 ∗ oFree (F := F) c 1))
      ⊢ Res c XA YA MA OA arg3 gA 0 := by
  unfold Res
  iintro ⟨Hg, HW, HX, HY, HZ, HM, HO⟩
  isplitl [Hg]; · iexact Hg
  isplitl [HW]; · iexists W; iexact HW
  isplitl [HX]; · iapply (In3_start _ _ _); iexact HX
  isplitl [HY]; · iapply (In3_start _ _ _); iexact HY
  isplitl [HZ]; · iapply (In3_start _ _ _); iexact HZ
  isplitl [HM]; · iapply (In2_start _ _ _); iexact HM
  iapply (Out_start _ _ _ _); iexact HO

/-- After the last trip: every block of the arrays home, their slots free, the result's last block on its way. -/
theorem res_end :
    Res c XA YA MA OA arg3 gA k0_t1_loop.trips ⊢ iprop(held c arg3 gA ∗ (∃ W, owes (c : Thread nD τ) 0 W)
      ∗ (bigSep Finset.univ (xHome c XA) ∗ xFree (F := F) c 0 ∗ xFree (F := F) c 1 ∗ xFree (F := F) c 2)
      ∗ (bigSep Finset.univ (y1Home c YA) ∗ y1Free (F := F) c 0 ∗ y1Free (F := F) c 1 ∗ y1Free (F := F) c 2)
      ∗ (bigSep Finset.univ (y2Home c YA) ∗ y2Free (F := F) c 0 ∗ y2Free (F := F) c 1 ∗ y2Free (F := F) c 2)
      ∗ (bigSep Finset.univ (mHome c MA) ∗ mFree (F := F) c 0 ∗ mFree (F := F) c 1)
      ∗ (oFree (F := F) c 0 ∗ oFly c XA YA MA OA arg3 gA 1 63
        ∗ (oDone c XA YA MA OA arg3 gA 63 -∗ bigSep Finset.univ (oDone c XA YA MA OA arg3 gA)))) := by
  rw [trips_eq]
  unfold Res
  iintro ⟨Hg, HW, HX, HY, HZ, HM, HO⟩
  isplitl [Hg]; · iexact Hg
  isplitl [HW]; · iexact HW
  isplitl [HX]; · iapply (In3_end _ _ _); iexact HX
  isplitl [HY]; · iapply (In3_end _ _ _); iexact HY
  isplitl [HZ]; · iapply (In3_end _ _ _); iexact HZ
  isplitl [HM]; · iapply (In2_end _ _ _); iexact HM
  iapply (Out_end _ _ _ _); iexact HO

/-- The body: from the gain's buffer, every block of the arrays home and every slot free, it leaves the blocks of the
    result at what the trips computed and everything else as it was. -/
theorem bodyRun (W : Waits sig Unit) (Q : PUnit → sProp 𝕄) :
    iprop((held c arg3 gA ∗ owes (c : Thread nD τ) 0 W ∗ slots (F := F) c ∗ bigSep Finset.univ (xHome c XA) ∗ bigSep Finset.univ (y1Home c YA) ∗ bigSep Finset.univ (y2Home c YA)
        ∗ bigSep Finset.univ (mHome c MA) ∗ bigSep Finset.univ (oHome c OA))
      ∗ ((held c arg3 gA ∗ (∃ W, owes (c : Thread nD τ) 0 W) ∗ slots (F := F) c ∗ bigSep Finset.univ (xHome c XA) ∗ bigSep Finset.univ (y1Home c YA) ∗ bigSep Finset.univ (y2Home c YA)
        ∗ bigSep Finset.univ (mHome c MA) ∗ bigSep Finset.univ (oDone c XA YA MA OA arg3 gA)) -∗ Q ⟨⟩))
      ⊢ wp frame (wpE (defs₀ (F := F)) 𝒱₀ (c : Thread nD τ) none) Set.univ (bodyG (F := F) arg3 harg3) Q := by
  have k1 : k0_cond1 = 1#1 := by decide +kernel
  have k2 : k0_cond2 = 1#1 := by decide +kernel
  have k3 : k0_cond3 = 1#1 := by decide +kernel
  unfold slots
  iintro ⟨⟨Hg, HW, ⟨⟨⟨⟨%fx0, HX0⟩, HXc0⟩, ⟨⟨%fx1, HX1⟩, HXc1⟩, HX2⟩, ⟨⟨⟨%fy0, HY0⟩, HYc0⟩, ⟨⟨%fy1, HY1⟩, HYc1⟩, HY2⟩,
    ⟨⟨⟨%fz0, HZ0⟩, HZc0⟩, ⟨⟨%fz1, HZ1⟩, HZc1⟩, HZ2⟩, ⟨⟨⟨%fm0, HM0⟩, HMc0⟩, HM1⟩, HO0, HO1⟩, HX, HY, HZ, HM, HO⟩, Hk⟩
  ihave HX := (homes_two _) $$ HX
  icases HX with ⟨HXb0, HXb1, HXh⟩
  ihave HY := (homes_two _) $$ HY
  icases HY with ⟨HYb0, HYb1, HYh⟩
  ihave HZ := (homes_two _) $$ HZ
  icases HZ with ⟨HZb0, HZb1, HZh⟩
  ihave HM := (homes_one _) $$ HM
  icases HM with ⟨HMb0, HMh⟩
  sl_exec
  ihave HR := (res_start c XA YA MA OA arg3 gA W) $$ [Hg HW HXh HXc0 HXc1 HX2 HYh HYc0 HYc1 HY2 HZh HZc0 HZc1 HZ2 HMh HMc0 HM1 HO HO0 HO1]
  · isplitl [Hg]; · iexact Hg
    isplitl [HW]; · iexact HW
    isplitl [HXh HXc0 HXc1 HX2]
    · isplitl [HXh]; · iexact HXh
      isplitl [HXc0]; · iexists fx0; iexact HXc0
      isplitl [HXc1]; · iexists fx1; iexact HXc1
      iexact HX2
    isplitl [HYh HYc0 HYc1 HY2]
    · isplitl [HYh]; · iexact HYh
      isplitl [HYc0]; · iexists fy0; iexact HYc0
      isplitl [HYc1]; · iexists fy1; iexact HYc1
      iexact HY2
    isplitl [HZh HZc0 HZc1 HZ2]
    · isplitl [HZh]; · iexact HZh
      isplitl [HZc0]; · iexists fz0; iexact HZc0
      isplitl [HZc1]; · iexists fz1; iexact HZc1
      iexact HZ2
    isplitl [HMh HMc0 HM1]
    · isplitl [HMh]; · iexact HMh
      isplitl [HMc0]; · iexists fm0; iexact HMc0
      iexact HM1
    isplitl [HO]; · iexact HO
    isplitl [HO0]; · iexact HO0
    iexact HO1
  -- the loop, by its invariant: the words it carries are the trip's, and it holds the trip's resources
  sl_for (fun k acc => iprop(⌜acc = words k⌝ ∗ Res c XA YA MA OA arg3 gA k)) $$ [HR]
  · intro k acc
    iintro ⟨%e, H⟩
    subst e
    iapply (trip c XA YA MA OA arg3 harg3 gA k _ _ _ _ _ _ _)
    iexact H
  · isplitr
    · ipureintro; rfl
    iexact HR
  iintro %acc ⟨%e, HR⟩
  subst e
  have h7 := chk7_exit
  have h8 := chk8_exit
  ihave HR := (res_end c XA YA MA OA arg3 gA) $$ HR
  icases HR with ⟨Hg, ⟨%W2, HW⟩, HX, HY, HZ, HM, HO0, ⟨%fo, HO1⟩, HOk⟩
  rw [show Scf.trips k0_t1_loop.lb k0_t1_loop.ub k0_t1_loop.st = k0_t1_loop.trips from rfl]
  unfold words
  sl_exec
  sl_step
  iapply Hk
  icases HX with ⟨HX, HXs⟩
  icases HY with ⟨HY, HYs⟩
  icases HZ with ⟨HZ, HZs⟩
  icases HM with ⟨HM, HMs⟩
  isplitl [Hg]; · iexact Hg
  isplitl [HW]; · iexists _; iexact HW
  isplitl [HXs HYs HZs HMs HO0 HO1 HO1_src]
  · isplitl [HXs]; · iexact HXs
    isplitl [HYs]; · iexact HYs
    isplitl [HZs]; · iexact HZs
    isplitl [HMs]; · iexact HMs
    isplitl [HO0]; · iexact HO0
    isplitl [HO1_src]; · iexists _; iexact HO1_src
    iexact HO1
  isplitl [HX]; · iexact HX
  isplitl [HY]; · iexact HY
  isplitl [HZ]; · iexact HZ
  isplitl [HM]; · iexact HM
  iapply HOk
  iexact HO1_dst

end Body

end Cert.Proof.Combine

end
-- ==== Proof.Split.lean ====
/-
  The arrays as their blocks and the buffers as their slots, and back.
-/
module

public import proofs.«01_k».proof.Proof.Body
public import Idealize.ShloMosaic.Lib.Ring

@[expose] public section

set_option backward.proofsInPublic true
set_option backward.isDefEq.respectTransparency.types false
set_option warn.classDefReducibility false

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

/-! ## Element sets -/

/-- Slot `s` of a buffer of `n` slots, its elements. -/
abbrev slotSet {n a b : ℕ} (s : Fin n) (h : ∀ i, slotOff s i + (![1, a, b] : Fin 3 → ℕ) i ≤ (![n, a, b] : Fin 3 → ℕ) i) : Finset (Shape.mk 3 ![n, a, b]).Idx :=
  (Rect.unit (s := ⟨3, ![n, a, b]⟩) (slotOff s) ![1, a, b] h).set
/-- Block `b` of 512 rows counted from row `r`, its elements. -/
abbrev rowSet {n w : ℕ} (r : ℕ) (b : Fin 64) (h : ∀ i, rowOff r b i + (![512, w] : Fin 2 → ℕ) i ≤ (![n, w] : Fin 2 → ℕ) i) : Finset (Shape.mk 2 ![n, w]).Idx :=
  (Rect.unit (s := ⟨2, ![n, w]⟩) (rowOff r b) ![512, w] h).set

theorem mem_slotSet {n a b : ℕ} (s : Fin n) (h) (y : (Shape.mk 3 ![n, a, b]).Idx) : y ∈ slotSet (a := a) (b := b) s h ↔ (y 0).val = s.val := by
  rw [Rect.mem_set_unit]
  have h1 : (y 1).val < a := (y 1).isLt
  have h2 : (y 2).val < b := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + a; omega
    · show 0 ≤ (y 2).val ∧ (y 2).val < 0 + b; omega

theorem mem_rowSet {n w : ℕ} (r : ℕ) (b : Fin 64) (h) (y : (Shape.mk 2 ![n, w]).Idx) :
    y ∈ rowSet (w := w) r b h ↔ r + 512 * b.val ≤ (y 0).val ∧ (y 0).val < r + 512 * b.val + 512 := by
  rw [Rect.mem_set_unit]
  have h1 : (y 1).val < w := (y 1).isLt
  constructor
  · intro H; exact H 0
  · intro H i
    fin_cases i
    · exact H
    · show 0 ≤ (y 1).val ∧ (y 1).val < 0 + w; omega

theorem slotSet_disjoint {n a b : ℕ} (h : ∀ s : Fin n, _) : ∀ s s' : Fin n, s ≠ s' → Disjoint (slotSet (a := a) (b := b) s (h s)) (slotSet s' (h s')) := by
  intro s s' hne; rw [Finset.disjoint_left]; intro y hy hy'
  rw [mem_slotSet] at hy hy'; exact hne (Fin.ext (hy.symm.trans hy'))
theorem slotSet_cover {n a b : ℕ} (h : ∀ s : Fin n, _) : (Finset.univ : Finset (Fin n)).biUnion (fun s => slotSet (a := a) (b := b) s (h s)) = Finset.univ := by
  ext y; simp only [Finset.mem_biUnion, Finset.mem_univ, true_and, iff_true]
  exact ⟨⟨(y 0).val, (y 0).isLt⟩, by rw [mem_slotSet]⟩
theorem rowSet_disjoint {n w r : ℕ} (h : ∀ b : Fin 64, _) : ∀ b b' : Fin 64, b ≠ b' → Disjoint (rowSet (n := n) (w := w) r b (h b)) (rowSet r b' (h b')) := by
  intro b b' hne; rw [Finset.disjoint_left]; intro y hy hy'
  rw [mem_rowSet] at hy hy'; exact hne (Fin.ext (by omega))
theorem rowSet_cover {w : ℕ} (h : ∀ b : Fin 64, _) : (Finset.univ : Finset (Fin 64)).biUnion (fun b => rowSet (n := 32768) (w := w) 0 b (h b)) = Finset.univ := by
  ext y; simp only [Finset.mem_biUnion, Finset.mem_univ, true_and, iff_true]
  have hy : (y 0).val < 32768 := (y 0).isLt
  exact ⟨⟨(y 0).val / 512, by omega⟩, by rw [mem_rowSet]; show 0 + 512 * ((y 0).val / 512) ≤ _ ∧ _ < 0 + 512 * ((y 0).val / 512) + 512; omega⟩

section Split
variable (c : Dev nD)

/-! ## The arrays as blocks -/

theorem x_blocks (X : Buf (Elt F) (xM.view.loc (c : Thread nD τ))) :
    (((c : Thread nD τ).loc main_arg0) ↦{fullShare} X : sProp 𝕄) = bigSep Finset.univ (xHome c X) := by
  rw [Ring.pointsTo_blocks (ℓ := (c : Thread nD τ).loc main_arg0) (fun b => rowSet (n := 32768) (w := 1024) 0 b (xrow_inb b)) (rowSet_disjoint _) (rowSet_cover _)]
  exact bigSep_congr fun b _ => congrArg (fun S => (_ ↦[S]{fullShare} X : sProp 𝕄)) (View.set_slice_whole _ _).symm
theorem m_blocks (X : Buf (Elt F) (mM.view.loc (c : Thread nD τ))) :
    (((c : Thread nD τ).loc main_arg2) ↦{fullShare} X : sProp 𝕄) = bigSep Finset.univ (mHome c X) := by
  rw [Ring.pointsTo_blocks (ℓ := (c : Thread nD τ).loc main_arg2) (fun b => rowSet (n := 32768) (w := 128) 0 b (mrow_inb b)) (rowSet_disjoint _) (rowSet_cover _)]
  exact bigSep_congr fun b _ => congrArg (fun S => (_ ↦[S]{fullShare} X : sProp 𝕄)) (View.set_slice_whole _ _).symm
theorem o_blocks (X : Buf (Elt F) (oM.view.loc (c : Thread nD τ))) :
    (((c : Thread nD τ).loc main_v1) ↦{fullShare} X : sProp 𝕄) = bigSep Finset.univ (oHome c X) := by
  rw [Ring.pointsTo_blocks (ℓ := (c : Thread nD τ).loc main_v1) (fun b => rowSet (n := 32768) (w := 1024) 0 b (xrow_inb b)) (rowSet_disjoint _) (rowSet_cover _)]
  exact bigSep_congr fun b _ => congrArg (fun S => (_ ↦[S]{fullShare} X : sProp 𝕄)) (View.set_slice_whole _ _).symm
/-- The packed rows are the first expert's blocks beside the second's. -/
theorem y_blocks (X : Buf (Elt F) (yM.view.loc (c : Thread nD τ))) :
    (((c : Thread nD τ).loc main_arg1) ↦{fullShare} X : sProp 𝕄) = iprop(bigSep Finset.univ (y1Home c X) ∗ bigSep Finset.univ (y2Home c X)) := by
  have hd : Disjoint ((Finset.univ : Finset (Fin 64)).biUnion fun b => rowSet (n := 65536) (w := 512) 0 b (y1row_inb b))
      ((Finset.univ : Finset (Fin 64)).biUnion fun b => rowSet (n := 65536) (w := 512) 32768 b (y2row_inb b)) := by
    rw [Finset.disjoint_left]; intro y hy hy'
    simp only [Finset.mem_biUnion, Finset.mem_univ, true_and, mem_rowSet] at hy hy'
    obtain ⟨b, hb⟩ := hy; obtain ⟨b', hb'⟩ := hy'
    have := b.isLt; omega
  have hc : ((Finset.univ : Finset (Fin 64)).biUnion fun b => rowSet (n := 65536) (w := 512) 0 b (y1row_inb b))
      ∪ ((Finset.univ : Finset (Fin 64)).biUnion fun b => rowSet (n := 65536) (w := 512) 32768 b (y2row_inb b)) = Finset.univ := by
    ext y; simp only [Finset.mem_union, Finset.mem_biUnion, Finset.mem_univ, true_and, iff_true, mem_rowSet]
    have hy : (y 0).val < 65536 := (y 0).isLt
    by_cases h : (y 0).val < 32768
    · exact Or.inl ⟨⟨(y 0).val / 512, by omega⟩, by show 0 + 512 * ((y 0).val / 512) ≤ _ ∧ _ < 0 + 512 * ((y 0).val / 512) + 512; omega⟩
    · exact Or.inr ⟨⟨((y 0).val - 32768) / 512, by omega⟩, by
        show 32768 + 512 * (((y 0).val - 32768) / 512) ≤ _ ∧ _ < 32768 + 512 * (((y 0).val - 32768) / 512) + 512; omega⟩
  have hu : _ ⊣⊢ _ := pointsTo_union (Ix := Unit) (Name := ℕ) (U := UU nD τ) (Lvl := ℕ) (ℓ := (c : Thread nD τ).loc main_arg1) (q := fullShare) (f := X) hd
  rw [← hc, BI.equiv_iff.mp ⟨hu.1, hu.2⟩,
    pointsTo_biUnion (ℓ := (c : Thread nD τ).loc main_arg1) (q := fullShare) (f := X) _ _ (fun b _ b' _ h => rowSet_disjoint (r := 0) y1row_inb b b' h),
    pointsTo_biUnion (ℓ := (c : Thread nD τ).loc main_arg1) (q := fullShare) (f := X) _ _ (fun b _ b' _ h => rowSet_disjoint (r := 32768) y2row_inb b b' h)]
  exact congrArg₂ BI.sep (bigSep_congr fun b _ => congrArg (fun S => (_ ↦[S]{fullShare} X : sProp 𝕄)) (View.set_slice_whole _ _).symm)
    (bigSep_congr fun b _ => congrArg (fun S => (_ ↦[S]{fullShare} X : sProp 𝕄)) (View.set_slice_whole _ _).symm)

/-! ## The buffers as slots -/

/-- A buffer held whole at some contents is its slots each at some contents, and back. -/
theorem slots_split {n : ℕ} (ℓ : Loc nD τ sig) (I : Fin n → Finset (Idx ℓ)) (hd : ∀ s s', s ≠ s' → Disjoint (I s) (I s')) (hc : Finset.univ.biUnion I = Finset.univ) :
    iprop(∃ f : Buf (Elt F) ℓ, ℓ ↦{fullShare} f) ⊢ (bigSep Finset.univ (fun s => iprop(∃ f : Buf (Elt F) ℓ, ℓ ↦[I s]{fullShare} f)) : sProp 𝕄) := by
  iintro ⟨%f, H⟩
  have h : (ℓ ↦{fullShare} f : sProp 𝕄) ⊢ bigSep Finset.univ (fun s => iprop(∃ f : Buf (Elt F) ℓ, ℓ ↦[I s]{fullShare} f)) := by
    rw [Ring.pointsTo_blocks I hd hc]
    exact bigSep_mono fun s _ => exists_intro_trans (Ψ := fun f : Buf (Elt F) ℓ => (ℓ ↦[I s]{fullShare} f : sProp 𝕄)) f .refl
  iapply h; iexact H

theorem three (P : Fin 3 → sProp 𝕄) : bigSep Finset.univ P = iprop(P 0 ∗ P 1 ∗ P 2) :=
  bigSep_univ_eq_bigSepL [(0 : Fin 3), 1, 2] (by decide) (by decide) P
theorem two (P : Fin 2 → sProp 𝕄) : bigSep Finset.univ P = iprop(P 0 ∗ P 1) :=
  bigSep_univ_eq_bigSepL [(0 : Fin 2), 1] (by decide) (by decide) P

/-- A slot's elements are its rectangle's. -/
theorem xS_set (s : Fin 3) : (xS s).view.set = slotSet s (xslot_inb s) := (View.set_reshape _ _).trans (View.set_slice_whole _ _)
theorem y1S_set (s : Fin 3) : (y1S s).view.set = slotSet s (yslot_inb s) := (View.set_reshape _ _).trans (View.set_slice_whole _ _)
theorem y2S_set (s : Fin 3) : (y2S s).view.set = slotSet s (yslot_inb s) := (View.set_reshape _ _).trans (View.set_slice_whole _ _)
theorem mS_set (s : Fin 2) : (mS s).view.set = slotSet s (mslot_inb s) := (View.set_reshape _ _).trans (View.set_slice_whole _ _)
theorem oS_set (s : Fin 2) : (oS s).view.set = slotSet s (oslot_inb s) := (View.set_reshape _ _).trans (View.set_slice_whole _ _)

/-- The slots of a buffer at anything, as the streams hold them, are the buffer's parts at anything. -/
theorem x_slots : (bigSep Finset.univ fun s => iprop(∃ f : Buf (Elt F) ((c : Thread nD τ).loc cc0_scoped0), ((c : Thread nD τ).loc cc0_scoped0) ↦[slotSet s (xslot_inb s)]{fullShare} f) : sProp 𝕄)
    = bigSep Finset.univ fun s => iprop(∃ f : Buf (Elt F) ((xS s).view.loc (c : Thread nD τ)), held c (xS s) f) :=
  bigSep_congr fun s _ => by unfold held; rw [xS_set]; rfl
theorem y1_slots : (bigSep Finset.univ fun s => iprop(∃ f : Buf (Elt F) ((c : Thread nD τ).loc cc0_scoped2), ((c : Thread nD τ).loc cc0_scoped2) ↦[slotSet s (yslot_inb s)]{fullShare} f) : sProp 𝕄)
    = bigSep Finset.univ fun s => iprop(∃ f : Buf (Elt F) ((y1S s).view.loc (c : Thread nD τ)), held c (y1S s) f) :=
  bigSep_congr fun s _ => by unfold held; rw [y1S_set]; rfl
theorem y2_slots : (bigSep Finset.univ fun s => iprop(∃ f : Buf (Elt F) ((c : Thread nD τ).loc cc0_scoped4), ((c : Thread nD τ).loc cc0_scoped4) ↦[slotSet s (yslot_inb s)]{fullShare} f) : sProp 𝕄)
    = bigSep Finset.univ fun s => iprop(∃ f : Buf (Elt F) ((y2S s).view.loc (c : Thread nD τ)), held c (y2S s) f) :=
  bigSep_congr fun s _ => by unfold held; rw [y2S_set]; rfl
theorem m_slots : (bigSep Finset.univ fun s => iprop(∃ f : Buf (Elt F) ((c : Thread nD τ).loc cc0_scoped6), ((c : Thread nD τ).loc cc0_scoped6) ↦[slotSet s (mslot_inb s)]{fullShare} f) : sProp 𝕄)
    = bigSep Finset.univ fun s => iprop(∃ f : Buf (Elt F) ((mS s).view.loc (c : Thread nD τ)), held c (mS s) f) :=
  bigSep_congr fun s _ => by unfold held; rw [mS_set]; rfl
theorem o_slots : (bigSep Finset.univ fun s => iprop(∃ f : Buf (Elt F) ((c : Thread nD τ).loc cc0_scoped8), ((c : Thread nD τ).loc cc0_scoped8) ↦[slotSet s (oslot_inb s)]{fullShare} f) : sProp 𝕄)
    = bigSep Finset.univ fun s => iprop(∃ f : Buf (Elt F) ((oS s).view.loc (c : Thread nD τ)), held c (oS s) f) :=
  bigSep_congr fun s _ => by unfold held; rw [oS_set]; rfl

/-- A buffer's slots at anything. -/
abbrev xAny (s : Fin 3) : sProp 𝕄 := iprop(∃ f : Buf (Elt F) ((xS s).view.loc (c : Thread nD τ)), held c (xS s) f)
abbrev y1Any (s : Fin 3) : sProp 𝕄 := iprop(∃ f : Buf (Elt F) ((y1S s).view.loc (c : Thread nD τ)), held c (y1S s) f)
abbrev y2Any (s : Fin 3) : sProp 𝕄 := iprop(∃ f : Buf (Elt F) ((y2S s).view.loc (c : Thread nD τ)), held c (y2S s) f)
abbrev mAny (s : Fin 2) : sProp 𝕄 := iprop(∃ f : Buf (Elt F) ((mS s).view.loc (c : Thread nD τ)), held c (mS s) f)
abbrev oAny (s : Fin 2) : sProp 𝕄 := iprop(∃ f : Buf (Elt F) ((oS s).view.loc (c : Thread nD τ)), held c (oS s) f)

theorem x_split : iprop(∃ f : Buf (Elt F) ((c : Thread nD τ).loc cc0_scoped0), ((c : Thread nD τ).loc cc0_scoped0) ↦{fullShare} f) ⊢ iprop(xAny (F := F) c 0 ∗ xAny (F := F) c 1 ∗ xAny (F := F) c 2) :=
  (slots_split _ _ (slotSet_disjoint _) (slotSet_cover _)).trans (of_eq ((x_slots c).trans (three _)))
theorem y1_split : iprop(∃ f : Buf (Elt F) ((c : Thread nD τ).loc cc0_scoped2), ((c : Thread nD τ).loc cc0_scoped2) ↦{fullShare} f) ⊢ iprop(y1Any (F := F) c 0 ∗ y1Any (F := F) c 1 ∗ y1Any (F := F) c 2) :=
  (slots_split _ _ (slotSet_disjoint _) (slotSet_cover _)).trans (of_eq ((y1_slots c).trans (three _)))
theorem y2_split : iprop(∃ f : Buf (Elt F) ((c : Thread nD τ).loc cc0_scoped4), ((c : Thread nD τ).loc cc0_scoped4) ↦{fullShare} f) ⊢ iprop(y2Any (F := F) c 0 ∗ y2Any (F := F) c 1 ∗ y2Any (F := F) c 2) :=
  (slots_split _ _ (slotSet_disjoint _) (slotSet_cover _)).trans (of_eq ((y2_slots c).trans (three _)))
theorem m_split : iprop(∃ f : Buf (Elt F) ((c : Thread nD τ).loc cc0_scoped6), ((c : Thread nD τ).loc cc0_scoped6) ↦{fullShare} f) ⊢ iprop(mAny (F := F) c 0 ∗ mAny (F := F) c 1) :=
  (slots_split _ _ (slotSet_disjoint _) (slotSet_cover _)).trans (of_eq ((m_slots c).trans (two _)))
theorem o_split : iprop(∃ f : Buf (Elt F) ((c : Thread nD τ).loc cc0_scoped8), ((c : Thread nD τ).loc cc0_scoped8) ↦{fullShare} f) ⊢ iprop(oAny (F := F) c 0 ∗ oAny (F := F) c 1) :=
  (slots_split _ _ (slotSet_disjoint _) (slotSet_cover _)).trans (of_eq ((o_slots c).trans (two _)))

theorem x_join : iprop(xAny (F := F) c 0 ∗ xAny (F := F) c 1 ∗ xAny (F := F) c 2) ⊢ iprop(∃ f : Buf (Elt F) ((c : Thread nD τ).loc cc0_scoped0), ((c : Thread nD τ).loc cc0_scoped0) ↦{fullShare} f) :=
  (of_eq ((x_slots c).trans (three _)).symm).trans (Ring.pointsTo_blocks_join_exists _ (slotSet_disjoint _) (slotSet_cover _) xBuf.view.junk)
theorem y1_join : iprop(y1Any (F := F) c 0 ∗ y1Any (F := F) c 1 ∗ y1Any (F := F) c 2) ⊢ iprop(∃ f : Buf (Elt F) ((c : Thread nD τ).loc cc0_scoped2), ((c : Thread nD τ).loc cc0_scoped2) ↦{fullShare} f) :=
  (of_eq ((y1_slots c).trans (three _)).symm).trans (Ring.pointsTo_blocks_join_exists _ (slotSet_disjoint _) (slotSet_cover _) y1Buf.view.junk)
theorem y2_join : iprop(y2Any (F := F) c 0 ∗ y2Any (F := F) c 1 ∗ y2Any (F := F) c 2) ⊢ iprop(∃ f : Buf (Elt F) ((c : Thread nD τ).loc cc0_scoped4), ((c : Thread nD τ).loc cc0_scoped4) ↦{fullShare} f) :=
  (of_eq ((y2_slots c).trans (three _)).symm).trans (Ring.pointsTo_blocks_join_exists _ (slotSet_disjoint _) (slotSet_cover _) y2Buf.view.junk)
theorem m_join : iprop(mAny (F := F) c 0 ∗ mAny (F := F) c 1) ⊢ iprop(∃ f : Buf (Elt F) ((c : Thread nD τ).loc cc0_scoped6), ((c : Thread nD τ).loc cc0_scoped6) ↦{fullShare} f) :=
  (of_eq ((m_slots c).trans (two _)).symm).trans (Ring.pointsTo_blocks_join_exists _ (slotSet_disjoint _) (slotSet_cover _) mBuf.view.junk)
theorem o_join : iprop(oAny (F := F) c 0 ∗ oAny (F := F) c 1) ⊢ iprop(∃ f : Buf (Elt F) ((c : Thread nD τ).loc cc0_scoped8), ((c : Thread nD τ).loc cc0_scoped8) ↦{fullShare} f) :=
  (of_eq ((o_slots c).trans (two _)).symm).trans (Ring.pointsTo_blocks_join_exists _ (slotSet_disjoint _) (slotSet_cover _) oBuf.view.junk)

/-! ## The result's array -/

section Result
variable (XA : Buf (Elt F) (xM.view.loc (c : Thread nD τ))) (YA : Buf (Elt F) (yM.view.loc (c : Thread nD τ)))
  (MA : Buf (Elt F) (mM.view.loc (c : Thread nD τ))) (OA : Buf (Elt F) (oM.view.loc (c : Thread nD τ)))
  (arg3 : Memref sig .tc .vmem S1x1024 .f32) (gA : Buf (Elt F) (arg3.view.loc (c : Thread nD τ)))

/-- The block an element of the result lies in. -/
def bOf (i : S32768x1024.Idx) : Fin 64 := ⟨(i 0).val / 512, by have h : (i 0).val < 32768 := (i 0).isLt; omega⟩
theorem block_of {b : Fin 64} (i : S32768x1024.Idx) (h : 0 + 512 * b.val ≤ (i 0).val ∧ (i 0).val < 0 + 512 * b.val + 512) : bOf i = b :=
  Fin.ext (by show (i 0).val / 512 = b.val; omega)
/-- The result: each element as its block's copy leaves it. -/
def result : Buf (Elt F) ((c : Thread nD τ).loc main_v1) := fun i =>
  (oB (bOf i)).view.writes (Elt F) OA [⟨Rect.whole S512x1024, outBlk c XA YA MA arg3 gA (bOf i)⟩] i

/-- The blocks written make up the result. -/
theorem o_done : (bigSep Finset.univ (oDone c XA YA MA OA arg3 gA) : sProp 𝕄) = (((c : Thread nD τ).loc main_v1) ↦{fullShare} result c XA YA MA OA arg3 gA) := by
  rw [o_blocks c (result c XA YA MA OA arg3 gA)]
  refine bigSep_congr fun b _ => ?_
  refine pointsTo_congr fun i hi => ?_
  have hi' : i ∈ rowSet (n := 32768) (w := 1024) 0 b (xrow_inb b) := by
    have e : (oB b).view.set = rowSet (n := 32768) (w := 1024) 0 b (xrow_inb b) := View.set_slice_whole _ _
    rw [← e]; exact hi
  have hi'' := (mem_rowSet 0 b (xrow_inb b) i).mp hi'
  have e : bOf i = b := block_of i hi''
  show _ = (oB (bOf i)).view.writes (Elt F) OA [⟨Rect.whole S512x1024, outBlk c XA YA MA arg3 gA (bOf i)⟩] i
  rw [e]

end Result

end Split

end Cert.Proof.Combine

end
-- ==== Proof.WholeRun.lean ====
/-
  The run of the whole program, over any float values: the result's array block by block, the arguments unchanged, every
  semaphore counter at zero; and the two frame claims.
-/
module

public import proofs.«01_k».proof.Proof.Body
public import proofs.«01_k».proof.Proof.Split
public import proofs.«01_k».proof.Proof.Gen.KernelIdeal.Frame
public import proofs.«01_k».proof.Proof.Gen.Kernel
public import proofs.«01_k».proof.Defs
public import Idealize.ShloMosaic.Adequacy
public import Idealize.ShloMosaic.Init

@[expose] public section

set_option backward.proofsInPublic true
set_option backward.isDefEq.respectTransparency.types false
set_option warn.classDefReducibility false

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (Dat BodyObligation)

variable {F : FTy → Type} [FloatOps F]

local notation "𝕄" => MT nD τ sig Unit (Elt F) ℕ (UU nD τ) ℕ

/-- The kernel's own semaphores: every one but the staged window's. -/
def osem : Fin 13 → SemLoc sig := fun j => .dma ⟨j.val + 1, by have := j.isLt; show j.val + 1 < 14; omega⟩
theorem ownSemFacts : Pipeline.OwnSemFacts spec0 osem := by decide

section Launch
variable (m : (ℓ : Loc nD τ sig) → Buf (Elt F) ℓ) (ρ : Dev nD → PrngReg)

abbrev st0 (t : Fin cfg0.N) : Memref sig .tc .vmem S1x1024 .f32 := win0_0.stage (cfg0.slots t 0)
abbrev hst0 (t : Fin cfg0.N) : (st0 t).IsWhole := hstage0_0 0

/-- The gain as the body finds it staged. -/
def gainBuf (c : Dev nD) (t : Fin cfg0.N) : Buf (Elt F) ((st0 t).view.loc (c : Thread nD τ)) := (st0 t).view.rep (Cert.KernelIdeal.Gen.iblk m c 0 t)
/-- The result's array at the end. -/
def final (c : Dev nD) : Buf (Elt F) ((c : Thread nD τ).loc main_v1) :=
  result c (V m c main_arg0) (V m c main_arg1) (V m c main_arg2) (V m c main_v1) (st0 t0_0) (gainBuf m c t0_0)

/-- The arguments' arrays as the region finds them. -/
def args (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2))
/-- The result's array before and after the body. -/
def res (c : Dev nD) (k : ℕ) : sProp 𝕄 := ((c : Thread nD τ).loc main_v1) ↦{fullShare} (if k = 0 then V m c main_v1 else final m c)
/-- The region's invariant: the arrays the pipeline streams, and the slots. -/
def Φ (c : Dev nD) (k : ℕ) : sProp 𝕄 := iprop(args m c ∗ res m c k ∗ slots (F := F) c)

def dats (_ : Fin 1) (c : Dev nD) : Dat τ (Elt F) Unit ℕ (UU nD τ) ℕ cfg0 c where
  A w := V m c (Pipeline.arrRef spec0 w)
  after w t := match w with
    | ⟨0, _⟩ => Cert.KernelIdeal.Gen.iblk m c 0 t
  Φ t := Φ m c t.val
  q _ := fullShare
  owed _ := 0

theorem before_w0 (c : Dev nD) (t : Fin cfg0.N) (d) : (dats m 0 c).before 0 t d = Cert.KernelIdeal.Gen.iblk m c 0 t := by
  unfold Dat.before; rw [if_pos (fetch0_0 t)]; unfold Dat.fetched Dat.blockOf Cert.KernelIdeal.Gen.iblk; dsimp only [dats]; rfl
theorem after_w0 (c : Dev nD) (t : Fin cfg0.N) : (dats m 0 c).after 0 t = Cert.KernelIdeal.Gen.iblk m c 0 t := by dsimp only [dats]

/-- The body's program in the table is the kernel on the staged gain. -/
theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0]
  rw [show (dats m 0 c).Φ t0_0.castSucc = Φ m c 0 from rfl, show (dats m 0 c).Φ t0_0.succ = Φ m c 1 from rfl]
  unfold Dat.owesAt Pipeline.owesWithin
  rw [show (dats m 0 c).owed t0_0.castSucc = 0 from rfl, show (dats m 0 c).owed t0_0.succ = 0 from rfl]
  unfold owns Φ args res
  rw [if_pos rfl, if_neg (by decide : ¬ (1 : ℕ) = 0)]
  iintro ⟨⟨⟨H0, H1, H2⟩, HO, HS⟩, ⟨%W, -, HW⟩, ⟨%d0, %g0, %hg0, Hg⟩⟩
  ihave Hg' := (pointsTo_rep_entails (c : Thread nD τ) (st0 t0_0) g0 fullShare) $$ Hg
  rw [hg0]
  ihave HX := (of_eq (x_blocks c (V m c main_arg0))) $$ H0
  ihave HY := (of_eq (y_blocks c (V m c main_arg1))) $$ H1
  icases HY with ⟨HY1, HY2⟩
  ihave HM := (of_eq (m_blocks c (V m c main_arg2))) $$ H2
  ihave HR := (of_eq (o_blocks c (V m c main_v1))) $$ HO
  sl_rw [prog_eq t0_0]
  iapply (bodyRun c (V m c main_arg0) (V m c main_arg1) (V m c main_arg2) (V m c main_v1) (st0 t0_0) (hst0 t0_0) (gainBuf m c t0_0) W)
  isplitl [Hg' HW HS HX HY1 HY2 HM HR]
  · isplitl [Hg']; · iexact Hg'
    isplitl [HW]; · iexact HW
    isplitl [HS]; · iexact HS
    isplitl [HX]; · iexact HX
    isplitl [HY1]; · iexact HY1
    isplitl [HY2]; · iexact HY2
    isplitl [HM]; · iexact HM
    iexact HR
  · iintro ⟨Hg, ⟨%W', HW⟩, HS, HX, HY1, HY2, HM, HR⟩
    isplitl [HS HX HY1 HY2 HM HR]
    · isplitl [HX HY1 HY2 HM]
      · isplitl [HX]; · iapply (of_eq (x_blocks c (V m c main_arg0)).symm); iexact HX
        isplitl [HY1 HY2]
        · iapply (of_eq (y_blocks c (V m c main_arg1)).symm)
          isplitl [HY1]; · iexact HY1
          iexact HY2
        iapply (of_eq (m_blocks c (V m c main_arg2)).symm); iexact HM
      isplitl [HR]
      · iapply (of_eq (o_done c (V m c main_arg0) (V m c main_arg1) (V m c main_arg2) (V m c main_v1) (st0 t0_0) (gainBuf m c t0_0))); iexact HR
      iexact HS
    isplitl [HW]
    · iexists W'; isplitr; · ipureintro; exact fun _ _ => Or.inl trivial
      iexact HW
    iexists _; isplitr; · ipureintro; exact View.read_rep _ _
    iexact Hg

/-! ## The run -/

/-- The kernel's own counters at zero, slot by slot. -/
def zeros (c : Dev nD) : sProp 𝕄 :=
  iprop((cellP (F := F) c (xC 0) ∗ cellP (F := F) c (xC 1) ∗ cellP (F := F) c (xC 2)) ∗ (cellP (F := F) c (y1C 0) ∗ cellP (F := F) c (y1C 1) ∗ cellP (F := F) c (y1C 2))
    ∗ (cellP (F := F) c (y2C 0) ∗ cellP (F := F) c (y2C 1) ∗ cellP (F := F) c (y2C 2)) ∗ (cellP (F := F) c (mC 0) ∗ cellP (F := F) c (mC 1)) ∗ (cellP (F := F) c (oC 0) ∗ cellP (F := F) c (oC 1)))

theorem thirteen (P : Fin 13 → sProp 𝕄) : bigSep Finset.univ P
    = iprop(P 0 ∗ P 1 ∗ P 2 ∗ P 3 ∗ P 4 ∗ P 5 ∗ P 6 ∗ P 7 ∗ P 8 ∗ P 9 ∗ P 10 ∗ P 11 ∗ P 12) :=
  bigSep_univ_eq_bigSepL [(0 : Fin 13), 1, 2, 3, 4, 5, 6, 7, 8, 9, 10, 11, 12] (by decide) (by decide) P
theorem ownSems0_zeros (c : Dev nD) : (Pipeline.ownSems0 (Ix := Unit) (Name := ℕ) (U := UU nD τ) (Lvl := ℕ) (Val := Elt F) (τ := τ) osem c : sProp 𝕄) ⊢ zeros (F := F) c := by
  unfold Pipeline.ownSems0 zeros
  rw [thirteen]
  iintro ⟨A0, A1, A2, B0, B1, B2, C0, C1, C2, D0, D1, E0, E1⟩
  isplitl [A0 A1 A2]
  · isplitl [A0]; · iexact A0
    isplitl [A1]; · iexact A1
    iexact A2
  isplitl [B0 B1 B2]
  · isplitl [B0]; · iexact B0
    isplitl [B1]; · iexact B1
    iexact B2
  isplitl [C0 C1 C2]
  · isplitl [C0]; · iexact C0
    isplitl [C1]; · iexact C1
    iexact C2
  isplitl [D0 D1]
  · isplitl [D0]; · iexact D0
    iexact D1
  isplitl [E0]; · iexact E0
  iexact E1
theorem zeros_ownSems0 (c : Dev nD) : zeros (F := F) c ⊢ (Pipeline.ownSems0 (Ix := Unit) (Name := ℕ) (U := UU nD τ) (Lvl := ℕ) (Val := Elt F) (τ := τ) osem c : sProp 𝕄) := by
  unfold Pipeline.ownSems0 zeros
  rw [thirteen]
  iintro ⟨⟨A0, A1, A2⟩, ⟨B0, B1, B2⟩, ⟨C0, C1, C2⟩, ⟨D0, D1⟩, ⟨E0, E1⟩⟩
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  isplitl [C2]; · iexact C2
  isplitl [D0]; · iexact D0
  isplitl [D1]; · iexact D1
  isplitl [E0]; · iexact E0
  iexact E1

theorem zip3 (P Q : Fin 3 → sProp 𝕄) : iprop((P 0 ∗ P 1 ∗ P 2) ∗ (Q 0 ∗ Q 1 ∗ Q 2)) ⊣⊢ iprop((P 0 ∗ Q 0) ∗ (P 1 ∗ Q 1) ∗ (P 2 ∗ Q 2)) := by
  constructor
  · iintro ⟨⟨A0, A1, A2⟩, ⟨B0, B1, B2⟩⟩
    isplitl [A0 B0]
    · isplitl [A0]; · iexact A0
      iexact B0
    isplitl [A1 B1]
    · isplitl [A1]; · iexact A1
      iexact B1
    isplitl [A2]; · iexact A2
    iexact B2
  · iintro ⟨⟨A0, B0⟩, ⟨A1, B1⟩, ⟨A2, B2⟩⟩
    isplitl [A0 A1 A2]
    · isplitl [A0]; · iexact A0
      isplitl [A1]; · iexact A1
      iexact A2
    isplitl [B0]; · iexact B0
    isplitl [B1]; · iexact B1
    iexact B2
theorem zip2 (P Q : Fin 2 → sProp 𝕄) : iprop((P 0 ∗ P 1) ∗ (Q 0 ∗ Q 1)) ⊣⊢ iprop((P 0 ∗ Q 0) ∗ (P 1 ∗ Q 1)) := by
  constructor
  · iintro ⟨⟨A0, A1⟩, ⟨B0, B1⟩⟩
    isplitl [A0 B0]
    · isplitl [A0]; · iexact A0
      iexact B0
    isplitl [A1]; · iexact A1
    iexact B1
  · iintro ⟨⟨A0, B0⟩, ⟨A1, B1⟩⟩
    isplitl [A0 A1]
    · isplitl [A0]; · iexact A0
      iexact A1
    isplitl [B0]; · iexact B0
    iexact B1

/-- The scratch buffers and the counters are the slots; -/
theorem slots_in (c : Dev nD) : iprop(Pipeline.scopedRest (Ix := Unit) (Name := ℕ) (U := UU nD τ) (Lvl := ℕ) (Val := Elt F) spec0 c ∗ zeros (F := F) c) ⊢ slots (F := F) c := by
  rw [scopedRest0_eq]
  unfold zeros slots
  iintro ⟨⟨HA, HB, HC, HD, HE⟩, ⟨SA, SB, SC, SD, SE⟩⟩
  ihave HA := (x_split c) $$ HA
  ihave HB := (y1_split c) $$ HB
  ihave HC := (y2_split c) $$ HC
  ihave HD := (m_split c) $$ HD
  ihave HE := (o_split c) $$ HE
  isplitl [HA SA]
  · iapply (zip3 (xAny (F := F) c) (fun s => cellP (F := F) c (xC s))).1
    isplitl [HA]; · iexact HA
    iexact SA
  isplitl [HB SB]
  · iapply (zip3 (y1Any (F := F) c) (fun s => cellP (F := F) c (y1C s))).1
    isplitl [HB]; · iexact HB
    iexact SB
  isplitl [HC SC]
  · iapply (zip3 (y2Any (F := F) c) (fun s => cellP (F := F) c (y2C s))).1
    isplitl [HC]; · iexact HC
    iexact SC
  isplitl [HD SD]
  · iapply (zip2 (mAny (F := F) c) (fun s => cellP (F := F) c (mC s))).1
    isplitl [HD]; · iexact HD
    iexact SD
  iapply (zip2 (oAny (F := F) c) (fun s => cellP (F := F) c (oC s))).1
  isplitl [HE]; · iexact HE
  iexact SE
/-- and back. -/
theorem slots_out (c : Dev nD) : slots (F := F) c ⊢ iprop(zeros (F := F) c ∗ Pipeline.scopedRest (Ix := Unit) (Name := ℕ) (U := UU nD τ) (Lvl := ℕ) (Val := Elt F) spec0 c) := by
  rw [scopedRest0_eq]
  unfold zeros slots
  iintro ⟨HA, HB, HC, HD, HE⟩
  ihave HA := (zip3 (xAny (F := F) c) (fun s => cellP (F := F) c (xC s))).2 $$ HA
  ihave HB := (zip3 (y1Any (F := F) c) (fun s => cellP (F := F) c (y1C s))).2 $$ HB
  ihave HC := (zip3 (y2Any (F := F) c) (fun s => cellP (F := F) c (y2C s))).2 $$ HC
  ihave HD := (zip2 (mAny (F := F) c) (fun s => cellP (F := F) c (mC s))).2 $$ HD
  ihave HE := (zip2 (oAny (F := F) c) (fun s => cellP (F := F) c (oC s))).2 $$ HE
  icases HA with ⟨HA, SA⟩
  icases HB with ⟨HB, SB⟩
  icases HC with ⟨HC, SC⟩
  icases HD with ⟨HD, SD⟩
  icases HE with ⟨HE, SE⟩
  isplitl [SA SB SC SD SE]
  · isplitl [SA]; · iexact SA
    isplitl [SB]; · iexact SB
    isplitl [SC]; · iexact SC
    isplitl [SD]; · iexact SD
    iexact SE
  isplitl [HA]; · iapply (x_join c); iexact HA
  isplitl [HB]; · iapply (y1_join c); iexact HB
  isplitl [HC]; · iapply (y2_join c); iexact HC
  isplitl [HD]; · iapply (m_join c); iexact HD
  iapply (o_join c); iexact HE

def intoΦ (c : Dev nD) : sProp 𝕄 := iprop(args m c ∗ res m c 0 ∗ Pipeline.ownSems0 osem c)
def outOfΦ (c : Dev nD) : sProp 𝕄 := iprop(args m c ∗ res m c 1)
def asideΦ (c : Dev nD) : sProp 𝕄 := ((c : Thread nD τ).loc main_arg3) ↦{fullShare} V m c main_arg3
def u₀ : UU nD τ := (initOf (Pipeline.cells cfgs Cert.KernelIdeal.Gen.cellOf_inj) (Pipeline.launchToks cfgs Cert.KernelIdeal.Gen.cellOf_inj), 1)
/-- What the run leaves on a core: the arguments as launched, the result's array at `final`. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ s.mem ((c : Thread nD τ).loc main_v1) = final m c

/-- Every weakly fair execution of the program terminates, with every core as `QY` says and every counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := asideΦ m)
    (hX := fun c => by
      rw [unscopedRest0_eq]
      unfold intoΦ asideΦ args res
      rw [if_pos rfl]
      iintro ⟨⟨H0, H1, H2, H3, H4⟩, HS, -, -, -⟩; imodintro
      isplitl [H0 H1 H2 H4 HS]
      · isplitl [H0 H1 H2]
        · isplitl [H0]; · iexact H0
          isplitl [H1]; · iexact H1
          iexact H2
        isplitl [H4]; · iexact H4
        iexact HS
      iexact H3)
    (hin := fun c => by
      rw [show (dats m 0 c).Φ 0 = Φ m c 0 from rfl]
      unfold intoΦ Φ
      iintro ⟨⟨HA, HR, HS⟩, Hb⟩
      ihave HS := (ownSems0_zeros c) $$ HS
      isplitl [HA]; · iexact HA
      isplitl [HR]; · iexact HR
      iapply (slots_in c)
      isplitl [Hb]; · iexact Hb
      iexact HS)
    (hout := fun c => by
      rw [show (dats m 0 c).Φ (Fin.last cfg0.N) = Φ m c 1 from rfl]
      unfold Φ outOfΦ
      iintro ⟨HA, HR, HS⟩
      ihave HS := (slots_out c) $$ HS
      icases HS with ⟨HZ, HS⟩
      isplitl [HA HR]
      · isplitl [HA]; · iexact HA
        iexact HR
      isplitl [HZ]; · iapply (zeros_ownSems0 c); iexact HZ
      iexact HS)
    (QY := QY m)
    (hY := fun c s' => by
      unfold outOfΦ asideΦ args res
      rw [if_neg (by decide : ¬ (1 : ℕ) = 0)]
      iintro ⟨⟨⟨H0, H1, H2⟩, HR⟩, H3, HSI⟩
      icombine HSI H0 gives %h0
      icombine HSI H1 gives %h1
      icombine HSI H2 gives %h2
      icombine HSI H3 gives %h3
      icombine HSI HR gives %h4
      imodintro
      isplitr
      · ipureintro
        exact ⟨⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c)⟩, Buf.eq_of_forall_mem_univ h4⟩
      iexact HSI)
    (hQ := fun _ hh hz => ⟨fun c => (hh c).2, hz⟩)

/-- The run as the frame claims say it. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3))
    ∧ r.2.sem = fun _ => 0) :=
  (θ_run defs _ _).mono (fun _ h => ⟨fun c => (h.1 c).1, h.2⟩) (run_main (F := F) m ρ)

end Launch

/-! ## The frames -/

theorem frame_ideal : Cert.quiescent_KernelIdeal := fun m ρ _ => run_frame (F := Ideal) m ρ
end Cert.Proof.Combine

end
-- ==== Proof.Frames.lean ====
/-
  The compiled program's frame: it is the idealized program's text, so its run is the same theorem read at bit patterns.
-/
module

public import proofs.«01_k».proof.Proof.WholeRun

@[expose] public section
set_option backward.proofsInPublic true
set_option backward.isDefEq.respectTransparency.types false
set_option warn.classDefReducibility false

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (Dat BodyObligation)

/-- The two programs' tables are one. -/
theorem defs₀_eq {F : FTy → Type} [FloatOps F] : (Cert.Kernel.defs₀ (F := F)) = Cert.KernelIdeal.defs₀ := by
  unfold Cert.Kernel.defs₀ Cert.KernelIdeal.defs₀
  refine congrArg Defs.onTc ?_
  funext l a
  obtain ⟨_ | n, h⟩ := l
  · rfl
  · exact absurd h (Nat.not_lt.2 (Nat.le_add_left _ _))
theorem defs_eq {F : FTy → Type} [FloatOps F] : (Cert.Kernel.defs (F := F)) = Cert.KernelIdeal.defs := congrArg (Pipeline.defs Cert.KernelIdeal.pcfgs) defs₀_eq
theorem frame_kernel : Cert.quiescent_Kernel := by
  intro m ρ _
  rw [defs_eq]
  exact run_frame (F := Bits) m ρ
end Cert.Proof.Combine
end
-- ==== Proof.Rows.lean ====
/-
  The kernel's block and the reference's row, read at an index: both are the gated sum of the token's row and its two
  expert rows, divided by its root mean square and scaled by the gain.
-/
module

public import proofs.«01_k».proof.Proof.Trip
public import Idealize.ShloMosaic.Lib.Pointwise
public import Idealize.ShloMosaic.Lib.KernelVsHost

@[expose] public section

set_option backward.proofsInPublic true
set_option backward.isDefEq.respectTransparency.types false
set_option warn.classDefReducibility false

set_option maxRecDepth 16384

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Column `q` of a row of packed words: within a tile of 256 columns the first 128 are the words' low halves, the
    last 128 their high halves. -/
def half (W : Fin 512 → BitVec 32) (q : Fin 1024) : EReal :=
  Ideal.ofBits .f32 (if _ : q.val / 128 % 2 < 1 then IntOp.shli .host (W ⟨q.val / 256 * 128 + q.val % 128, by have := q.isLt; omega⟩) 16#32
    else IntOp.andi (W ⟨q.val / 256 * 128 + q.val % 128, by have := q.isLt; omega⟩) 4294901760#32)

/-- One tile's contribution: the word and the half are the column's. -/
theorem half_lo (W : Fin 512 → BitVec 32) (q : Fin 1024) (t : ℕ) (hb : t < 512) (h : q.val / 128 % 2 < 1) (ht : t = q.val / 256 * 128 + q.val % 128) :
    Ideal.ofBits .f32 (IntOp.shli .vector (W ⟨t, hb⟩) 16#32) = half W q := by
  subst ht; unfold half; rw [dif_pos h, shli_unit .host .vector]
theorem half_hi (W : Fin 512 → BitVec 32) (q : Fin 1024) (t : ℕ) (hb : t < 512) (h : ¬ q.val / 128 % 2 < 1) (ht : t = q.val / 256 * 128 + q.val % 128) :
    Ideal.ofBits .f32 (IntOp.andi (W ⟨t, hb⟩) 4294901760#32) = half W q := by
  subst ht; unfold half; rw [dif_neg h]

/-! ## What both compute -/

section Spec
variable (X : S32768x1024.Idx → EReal) (Y : S65536x512.Idx → BitVec 32) (M : S32768x128.Idx → EReal) (g : S1024.Idx → EReal)

/-- Token `r`'s row before the norm: its own and its two expert rows, gated by the metadata's lanes 2 and 3. -/
def mixed (r : Fin 32768) (q : Fin 1024) : EReal :=
  X (ix2 r q) + (M (ix2 r 2) * half (fun t => Y (ix2 ⟨r.val, by omega⟩ t)) q + M (ix2 r 3) * half (fun t => Y (ix2 ⟨32768 + r.val, by omega⟩ t)) q)
/-- Token `r`'s result. -/
def normed (r : Fin 32768) (q : Fin 1024) : EReal :=
  mixed X Y M r q * Ideal.rsqrt (Ideal.div (∑ x : Fin 1024, mixed X Y M r x * mixed X Y M r x) (Ideal.ofBits .f32 1149239296#32) + Ideal.ofBits .f32 897988541#32) * g (ix1 q)

end Spec

/-! ## The kernel's block -/

/-- The kernel's eight pieces side by side, each a tile's low or high halves, are the columns. -/
theorem ladder (W : Fin 512 → BitVec 32) (q : Fin 1024) :
    (if h : q.val < 128 then Ideal.ofBits .f32 (IntOp.shli .vector (W ⟨q.val, by omega⟩) 16#32) else
    if h : q.val - 128 < 128 then Ideal.ofBits .f32 (IntOp.andi (W ⟨q.val - 128, by have := q.isLt; omega⟩) 4294901760#32) else
    if h : q.val - 128 - 128 < 128 then Ideal.ofBits .f32 (IntOp.shli .vector (W ⟨128 + (q.val - 128 - 128), by omega⟩) 16#32) else
    if h : q.val - 128 - 128 - 128 < 128 then Ideal.ofBits .f32 (IntOp.andi (W ⟨128 + (q.val - 128 - 128 - 128), by have := q.isLt; omega⟩) 4294901760#32) else
    if h : q.val - 128 - 128 - 128 - 128 < 128 then Ideal.ofBits .f32 (IntOp.shli .vector (W ⟨256 + (q.val - 128 - 128 - 128 - 128), by omega⟩) 16#32) else
    if h : q.val - 128 - 128 - 128 - 128 - 128 < 128 then Ideal.ofBits .f32 (IntOp.andi (W ⟨256 + (q.val - 128 - 128 - 128 - 128 - 128), by have := q.isLt; omega⟩) 4294901760#32) else
    if h : q.val - 128 - 128 - 128 - 128 - 128 - 128 < 128 then Ideal.ofBits .f32 (IntOp.shli .vector (W ⟨384 + (q.val - 128 - 128 - 128 - 128 - 128 - 128), by omega⟩) 16#32) else
    Ideal.ofBits .f32 (IntOp.andi (W ⟨384 + (q.val - 128 - 128 - 128 - 128 - 128 - 128 - 128), by have := q.isLt; omega⟩) 4294901760#32)) = half W q := by
  have hq := q.isLt
  by_cases h0 : q.val < 128
  · rw [dif_pos h0]; exact half_lo W q _ _ (by omega) (by omega)
  rw [dif_neg h0]
  by_cases h1 : q.val - 128 < 128
  · rw [dif_pos h1]; exact half_hi W q _ _ (by omega) (by omega)
  rw [dif_neg h1]
  by_cases h2 : q.val - 128 - 128 < 128
  · rw [dif_pos h2]; exact half_lo W q _ _ (by omega) (by omega)
  rw [dif_neg h2]
  by_cases h3 : q.val - 128 - 128 - 128 < 128
  · rw [dif_pos h3]; exact half_hi W q _ _ (by omega) (by omega)
  rw [dif_neg h3]
  by_cases h4 : q.val - 128 - 128 - 128 - 128 < 128
  · rw [dif_pos h4]; exact half_lo W q _ _ (by omega) (by omega)
  rw [dif_neg h4]
  by_cases h5 : q.val - 128 - 128 - 128 - 128 - 128 < 128
  · rw [dif_pos h5]; exact half_hi W q _ _ (by omega) (by omega)
  rw [dif_neg h5]
  by_cases h6 : q.val - 128 - 128 - 128 - 128 - 128 - 128 < 128
  · rw [dif_pos h6]; exact half_lo W q _ _ (by omega) (by omega)
  rw [dif_neg h6]
  exact half_hi W q _ _ (by omega) (by omega)

/-- The lane of the metadata the kernel selects, summed over the lanes, is the lane. -/
theorem lane_sum (v : Fin 128 → EReal) (l : Fin 128) :
    (∑ x : Fin 128, Scalar.select (IntOp.cmpi .eq (BitVec.ofNat 32 x.val) (BitVec.ofNat 32 l.val)) (v x) (0 : EReal)) = v l := by
  rw [Finset.sum_eq_single l]
  · have : IntOp.cmpi CmpIPredicate.eq (BitVec.ofNat 32 l.val) (BitVec.ofNat 32 l.val) = 1#1 := by simp [IntOp.cmpi]
    rw [this]; rfl
  · intro b _ hb
    have : IntOp.cmpi CmpIPredicate.eq (BitVec.ofNat 32 b.val) (BitVec.ofNat 32 l.val) = 0#1 := by
      have hne : BitVec.ofNat 32 b.val ≠ BitVec.ofNat 32 l.val := fun e => hb (Fin.ext (by
        have h := congrArg BitVec.toNat e
        have h1 := b.isLt
        have h2 := l.isLt
        rw [BitVec.toNat_ofNat, BitVec.toNat_ofNat, Nat.mod_eq_of_lt (by omega), Nat.mod_eq_of_lt (by omega)] at h
        exact h))
      show BitVec.ofBool (_ == _) = _
      rw [beq_eq_false_iff_ne.mpr hne]; rfl
    rw [this]; rfl
  · intro h; exact absurd (Finset.mem_univ _) h

theorem gate1 (v : Vec Ideal S1x512x128 .f32) (p : Fin 512) : k0_pay2 (F := Ideal) v (ix2 p 0) = v (ix3 0 p 2) := by
  pointwise [k0_pay2, k0_pay1]
  exact lane_sum (fun x => v (ix3 0 p x)) 2
theorem gate2 (v : Vec Ideal S1x512x128 .f32) (p : Fin 512) : k0_pay3 (F := Ideal) v (ix2 p 0) = v (ix3 0 p 3) := by
  pointwise [k0_pay3, k0_pay1]
  exact lane_sum (fun x => v (ix3 0 p x)) 3

/-- The first expert row, gated. -/
theorem gated1 (g : FVec Ideal S512x1 .f32) (w : Vec Ideal S1x512x512 .i32) (p : Fin 512) (q : Fin 1024) :
    k0_pay12 (F := Ideal) g (k0_pay5 (F := Ideal) w) (k0_pay7 w) (k0_pay8 w) (k0_pay9 (F := Ideal) w) (k0_pay10 w) k0_pay11 (ix2 p q)
      = g (ix2 p 0) * half (fun t => w (ix3 0 p t)) q := by
  pointwise [k0_pay12, k0_pay5, k0_pay6, k0_pay7, k0_pay8, k0_pay9, k0_pay10, k0_pay11]
  refine congrArg (g (ix2 p 0) * ·) ?_
  exact ladder (fun t => w (ix3 0 p t)) q

/-- The second expert row, unpacked. -/
def unpacked2 (w : Vec Ideal S1x512x512 .i32) : FVec Ideal S512x1024 .f32 :=
  concatenate S512x1024 1 [⟨S512x128, k0_pay15 w⟩, ⟨S512x128, k0_pay16 w⟩, ⟨S512x128, k0_pay18 w⟩, ⟨S512x128, k0_pay19 w⟩, ⟨S512x128, k0_pay21 w⟩,
    ⟨S512x128, k0_pay22 w⟩, ⟨S512x128, k0_pay24 w⟩, ⟨S512x128, bitcastToFloat .f32 (andi (k0_pay23 (F := Ideal) w) (broadcast S512x128 4294901760#32))⟩]
    concatenates_S512x128_S512x128_S512x128_S512x128_S512x128_S512x128_S512x128_S512x128_S512x1024_d1
theorem unpacked2_apply (w : Vec Ideal S1x512x512 .i32) (p : Fin 512) (q : Fin 1024) : unpacked2 w (ix2 p q) = half (fun t => w (ix3 0 p t)) q := by
  pointwise [unpacked2, k0_pay13, k0_pay14, k0_pay15, k0_pay16, k0_pay17, k0_pay18, k0_pay19, k0_pay20, k0_pay21, k0_pay22, k0_pay23, k0_pay24]
  exact ladder (fun t => w (ix3 0 p t)) q

/-- The block before its norm. -/
def mixBlk (m : Vec Ideal S1x512x128 .f32) (x : Vec Ideal S1x512x1024 .f32) (y1 y2 : Vec Ideal S1x512x512 .i32) : FVec Ideal S512x1024 .f32 :=
  addf (k0_pay4 x) (addf (k0_pay12 (k0_pay2 m) (k0_pay5 (F := Ideal) y1) (k0_pay7 y1) (k0_pay8 y1) (k0_pay9 (F := Ideal) y1) (k0_pay10 y1) k0_pay11)
    (mulf (broadcastTo S512x1024 (k0_pay3 m) broadcasts_S512x1_S512x1024) (unpacked2 y2)))
theorem mixBlk_apply (m : Vec Ideal S1x512x128 .f32) (x : Vec Ideal S1x512x1024 .f32) (y1 y2 : Vec Ideal S1x512x512 .i32) (p : Fin 512) (q : Fin 1024) :
    mixBlk m x y1 y2 (ix2 p q) = x (ix3 0 p q) + (m (ix3 0 p 2) * half (fun t => y1 (ix3 0 p t)) q + m (ix3 0 p 3) * half (fun t => y2 (ix3 0 p t)) q) := by
  rw [← gate1 m p, ← gate2 m p, ← unpacked2_apply y2 p q, ← gated1 (k0_pay2 m) y1 p q]
  pointwise [mixBlk, k0_pay4]

/-- A block's norm, scaled. -/
def normBlk (v : FVec Ideal S512x1024 .f32) (g : Vec Ideal S1x1024 .f32) : FVec Ideal S1x512x1024 .f32 :=
  shapeCast S1x512x1024 (mulf (mulf v (broadcastTo S512x1024 (rsqrt (addf (divf (shapeCast S512x1
    (multiReduction .add [1] S512 (mulf v v) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) shapeCasts_S512x1024_S1x512x1024
theorem outVal_eq (m : Vec Ideal S1x512x128 .f32) (x : Vec Ideal S1x512x1024 .f32) (y1 y2 : Vec Ideal S1x512x512 .i32) (g : Vec Ideal S1x1024 .f32) :
    outVal m x y1 y2 g = normBlk (mixBlk m x y1 y2) g := rfl
theorem normBlk_apply (v : FVec Ideal S512x1024 .f32) (g : Vec Ideal S1x1024 .f32) (p : Fin 512) (q : Fin 1024) :
    normBlk v g (ix3 0 p q) = v (ix2 p q)
      * Ideal.rsqrt (Ideal.div (∑ x : Fin 1024, v (ix2 p x) * v (ix2 p x)) (Ideal.ofBits .f32 1149239296#32) + Ideal.ofBits .f32 897988541#32) * g (ix2 0 q) := by
  pointwise [normBlk]

end Cert.Proof.Combine

end
-- ==== Proof.RefRow.lean ====
/-
  The reference's result at an index.
-/
module

public import proofs.«01_k».proof.Proof.Rows
public import proofs.«01_k».proof.Proof.Gen.ReferenceIdeal.Run
public import proofs.«01_k».proof.Defs
public import Idealize.ShloMosaic.Lib.Pointwise
public import Idealize.ShloMosaic.Lib.KernelVsHost
public import Idealize.ShloMosaic.Lib.Tactic.CleanTypes

@[expose] public section

set_option backward.proofsInPublic true
set_option backward.isDefEq.respectTransparency.types false
set_option warn.classDefReducibility false

set_option maxRecDepth 16384

noncomputable section

namespace Cert.Proof.Combine

open Cert.ReferenceIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The reference's row is the gated sum's, normed. -/
theorem ref_apply (m : (ℓ : Loc nD τ sig) → Buf (Elt Ideal) ℓ) (c : Dev nD) (r : Fin 32768) (q : Fin 1024) :
    Value.res_main_v32 (F := Ideal) m c (ix2 r q)
      = normed (m (c.tc.loc main_arg0)) (m (c.tc.loc main_arg1)) (m (c.tc.loc main_arg2)) (m (c.tc.loc main_arg3)) r q := by
  unfold Value.res_main_v32
  clean_types
  pointwise []
  rfl

/-- The reference leaves its arguments and every counter as they were. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Combine

end
-- ==== Proof.Value.lean ====
/-
  The kernel's result at an index, and the claim: at the ideal instance the kernel's result is the reference's.
-/
module

public import proofs.«01_k».proof.Proof.WholeRun
public import proofs.«01_k».proof.Proof.RefRow
public import Idealize.ShloMosaic.Lib.Pointwise

@[expose] public section

set_option backward.proofsInPublic true
set_option backward.isDefEq.respectTransparency.types false
set_option warn.classDefReducibility false

set_option maxRecDepth 16384

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Pipeline (Dat BodyObligation)

/-! ## Blocks at an index -/

/-- A block of rows of a matrix, at an index of the block. -/
theorem rows_idx {n k w : ℕ} (r : ℕ) (b : Fin 64) (h : ∀ a, rowOff r b a + (![k, w] : Fin 2 → ℕ) a ≤ (![n, w] : Fin 2 → ℕ) a) (p : Fin k) (q : Fin w)
    (i : Fin n) (hi : i.val = r + 512 * b.val + p.val) :
    (Rect.unit (s := ⟨2, ![n, w]⟩) (rowOff r b) ![k, w] h).idx (ix2 p q) = ix2 i q := by
  funext a
  refine Fin.ext ?_
  fin_cases a
  · show r + 512 * b.val + 1 * p.val = i.val; omega
  · show 0 + 1 * q.val = q.val; omega

/-- The blocks the body loads, at an index: rows of the arrays. -/
theorem x_apply (c : Dev nD) (A) (b : Fin 64) (p : Fin 512) (q : Fin 1024) (r : Fin 32768) (hr : r.val = 512 * b.val + p.val) :
    xBlk (F := Ideal) c A b (ix3 0 p q) = A (ix2 r q) := by
  pointwise [xBlk]
  exact congrArg A (rows_idx (n := 32768) 0 b (xrow_inb b) p q r (by omega))
theorem m_apply (c : Dev nD) (A) (b : Fin 64) (p : Fin 512) (q : Fin 128) (r : Fin 32768) (hr : r.val = 512 * b.val + p.val) :
    mBlk (F := Ideal) c A b (ix3 0 p q) = A (ix2 r q) := by
  pointwise [mBlk]
  exact congrArg A (rows_idx (n := 32768) 0 b (mrow_inb b) p q r (by omega))
theorem y1_apply (c : Dev nD) (A) (b : Fin 64) (p : Fin 512) (q : Fin 512) (r : Fin 65536) (hr : r.val = 512 * b.val + p.val) :
    y1Blk (F := Ideal) c A b (ix3 0 p q) = A (ix2 r q) := by
  pointwise [y1Blk]
  exact congrArg A (rows_idx (n := 65536) 0 b (y1row_inb b) p q r (by omega))
theorem y2_apply (c : Dev nD) (A) (b : Fin 64) (p : Fin 512) (q : Fin 512) (r : Fin 65536) (hr : r.val = 32768 + (512 * b.val + p.val)) :
    y2Blk (F := Ideal) c A b (ix3 0 p q) = A (ix2 r q) := by
  pointwise [y2Blk]
  exact congrArg A (rows_idx (n := 65536) 32768 b (y2row_inb b) p q r (by omega))

section
variable (m : (ℓ : Loc nD τ sig) → Buf (Elt Ideal) ℓ)
theorem g_apply (c : Dev nD) (q : Fin 1024) : gVal (F := Ideal) c (st0 t0_0) (gainBuf m c t0_0) (ix2 0 q) = m (c.tc.loc main_arg3) (ix1 q) := by
  show (st0 t0_0).view.readAt (Elt Ideal) _ _ _ = _
  rw [View.readAt_apply]
  unfold gainBuf
  rw [View.read_rep]
  unfold Cert.KernelIdeal.Gen.iblk
  rw [View.read_apply]
  have hv : V m c main_v0 = shapeCast S1x1024 (m (c.tc.loc main_arg3)) shapeCasts_S1024_S1x1024 := by
    show StableHlo.after [StableHlo.reshape main_arg3 main_v0 (rfl : (.f32 : EltTy) = .f32) shapeCasts_S1024_S1x1024] _ _ = _
    first | (after_results_simp; done) | (after_results_simp; rfl) | rfl
  have hi : ((cfg0.win 0).blk t0_0).view.emb ((Rect.unit (s := S1x1024) ![0, 0] S1x1024.size inb_S1x1024_S1x1024_0_0).toLoadRect.idx (ix2 0 q)) = (ix2 0 q : S1x1024.Idx) := by
    funext a
    refine Fin.ext ?_
    fin_cases a
    · rfl
    · have h0 : ((cfg0.win 0).rect t0_0).off (1 : Fin 2) = 0 := by first | rfl | decide
      show ((cfg0.win 0).rect t0_0).off (1 : Fin 2) + 1 * (0 + 1 * q.val) = q.val
      rw [h0]; omega
  refine (congrArg (V m c main_v0) hi).trans ?_
  rw [hv]
  pointwise []

/-- What a whole copy into a block leaves at a row. -/
theorem o_apply (b : Fin 64) (OA : (oB b).view.ty.Contents (Elt Ideal)) (w : S512x1024.Idx → Elt Ideal .f32) (i : S512x1024.Idx) :
    (oB b).view.read (Elt Ideal) ((oB b).view.writes (Elt Ideal) OA [⟨Rect.whole S512x1024, w⟩]) i = w i := by
  rw [View.read_writes_whole]
theorem o_emb (b : Fin 64) (p : Fin 512) (q : Fin 1024) (r : Fin 32768) (hr : r.val = 512 * b.val + p.val) : (oB b).view.emb (ix2 p q) = ix2 r q :=
  rows_idx (n := 32768) 0 b (xrow_inb b) p q r (by omega)

/-- An element of the result is its block's. -/
theorem result_apply (c : Dev nD) (XA YA MA OA) (arg3 : Memref sig .tc .vmem S1x1024 .f32) (gA) (b : Fin 64) (p : Fin 512) (q : Fin 1024) (r : Fin 32768)
    (hr : r.val = 512 * b.val + p.val) : result (F := Ideal) c XA YA MA OA arg3 gA (ix2 r q) = outBlk c XA YA MA arg3 gA b (ix2 p q) := by
  have hb : bOf (ix2 r q) = b := Fin.ext (by show r.val / 512 = b.val; omega)
  have h := o_apply b OA (outBlk c XA YA MA arg3 gA b) (ix2 p q)
  rw [View.read_apply, o_emb b p q r hr] at h
  refine Eq.trans ?_ h
  unfold result
  rw [hb]
  generalize outBlk c XA YA MA arg3 gA b = w
  generalize (oB b).view.writes (Elt Ideal) OA [⟨Rect.whole S512x1024, w⟩] = z
  exact eq_of_heq (cast_heq _ _).symm

/-- The kernel's result at an index. -/
theorem final_apply (c : Dev nD) (r : Fin 32768) (q : Fin 1024) :
    final m c (ix2 r q) = normed (m (c.tc.loc main_arg0)) (m (c.tc.loc main_arg1)) (m (c.tc.loc main_arg2)) (m (c.tc.loc main_arg3)) r q := by
  obtain ⟨b, p, hr⟩ : ∃ (b : Fin 64) (p : Fin 512), r.val = 512 * b.val + p.val :=
    ⟨⟨r.val / 512, by omega⟩, ⟨r.val % 512, by omega⟩, by show r.val = 512 * (r.val / 512) + r.val % 512; omega⟩
  unfold final
  rw [result_apply c _ _ _ _ _ _ b p q r hr]
  have hm : ∀ x : Fin 1024, mixBlk (mBlk c (V m c main_arg2) b) (xBlk c (V m c main_arg0) b)
      (y1Blk c (V m c main_arg1) b) (y2Blk c (V m c main_arg1) b) (ix2 p x)
      = mixed (m (c.tc.loc main_arg0)) (m (c.tc.loc main_arg1)) (m (c.tc.loc main_arg2)) r x := by
    intro x
    rw [mixBlk_apply, x_apply c _ _ _ _ r hr, m_apply c _ _ _ _ r hr, m_apply c _ _ _ _ r hr]
    rw [V_main_arg0, V_main_arg1, V_main_arg2]
    unfold mixed
    refine congrArg₂ (· + ·) rfl (congrArg₂ (· + ·) (congrArg₂ (· * ·) rfl (congrArg (half · x) (funext fun t => ?_))) (congrArg₂ (· * ·) rfl (congrArg (half · x) (funext fun t => ?_))))
    · exact y1_apply c _ _ _ _ ⟨r.val, by omega⟩ hr
    · exact y2_apply c _ _ _ _ ⟨32768 + r.val, by omega⟩ (by show 32768 + r.val = _; omega)
  unfold outBlk
  rw [outVal_eq]
  pointwise []
  rw [normBlk_apply, g_apply, hm]
  simp only [hm]
  rfl
end

theorem algebraic : Cert.algebraic_KernelIdeal_ReferenceIdeal := by
  intro m g m' g' _ hargs
  refine ⟨fun c => final m c, (θ_run _ _ _).mono (fun r h c => ⟨(h.1 c).2, (h.1 c).1⟩) (run_main (F := Ideal) m g),
    (θ_run _ _ _).mono (fun r h c => ⟨(h c).1.trans ?_, (h c).2⟩) (Cert.ReferenceIdeal.Value.run (F := Ideal) m' g')⟩
  obtain ⟨h0, h1, h2, h3⟩ := hargs c
  funext i
  have e : i = ix2 (i 0) (i 1) := eq_ix2 i
  rw [e]
  refine (ref_apply m' c (i 0) (i 1)).trans (Eq.trans ?_ (final_apply m c (i 0) (i 1)).symm)
  rw [h0, h1, h2, h3]

end Cert.Proof.Combine

end
-- ==== Proof.DenseSpec.lean ====
/-
  The second call, row by row, as plain mathematics on the extended reals: the mean over a head of 64 channels, the
  second head group's normed and gated scan, the residual row after the output projection, and the dense SwiGLU on top
  of it. Both programs' results are stated as these functions.
-/
module

public import proofs.«01_k».proof.Defs
public import Idealize.ShloMosaic.Lib.IdealHost
public import Idealize.ShloMosaic.Lib.Pipeline.ValueKit

@[expose] public section

noncomputable section

namespace Cert.Proof.Dense

open Idealize.ShloMosaic

/-- Sixty-four, the number of channels of a head, as the programs write it. -/
abbrev c64 : EReal := Ideal.ofBits .f32 1115684864#32

/-- One sixty-fourth, by which the kernel takes its head means. -/
abbrev i64 : EReal := Ideal.ofBits .f32 1015021568#32

theorem c64_eq : c64 = ((64 : ℝ) : EReal) := by
  simp [Ideal.ofBits, Ideal.ieee, -EReal.coe_mul]; norm_num

theorem i64_eq : i64 = (((1 : ℝ) / 64 : ℝ) : EReal) := by
  simp [Ideal.ofBits, Ideal.ieee, -EReal.coe_mul]; norm_num

/-- Dividing by sixty-four is multiplying by one sixty-fourth, whatever the dividend. -/
theorem div_c64 (x : EReal) : Ideal.div x c64 = x * i64 := by
  have h : c64 ≠ 0 := by rw [c64_eq]; exact_mod_cast (by norm_num : (64 : ℝ) ≠ 0)
  unfold Ideal.div
  rw [if_neg h, c64_eq, i64_eq, ← EReal.coe_inv]
  norm_num

/-- Multiplying by one sixty-fourth goes under a sum, infinities included. -/
theorem sum_mul_i64 {n : ℕ} (f : Fin n → EReal) : ∑ t, f t * i64 = (∑ t, f t) * i64 := by
  have h0 : (0 : EReal) ≤ i64 := by rw [i64_eq]; exact_mod_cast (by norm_num : (0 : ℝ) ≤ 1 / 64)
  have ht : i64 ≠ ⊤ := by rw [i64_eq]; exact EReal.coe_ne_top _
  have key : ∀ s : Finset (Fin n), ∑ t ∈ s, f t * i64 = (∑ t ∈ s, f t) * i64 := by
    intro s
    induction s using Finset.cons_induction with
    | empty => simp
    | cons a s ha ih =>
      rw [Finset.sum_cons, Finset.sum_cons, ih, EReal.right_distrib_of_nonneg_of_ne_top h0 ht]
  exact key _

/-- Place `t` of the head that channel `k` belongs to. -/
abbrev mate (k : Fin 512) (t : Fin 64) : Fin 512 := ⟨k.val / 64 * 64 + t.val, by omega⟩

/-- The mean of a row over the head of channel `k`. -/
def mean (f : Fin 512 → EReal) (k : Fin 512) : EReal := Ideal.div (∑ t : Fin 64, f (mate k t)) c64

/-- The mean is the same at every channel of a head. -/
theorem mean_mate (f : Fin 512 → EReal) (k : Fin 512) (t : Fin 64) : mean f (mate k t) = mean f k := by
  unfold mean mate
  simp only [show (k.val / 64 * 64 + t.val) / 64 = k.val / 64 by omega]

/-- A sum over 256 channels that keeps those of one head, each taken at one sixty-fourth, is that head's mean. -/
theorem pooled (f : Fin 256 → EReal) (j : Fin 256) :
    (∑ x : Fin 256, if x.val / 64 = j.val / 64 then f x * i64 else 0)
      = Ideal.div (∑ t : Fin 64, f ⟨j.val / 64 * 64 + t.val, by omega⟩) c64 := by
  rw [div_c64, ← sum_mul_i64, ← Fin.sum_mul_add_fin 4 64, Finset.sum_eq_single (⟨j.val / 64, by omega⟩ : Fin 4)]
  · exact Finset.sum_congr rfl fun t _ => if_pos (by simp only []; omega)
  · intro a _ ha
    refine Finset.sum_eq_zero fun t _ => if_neg fun h => ha (Fin.ext ?_)
    simp only [] at h ⊢
    omega
  · exact fun h => absurd (Finset.mem_univ _) h

/-- The second head group's row: normed head by head with weight and bias, given its bonus, then its gate. -/
def gated (v w b bo g : Fin 512 → EReal) (k : Fin 512) : EReal :=
  ((v k - mean v k) * Ideal.rsqrt (Ideal.div (∑ t : Fin 64, (v (mate k t) - mean v k) * (v (mate k t) - mean v k)) c64
      + Ideal.ofBits .f32 975685036#32) * w k + b k + bo k) * g k

/-- The residual row after the output projection: the first group's rows meet the upper half of the weight, the second
group's gated rows the lower half. -/
def projected (x : Fin 1024 → EReal) (gm v w b bo g : Fin 512 → EReal) (wt wl : Fin 512 → Fin 1024 → EReal) (q : Fin 1024) :
    EReal :=
  x q + (∑ k, gm k * wt k q + ∑ k, gated v w b bo g k * wl k q)

/-- A row under its RMS norm and gain. -/
def scaled (x gain : Fin 1024 → EReal) (q : Fin 1024) : EReal :=
  x q * Ideal.rsqrt (Ideal.div (∑ p, x p * x p) (Ideal.ofBits .f32 1149239296#32) + Ideal.ofBits .f32 897988541#32) * gain q

/-- The dense SwiGLU with its residual. -/
def swiglu (x gain : Fin 1024 → EReal) (wg wu : Fin 1024 → Fin 2816 → EReal) (wd : Fin 2816 → Fin 1024 → EReal)
    (q : Fin 1024) : EReal :=
  x q + ∑ f, (∑ p, scaled x gain p * wg p f) * Ideal.logistic (∑ p, scaled x gain p * wg p f)
      * (∑ p, scaled x gain p * wu p f) * wd f q

end Cert.Proof.Dense

end
-- ==== Proof.DenseBlock.lean ====
/-
  One half block of the second call: what the kernel's payloads compute for 512 rows, row by row. The kernel takes a head
  mean by a product with a matrix that holds one sixty-fourth where two channels share a head and zero elsewhere.
-/
module

public import proofs.«01_k».proof.Proof.Gen.Kernel2Ideal.Skeleton
public import proofs.«01_k».proof.Proof.DenseSpec
public import Idealize.ShloMosaic.Lib.Pointwise
public import Idealize.ShloMosaic.Lib.Tactic.CleanTypes

@[expose] public section

set_option backward.isDefEq.respectTransparency.types false
set_option maxRecDepth 16384

noncomputable section

namespace Cert.Proof.Dense

open Cert.Kernel2Ideal Cert.Kernel2Ideal.Gen
open Idealize.ShloMosaic Idealize.ShloMosaic.TcCoe Idealize.ShloMosaic.Tactic

/-- A row's head number, as the kernel computes it. -/
theorem head_row (a b : Fin 256) : k0_pay2 (ix2 a b) = BitVec.ofNat 32 (a.val / 64) := by
  pointwise [k0_pay2]
  revert a
  decide +kernel

/-- A column's head number, as the kernel computes it. -/
theorem head_col (a b : Fin 256) :
    Scalar.select (IntOp.andi (k0_pay4 (ix2 a b)) (IntOp.cmpi CmpIPredicate.ne (k0_pay5 (ix2 a b)) 0#32))
      (IntOp.subi (k0_pay3 (ix2 a b)) 1#32) (k0_pay3 (ix2 a b)) = BitVec.ofNat 32 (b.val / 64) := by
  pointwise [k0_pay3, k0_pay4, k0_pay5]
  revert b
  decide +kernel

/-- Head numbers are told apart as words as they are as numbers. -/
theorem head_eq (a b : Fin 256) :
    (IntOp.cmpi CmpIPredicate.eq (BitVec.ofNat 32 (a.val / 64)) (BitVec.ofNat 32 (b.val / 64)) = 1)
      ↔ a.val / 64 = b.val / 64 := by
  have h : ∀ x y : Fin 4, (IntOp.cmpi CmpIPredicate.eq (BitVec.ofNat 32 x.val) (BitVec.ofNat 32 y.val) = 1)
      ↔ x.val = y.val := by decide +kernel
  exact h ⟨a.val / 64, by omega⟩ ⟨b.val / 64, by omega⟩

/-- A summand picked by head numbers. -/
theorem pick (a b : Fin 256) (e : EReal) :
    Scalar.select (IntOp.cmpi CmpIPredicate.eq (k0_pay2 (ix2 a b))
      (Scalar.select (IntOp.andi (k0_pay4 (ix2 a b)) (IntOp.cmpi CmpIPredicate.ne (k0_pay5 (ix2 a b)) 0#32))
        (IntOp.subi (k0_pay3 (ix2 a b)) 1#32) (k0_pay3 (ix2 a b)))) e 0
      = if a.val / 64 = b.val / 64 then e else 0 := by
  rw [head_col, head_row]
  unfold Scalar.select
  exact if_congr (head_eq a b) rfl rfl

/-- The kernel's head mean of a channel among the first 256. -/
def low (v : Vec Ideal S512x512 .f32) (i : Fin 512) (j : Fin 256) : EReal :=
  ∑ x : Fin 256, if x.val / 64 = j.val / 64 then v (ix2 i ⟨x.val, by omega⟩) * i64 else 0

/-- The kernel's head mean of a channel among the last 256. -/
def high (v : Vec Ideal S512x512 .f32) (i : Fin 512) (j : Fin 256) : EReal :=
  ∑ x : Fin 256, if x.val / 64 = j.val / 64 then v (ix2 i ⟨256 + x.val, by omega⟩) * i64 else 0

/-- The former is the head's mean. -/
theorem low_eq (v : Vec Ideal S512x512 .f32) (i : Fin 512) (j : Fin 256) :
    low v i j = mean (fun k => v (ix2 i k)) ⟨j.val, by omega⟩ :=
  pooled (fun x => v (ix2 i ⟨x.val, by omega⟩)) j

/-- So is the latter. -/
theorem high_eq (v : Vec Ideal S512x512 .f32) (i : Fin 512) (j : Fin 256) :
    high v i j = mean (fun k => v (ix2 i k)) ⟨256 + j.val, by omega⟩ := by
  refine (pooled (fun x => v (ix2 i ⟨256 + x.val, by omega⟩)) j).trans ?_
  unfold mean
  refine congrArg (Ideal.div · c64) (Finset.sum_congr rfl fun t _ => congrArg (fun k => v (ix2 i k)) (Fin.ext ?_))
  simp only [mate]
  omega

/-- The second head group's rows, normed and gated. -/
theorem gated_apply (v : Vec Ideal S512x512 .f32) (w b : Vec Ideal S1x512 .f32) (bo g : Vec Ideal S512x512 .bf16)
    (i j : Fin 512) :
    k0_pay6 (F := Ideal) v k0_pay2 k0_pay3 k0_pay4 k0_pay5 w b bo g (ix2 i j)
      = gated (fun k => v (ix2 i k)) (fun k => w (ix2 0 k)) (fun k => b (ix2 0 k)) (fun k => bo (ix2 i k))
          (fun k => g (ix2 i k)) j := by
  pointwise [k0_pay6]
  simp only [pick]
  by_cases h : j.val < 256
  · rw [dif_pos h, dif_pos h]
    refine Eq.trans (b := ((v (ix2 i j) - low v i ⟨j.val, h⟩) * Ideal.rsqrt ((∑ x : Fin 256,
      if x.val / 64 = (⟨j.val, h⟩ : Fin 256).val / 64 then (v (ix2 i ⟨x.val, by omega⟩) - low v i x)
        * (v (ix2 i ⟨x.val, by omega⟩) - low v i x) * i64 else 0) + Ideal.ofBits .f32 975685036#32) * w (ix2 0 j)
        + b (ix2 0 j) + bo (ix2 i j)) * g (ix2 i j)) rfl ?_
    rw [pooled (fun x => (v (ix2 i ⟨x.val, by omega⟩) - low v i x) * (v (ix2 i ⟨x.val, by omega⟩) - low v i x)) ⟨j.val, h⟩]
    simp only [low_eq]
    have e : ∀ t : Fin 64, mean (fun k => v (ix2 i k)) ⟨j.val / 64 * 64 + t.val, by omega⟩
        = mean (fun k => v (ix2 i k)) j := fun t => mean_mate _ j t
    simp only [e]
    rfl
  · rw [dif_neg h, dif_neg h]
    have hj : j.val - 256 < 256 := by omega
    refine Eq.trans (b := ((v (ix2 i j) - high v i ⟨j.val - 256, hj⟩) * Ideal.rsqrt ((∑ x : Fin 256,
      if x.val / 64 = (⟨j.val - 256, hj⟩ : Fin 256).val / 64 then (v (ix2 i ⟨256 + x.val, by omega⟩) - high v i x)
        * (v (ix2 i ⟨256 + x.val, by omega⟩) - high v i x) * i64 else 0) + Ideal.ofBits .f32 975685036#32) * w (ix2 0 j)
        + b (ix2 0 j) + bo (ix2 i j)) * g (ix2 i j)) rfl ?_
    rw [pooled (fun x => (v (ix2 i ⟨256 + x.val, by omega⟩) - high v i x) * (v (ix2 i ⟨256 + x.val, by omega⟩) - high v i x))
      ⟨j.val - 256, hj⟩]
    simp only [high_eq]
    have p : ∀ (t : Fin 64) (ht : 256 + ((j.val - 256) / 64 * 64 + t.val) < 512),
        (⟨256 + ((j.val - 256) / 64 * 64 + t.val), ht⟩ : Fin 512) = mate j t :=
      fun t ht => Fin.ext (by simp only [mate]; omega)
    have o : ∀ hj : 256 + (j.val - 256) < 512, (⟨256 + (j.val - 256), hj⟩ : Fin 512) = j := fun hj => Fin.ext (by simp only []; omega)
    simp only [p, o, mean_mate]
    rfl

/-- The rows after the output projection. -/
theorem proj_apply (y : Vec Ideal S512x512 .f32) (x : Vec Ideal S512x1024 .f32) (gm : Vec Ideal S512x512 .bf16)
    (wt wl : Vec Ideal S512x1024 .bf16) (i : Fin 512) (q : Fin 1024) :
    k0_pay7 (F := Ideal) y x gm wt wl (ix2 i q)
      = x (ix2 i q) + (∑ k, gm (ix2 i k) * wt (ix2 k q) + ∑ k, y (ix2 i k) * wl (ix2 k q)) := by
  pointwise [k0_pay7]
  exact add_assoc _ _ _

/-- The dense SwiGLU on those rows. -/
theorem swiglu_apply (x : Vec Ideal S512x1024 .f32) (gain : Vec Ideal S1x1024 .f32) (wg wu : Vec Ideal S1024x2816 .bf16)
    (wd : Vec Ideal S2816x1024 .bf16) (i : Fin 512) (q : Fin 1024) :
    k0_pay19 (F := Ideal) x (k0_pay18 x gain) wg wu wd (ix2 i q)
      = swiglu (fun p => x (ix2 i p)) (fun p => gain (ix2 0 p)) (fun p f => wg (ix2 p f)) (fun p f => wu (ix2 p f))
          (fun f p => wd (ix2 f p)) q := by
  pointwise [k0_pay19, k0_pay18]
  rfl

end Cert.Proof.Dense

end
-- ==== Proof.DenseRows.lean ====
/-
  A block of the second call: its 1024 rows, stored in two halves, are the dense SwiGLU of the projected rows.
-/
module

public import proofs.«01_k».proof.Proof.Gen.Kernel2Ideal.Frame
public import proofs.«01_k».proof.Proof.DenseBlock

@[expose] public section

set_option backward.isDefEq.respectTransparency.types false
set_option maxRecDepth 16384

noncomputable section

namespace Cert.Proof.Dense

open Cert.Kernel2Ideal Cert.Kernel2Ideal.Gen
open Idealize.ShloMosaic Idealize.ShloMosaic.TcCoe Idealize.ShloMosaic.Tactic

/-- The first 512 rows, from what the kernel loads. -/
theorem half_apply (x : Vec Ideal S512x1024 .f32) (gm : Vec Ideal S512x512 .bf16) (v : Vec Ideal S512x512 .f32)
    (bo g : Vec Ideal S512x512 .bf16) (w b : Vec Ideal S1x512 .f32) (wt wl : Vec Ideal S512x1024 .bf16)
    (gain : Vec Ideal S1x1024 .f32) (wg wu : Vec Ideal S1024x2816 .bf16) (wd : Vec Ideal S2816x1024 .bf16)
    (i : Fin 512) (q : Fin 1024) :
    k0_pay19 (F := Ideal) (k0_pay7 (k0_pay6 v k0_pay2 k0_pay3 k0_pay4 k0_pay5 w b bo g) x gm wt wl)
        (k0_pay18 (k0_pay7 (k0_pay6 v k0_pay2 k0_pay3 k0_pay4 k0_pay5 w b bo g) x gm wt wl) gain) wg wu wd (ix2 i q)
      = swiglu (projected (fun p => x (ix2 i p)) (fun k => gm (ix2 i k)) (fun k => v (ix2 i k)) (fun k => w (ix2 0 k))
          (fun k => b (ix2 0 k)) (fun k => bo (ix2 i k)) (fun k => g (ix2 i k)) (fun k p => wt (ix2 k p))
          (fun k p => wl (ix2 k p))) (fun p => gain (ix2 0 p)) (fun p f => wg (ix2 p f)) (fun p f => wu (ix2 p f))
          (fun f p => wd (ix2 f p)) q := by
  rw [swiglu_apply]
  refine congrArg (fun r => swiglu r _ _ _ _ q) (funext fun p => ?_)
  rw [proj_apply]
  simp only [gated_apply]
  rfl

/-- The last 512 rows go through payloads cut elsewhere; they compute the same. -/
theorem second_half (x : Vec Ideal S512x1024 .f32) (gm : Vec Ideal S512x512 .bf16) (v : Vec Ideal S512x512 .f32)
    (bo g : Vec Ideal S512x512 .bf16) (w b : Vec Ideal S1x512 .f32) (wt wl : Vec Ideal S512x1024 .bf16) :
    k0_pay17 (F := Ideal) (k0_pay11 w) (k0_pay12 b)
        (k0_pay13 v k0_pay8 (iota .tc S256x256 32 [1] iota_S256x256_d1_w32) 64#32 k0_pay9)
        (k0_pay15 v k0_pay8 (iota .tc S256x256 32 [1] iota_S256x256_d1_w32) 64#32 k0_pay9)
        (k0_pay16 v k0_pay8 (iota .tc S256x256 32 [1] iota_S256x256_d1_w32) 64#32 k0_pay9) bo g x gm wt wl
      = k0_pay7 (k0_pay6 v k0_pay2 k0_pay3 k0_pay4 k0_pay5 w b bo g) x gm wt wl := rfl

/-- So does the SwiGLU on them. -/
theorem second_swiglu (x : Vec Ideal S512x1024 .f32) (gain : Vec Ideal S1x1024 .f32) (wg wu : Vec Ideal S1024x2816 .bf16)
    (wd : Vec Ideal S2816x1024 .bf16) :
    k0_pay1 (F := Ideal) x (k0_pay20 x gain) (k0_pay21 x gain wg) (k0_pay22 wu) wd
      = k0_pay19 x (k0_pay18 x gain) wg wu wd := rfl

/-- An index of a unit rectangle of rows, placed. -/
theorem at_rows {n k w : ℕ} (r : ℕ) (h : ∀ a, (![r, 0] : Fin 2 → ℕ) a + (![k, w] : Fin 2 → ℕ) a ≤ (![n, w] : Fin 2 → ℕ) a)
    (p : Fin k) (q : Fin w) (i : Fin n) (hi : i.val = r + p.val) :
    (Rect.unit (s := ⟨2, ![n, w]⟩) ![r, 0] ![k, w] h).idx (ix2 p q) = ix2 i q := by
  funext a
  refine Fin.ext ?_
  fin_cases a
  · show r + 1 * p.val = i.val; omega
  · show 0 + 1 * q.val = q.val; omega

/-- The dense SwiGLU of a projected row depends on its operands only. -/
theorem same_swiglu {x x' gain gain' : Fin 1024 → EReal} {gm gm' v v' w w' b b' bo bo' g g' : Fin 512 → EReal}
    {wt wt' wl wl' : Fin 512 → Fin 1024 → EReal} {wg wg' wu wu' : Fin 1024 → Fin 2816 → EReal}
    {wd wd' : Fin 2816 → Fin 1024 → EReal} (hx : x = x') (hgm : gm = gm') (hv : v = v') (hw : w = w') (hb : b = b')
    (hbo : bo = bo') (hg : g = g') (hwt : wt = wt') (hwl : wl = wl') (hgain : gain = gain') (hwg : wg = wg')
    (hwu : wu = wu') (hwd : wd = wd') (q : Fin 1024) :
    swiglu (projected x gm v w b bo g wt wl) gain wg wu wd q
      = swiglu (projected x' gm' v' w' b' bo' g' wt' wl') gain' wg' wu' wd' q := by
  subst hx hgm hv hw hb hbo hg hwt hwl hgain hwg hwu hwd
  rfl

/-- A row of a block's result. -/
def row (x0 : Vec Ideal S1024x1024 .f32) (x1 : Vec Ideal S1024x512 .bf16) (x2 : Vec Ideal S1024x512 .f32)
    (x3 x4 : Vec Ideal S1024x512 .bf16) (x5 x6 : Vec Ideal S1x512 .f32) (x7 x8 : Vec Ideal S512x1024 .bf16)
    (x9 : Vec Ideal S1x1024 .f32) (x10 x11 : Vec Ideal S1024x2816 .bf16) (x12 : Vec Ideal S2816x1024 .bf16)
    (i q : Fin 1024) : EReal :=
  swiglu (projected (fun p => x0 (ix2 i p)) (fun k => x1 (ix2 i k)) (fun k => x2 (ix2 i k)) (fun k => x5 (ix2 0 k))
    (fun k => x6 (ix2 0 k)) (fun k => x3 (ix2 i k)) (fun k => x4 (ix2 i k)) (fun k p => x7 (ix2 k p))
    (fun k p => x8 (ix2 k p))) (fun p => x9 (ix2 0 p)) (fun p f => x10 (ix2 p f)) (fun p f => x11 (ix2 p f))
    (fun f p => x12 (ix2 f p)) q

/-- What the body leaves in the result's block, at a row and a column. -/
theorem block_apply (x0 : Vec Ideal S1024x1024 .f32) (x1 : Vec Ideal S1024x512 .bf16) (x2 : Vec Ideal S1024x512 .f32)
    (x3 x4 : Vec Ideal S1024x512 .bf16) (x5 x6 : Vec Ideal S1x512 .f32) (x7 x8 : Vec Ideal S512x1024 .bf16)
    (x9 : Vec Ideal S1x1024 .f32) (x10 x11 : Vec Ideal S1024x2816 .bf16) (x12 : Vec Ideal S2816x1024 .bf16)
    (i q : Fin 1024) :
    out0_13 (F := Ideal) x0 x1 x2 x3 x4 x5 x6 x7 x8 x9 x10 x11 x12 (ix2 i q)
      = row x0 x1 x2 x3 x4 x5 x6 x7 x8 x9 x10 x11 x12 i q := by
  have e1 : ∀ k : Fin 512, r0_1.idx (ix2 (0 : Fin 1) k) = (ix2 0 k : S1x512.Idx) := fun k => at_rows 0 _ _ _ _ rfl
  have e3 : ∀ (k : Fin 512) (p : Fin 1024), r0_3.idx (ix2 k p) = (ix2 k p : S512x1024.Idx) :=
    fun k p => at_rows 0 _ _ _ _ (by omega)
  have e6 : ∀ p : Fin 1024, r0_6.idx (ix2 (0 : Fin 1) p) = (ix2 0 p : S1x1024.Idx) := fun p => at_rows 0 _ _ _ _ rfl
  have e7 : ∀ (p : Fin 1024) (f : Fin 2816), r0_7.idx (ix2 p f) = (ix2 p f : S1024x2816.Idx) :=
    fun p f => at_rows 0 _ _ _ _ (by omega)
  have e8 : ∀ (f : Fin 2816) (p : Fin 1024), r0_8.idx (ix2 f p) = (ix2 f p : S2816x1024.Idx) :=
    fun f p => at_rows 0 _ _ _ _ (by omega)
  refine View.canon_apply_of_pieces (Val := Elt Ideal) (S := S1024x1024) (e := .f32)
    (fun y => row x0 x1 x2 x3 x4 x5 x6 x7 x8 x9 x10 x11 x12 (y 0) (y 1)) _ ?_ (ix2 i q) (cover0_13 _ _ _)
  refine List.forall_mem_cons.mpr ⟨fun y => ?_, List.forall_mem_cons.mpr ⟨fun y => ?_, fun _ h => absurd h (List.not_mem_nil)⟩⟩
  · obtain ⟨a, b, rfl⟩ : ∃ (a : Fin 512) (b : Fin 1024), y = ix2 a b := ⟨y 0, y 1, eq_ix2 y⟩
    have hb : r0_5.emb (ix2 a b) = (ix2 ⟨512 + a.val, by omega⟩ b : S1024x1024.Idx) := at_rows 512 _ _ _ _ rfl
    have e4 : ∀ k : Fin 512, r0_4.idx (ix2 a k) = (ix2 ⟨512 + a.val, by omega⟩ k : S1024x512.Idx) := fun k => at_rows 512 _ _ _ _ rfl
    have e5 : ∀ p : Fin 1024, r0_5.idx (ix2 a p) = (ix2 ⟨512 + a.val, by omega⟩ p : S1024x1024.Idx) := fun p => at_rows 512 _ _ _ _ rfl
    refine Eq.trans ?_ (congrArg (fun y : S1024x1024.Idx => row x0 x1 x2 x3 x4 x5 x6 x7 x8 x9 x10 x11 x12 (y 0) (y 1)) hb.symm)
    refine (congrFun (second_swiglu _ _ _ _ _) (ix2 a b)).trans ?_
    unfold k0_pay27 k0_pay26 k0_pay25 k0_pay23
    rw [second_half]
    refine (half_apply _ _ _ _ _ _ _ _ _ _ _ _ _ a b).trans ?_
    exact same_swiglu (funext fun p => congrArg x0 (e5 p)) (funext fun k => congrArg x1 (e4 k)) (funext fun k => congrArg x2 (e4 k))
      (funext fun k => congrArg x5 (e1 k)) (funext fun k => congrArg x6 (e1 k)) (funext fun k => congrArg x3 (e4 k))
      (funext fun k => congrArg x4 (e4 k)) (funext₂ fun k p => congrArg x7 (e3 k p)) (funext₂ fun k p => congrArg x8 (e3 k p))
      (funext fun p => congrArg x9 (e6 p)) (funext₂ fun p f => congrArg x10 (e7 p f)) (funext₂ fun p f => congrArg x11 (e7 p f))
      (funext₂ fun f p => congrArg x12 (e8 f p)) b
  · obtain ⟨a, b, rfl⟩ : ∃ (a : Fin 512) (b : Fin 1024), y = ix2 a b := ⟨y 0, y 1, eq_ix2 y⟩
    have hb : r0_2.emb (ix2 a b) = (ix2 ⟨a.val, by omega⟩ b : S1024x1024.Idx) := at_rows 0 _ _ _ _ (Nat.zero_add _).symm
    have e0 : ∀ k : Fin 512, r0_0.idx (ix2 a k) = (ix2 ⟨a.val, by omega⟩ k : S1024x512.Idx) :=
      fun k => at_rows 0 _ _ _ _ (Nat.zero_add _).symm
    have e2 : ∀ p : Fin 1024, r0_2.idx (ix2 a p) = (ix2 ⟨a.val, by omega⟩ p : S1024x1024.Idx) :=
      fun p => at_rows 0 _ _ _ _ (Nat.zero_add _).symm
    refine Eq.trans ?_ (congrArg (fun y : S1024x1024.Idx => row x0 x1 x2 x3 x4 x5 x6 x7 x8 x9 x10 x11 x12 (y 0) (y 1)) hb.symm)
    unfold k0_pay24
    refine (half_apply _ _ _ _ _ _ _ _ _ _ _ _ _ a b).trans ?_
    exact same_swiglu (funext fun p => congrArg x0 (e2 p)) (funext fun k => congrArg x1 (e0 k)) (funext fun k => congrArg x2 (e0 k))
      (funext fun k => congrArg x5 (e1 k)) (funext fun k => congrArg x6 (e1 k)) (funext fun k => congrArg x3 (e0 k))
      (funext fun k => congrArg x4 (e0 k)) (funext₂ fun k p => congrArg x7 (e3 k p)) (funext₂ fun k p => congrArg x8 (e3 k p))
      (funext fun p => congrArg x9 (e6 p)) (funext₂ fun p f => congrArg x10 (e7 p f)) (funext₂ fun p f => congrArg x11 (e7 p f))
      (funext₂ fun f p => congrArg x12 (e8 f p)) b

end Cert.Proof.Dense

end
-- ==== Proof.DenseRef.lean ====
/-
  The second call's reference, read at an index: it is the dense SwiGLU of the projected row.
-/
module

public import proofs.«01_k».proof.Proof.Gen.Reference2Ideal.Run
public import proofs.«01_k».proof.Proof.DenseSpec
public import Idealize.ShloMosaic.Lib.Pointwise
public import Idealize.ShloMosaic.Lib.Tactic.CleanTypes

@[expose] public section

set_option backward.isDefEq.respectTransparency.types false
set_option maxRecDepth 16384

noncomputable section

namespace Cert.Proof.Dense

open Cert.Reference2Ideal
open Idealize.ShloMosaic Idealize.ShloMosaic.TcCoe Idealize.ShloMosaic.Tactic

/-- A channel is its head's first channel and its place in the head. -/
theorem own_place (k : Fin 512) (h : k.val / 64 * 64 + k.val % 64 < 512) :
    (⟨k.val / 64 * 64 + k.val % 64, h⟩ : Fin 512) = k := Fin.ext (by simp only []; omega)

/-- The reference's result at a row and a column. -/
theorem ref_apply (m : (ℓ : Loc nD τ sig) → Buf (Elt Ideal) ℓ) (c : Dev nD) (r : Fin 32768) (q : Fin 1024) :
    Value.res_main_v52 (F := Ideal) m c (ix2 r q)
      = swiglu
          (projected (fun p => m (c.tc.loc main_arg0) (ix2 r p)) (fun k => m (c.tc.loc main_arg1) (ix2 r k))
            (fun k => m (c.tc.loc main_arg2) (ix2 r k)) (fun k => m (c.tc.loc main_arg5) (ix1 k))
            (fun k => m (c.tc.loc main_arg6) (ix1 k)) (fun k => m (c.tc.loc main_arg3) (ix2 r k))
            (fun k => m (c.tc.loc main_arg4) (ix2 r k))
            (fun k p => m (c.tc.loc main_arg7) (ix2 ⟨k.val, by omega⟩ p))
            (fun k p => m (c.tc.loc main_arg7) (ix2 ⟨512 + k.val, by omega⟩ p)))
          (fun p => m (c.tc.loc main_arg8) (ix1 p)) (fun p f => m (c.tc.loc main_arg9) (ix2 p f))
          (fun p f => m (c.tc.loc main_arg10) (ix2 p f)) (fun f p => m (c.tc.loc main_arg11) (ix2 f p)) q := by
  unfold Value.res_main_v52
  clean_types
  pointwise []
  simp only [own_place]
  rfl

end Cert.Proof.Dense

end
-- ==== Proof.DenseValue.lean ====
/-
  The second call's value: the blocks of the arrays at their rows, the result array from its blocks, and the claim that
  the kernel's result is the reference's.
-/
module

public import proofs.«01_k».proof.Proof.DenseRows
public import proofs.«01_k».proof.Proof.DenseRef

@[expose] public section

set_option backward.isDefEq.respectTransparency.types false
set_option maxRecDepth 16384

noncomputable section

namespace Cert.Proof.Dense

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ) (c : Dev nD)

/-- The arrays the host prepares, at an index. -/
theorem lnw_apply (k : Fin 512) : V m c main_v1 (ix2 (0 : Fin 1) k) = m (c.tc.loc main_arg5) (ix1 k) := by
  have hv : V m c main_v1 = shapeCast S1x512 (m (c.tc.loc main_arg5)) shapeCasts_S512_S1x512 := by
    show StableHlo.after hostOps0 _ _ = _
    first | (after_results_simp; done) | (after_results_simp; rfl) | rfl
  rw [hv]
  pointwise []
theorem lnb_apply (k : Fin 512) : V m c main_v2 (ix2 (0 : Fin 1) k) = m (c.tc.loc main_arg6) (ix1 k) := by
  have hv : V m c main_v2 = shapeCast S1x512 (m (c.tc.loc main_arg6)) shapeCasts_S512_S1x512 := by
    show StableHlo.after hostOps0 _ _ = _
    first | (after_results_simp; done) | (after_results_simp; rfl) | rfl
  rw [hv]
  pointwise []
theorem wt_apply (k : Fin 512) (p : Fin 1024) : V m c main_v3 (ix2 k p) = m (c.tc.loc main_arg7) (ix2 ⟨k.val, by omega⟩ p) := by
  have hv : V m c main_v3 = extractStridedSlice S512x1024 ![0, 0] (truncf (F := Ideal) (s := S1024x1024) (φ := .f32) .bf16 (m (c.tc.loc main_arg7)) bitsLt_bf16_f32) slices_S1024x1024_S512x1024_0_0 := by
    show StableHlo.after hostOps0 _ _ = _
    first | (after_results_simp; done) | (after_results_simp; rfl) | rfl
  rw [hv]
  pointwise []
theorem wl_apply (k : Fin 512) (p : Fin 1024) : V m c main_v4 (ix2 k p) = m (c.tc.loc main_arg7) (ix2 ⟨512 + k.val, by omega⟩ p) := by
  have hv : V m c main_v4 = extractStridedSlice S512x1024 ![512, 0] (truncf (F := Ideal) (s := S1024x1024) (φ := .f32) .bf16 (m (c.tc.loc main_arg7)) bitsLt_bf16_f32) slices_S1024x1024_S512x1024_512_0 := by
    show StableHlo.after hostOps0 _ _ = _
    first | (after_results_simp; done) | (after_results_simp; rfl) | rfl
  rw [hv]
  pointwise []
theorem gain_apply (p : Fin 1024) : V m c main_v5 (ix2 (0 : Fin 1) p) = m (c.tc.loc main_arg8) (ix1 p) := by
  have hv : V m c main_v5 = shapeCast S1x1024 (m (c.tc.loc main_arg8)) shapeCasts_S1024_S1x1024 := by
    show StableHlo.after hostOps0 _ _ = _
    first | (after_results_simp; done) | (after_results_simp; rfl) | rfl
  rw [hv]
  pointwise []
theorem wg_apply (p : Fin 1024) (f : Fin 2816) : V m c main_v6 (ix2 p f) = m (c.tc.loc main_arg9) (ix2 p f) := by
  have hv : V m c main_v6 = truncf (F := Ideal) (s := S1024x2816) (φ := .f32) .bf16 (m (c.tc.loc main_arg9)) bitsLt_bf16_f32 := by
    show StableHlo.after hostOps0 _ _ = _
    first | (after_results_simp; done) | (after_results_simp; rfl) | rfl
  rw [hv]
  pointwise []
theorem wu_apply (p : Fin 1024) (f : Fin 2816) : V m c main_v7 (ix2 p f) = m (c.tc.loc main_arg10) (ix2 p f) := by
  have hv : V m c main_v7 = truncf (F := Ideal) (s := S1024x2816) (φ := .f32) .bf16 (m (c.tc.loc main_arg10)) bitsLt_bf16_f32 := by
    show StableHlo.after hostOps0 _ _ = _
    first | (after_results_simp; done) | (after_results_simp; rfl) | rfl
  rw [hv]
  pointwise []
theorem wd_apply (f : Fin 2816) (p : Fin 1024) : V m c main_v8 (ix2 f p) = m (c.tc.loc main_arg11) (ix2 f p) := by
  have hv : V m c main_v8 = truncf (F := Ideal) (s := S2816x1024) (φ := .f32) .bf16 (m (c.tc.loc main_arg11)) bitsLt_bf16_f32 := by
    show StableHlo.after hostOps0 _ _ = _
    first | (after_results_simp; done) | (after_results_simp; rfl) | rfl
  rw [hv]
  pointwise []

/-- The result as a function of the arguments. -/
def final : S32768x1024.Idx → EReal := fun y =>
  swiglu
    (projected (fun p => m (c.tc.loc main_arg0) (ix2 (y 0) p)) (fun k => m (c.tc.loc main_arg1) (ix2 (y 0) k))
      (fun k => m (c.tc.loc main_arg2) (ix2 (y 0) k)) (fun k => m (c.tc.loc main_arg5) (ix1 k))
      (fun k => m (c.tc.loc main_arg6) (ix1 k)) (fun k => m (c.tc.loc main_arg3) (ix2 (y 0) k))
      (fun k => m (c.tc.loc main_arg4) (ix2 (y 0) k))
      (fun k p => m (c.tc.loc main_arg7) (ix2 ⟨k.val, by omega⟩ p))
      (fun k p => m (c.tc.loc main_arg7) (ix2 ⟨512 + k.val, by omega⟩ p)))
    (fun p => m (c.tc.loc main_arg8) (ix1 p)) (fun p f => m (c.tc.loc main_arg9) (ix2 p f))
    (fun p f => m (c.tc.loc main_arg10) (ix2 p f)) (fun f p => m (c.tc.loc main_arg11) (ix2 f p)) (y 1)

/-- A block's rows are rows of the arguments. -/
theorem rows0 (t : Fin cfg0.N) (i : Fin 1024) (q : Fin 1024) (r : Fin 32768) (hr : r.val = t.val * 1024 + i.val) :
    iblk m c 0 t (ix2 i q) = m (c.tc.loc main_arg0) (ix2 r q) := by
  have e := (by decide +kernel : ∀ t : Fin grid0.N, win0_0.index t = ![t.val, 0]) t
  have h : ((cfg0.win 0).blk t).view.emb (ix2 i q) = (ix2 r q : S32768x1024.Idx) := by blk_ext [e]
  exact (congrArg (V m c main_arg0) h).trans (congrFun (V_main_arg0 m c) _)
theorem rows1 (t : Fin cfg0.N) (i : Fin 1024) (q : Fin 512) (r : Fin 32768) (hr : r.val = t.val * 1024 + i.val) :
    iblk m c 1 t (ix2 i q) = m (c.tc.loc main_arg1) (ix2 r q) := by
  have e := (by decide +kernel : ∀ t : Fin grid0.N, win0_1.index t = ![t.val, 0]) t
  have h : ((cfg0.win 1).blk t).view.emb (ix2 i q) = (ix2 r q : S32768x512.Idx) := by blk_ext [e]
  exact (congrArg (V m c main_arg1) h).trans (congrFun (V_main_arg1 m c) _)
theorem rows2 (t : Fin cfg0.N) (i : Fin 1024) (q : Fin 512) (r : Fin 32768) (hr : r.val = t.val * 1024 + i.val) :
    iblk m c 2 t (ix2 i q) = m (c.tc.loc main_arg2) (ix2 r q) := by
  have e := (by decide +kernel : ∀ t : Fin grid0.N, win0_2.index t = ![t.val, 0]) t
  have h : ((cfg0.win 2).blk t).view.emb (ix2 i q) = (ix2 r q : S32768x512.Idx) := by blk_ext [e]
  exact (congrArg (V m c main_arg2) h).trans (congrFun (V_main_arg2 m c) _)
theorem rows3 (t : Fin cfg0.N) (i : Fin 1024) (q : Fin 512) (r : Fin 32768) (hr : r.val = t.val * 1024 + i.val) :
    iblk m c 3 t (ix2 i q) = m (c.tc.loc main_arg3) (ix2 r q) := by
  have e := (by decide +kernel : ∀ t : Fin grid0.N, win0_3.index t = ![t.val, 0]) t
  have h : ((cfg0.win 3).blk t).view.emb (ix2 i q) = (ix2 r q : S32768x512.Idx) := by blk_ext [e]
  exact (congrArg (V m c main_arg3) h).trans (congrFun (V_main_arg3 m c) _)
theorem rows4 (t : Fin cfg0.N) (i : Fin 1024) (q : Fin 512) (r : Fin 32768) (hr : r.val = t.val * 1024 + i.val) :
    iblk m c 4 t (ix2 i q) = m (c.tc.loc main_arg4) (ix2 r q) := by
  have e := (by decide +kernel : ∀ t : Fin grid0.N, win0_4.index t = ![t.val, 0]) t
  have h : ((cfg0.win 4).blk t).view.emb (ix2 i q) = (ix2 r q : S32768x512.Idx) := by blk_ext [e]
  exact (congrArg (V m c main_arg4) h).trans (congrFun (V_main_arg4 m c) _)

/-- The weights' blocks are the whole arrays. -/
theorem whole5 (t : Fin cfg0.N) (k : Fin 512) : iblk m c 5 t (ix2 (0 : Fin 1) k) = m (c.tc.loc main_arg5) (ix1 k) := by
  have e := (by decide +kernel : ∀ t : Fin grid0.N, win0_5.index t = ![0, 0]) t
  have h : ((cfg0.win 5).blk t).view.emb (ix2 (0 : Fin 1) k) = (ix2 (0 : Fin 1) k : S1x512.Idx) := by blk_ext [e]
  exact (congrArg (V m c main_v1) h).trans (lnw_apply m c k)
theorem whole6 (t : Fin cfg0.N) (k : Fin 512) : iblk m c 6 t (ix2 (0 : Fin 1) k) = m (c.tc.loc main_arg6) (ix1 k) := by
  have e := (by decide +kernel : ∀ t : Fin grid0.N, win0_6.index t = ![0, 0]) t
  have h : ((cfg0.win 6).blk t).view.emb (ix2 (0 : Fin 1) k) = (ix2 (0 : Fin 1) k : S1x512.Idx) := by blk_ext [e]
  exact (congrArg (V m c main_v2) h).trans (lnb_apply m c k)
theorem whole7 (t : Fin cfg0.N) (k : Fin 512) (p : Fin 1024) : iblk m c 7 t (ix2 k p) = m (c.tc.loc main_arg7) (ix2 ⟨k.val, by omega⟩ p) := by
  have e := (by decide +kernel : ∀ t : Fin grid0.N, win0_7.index t = ![0, 0]) t
  have h : ((cfg0.win 7).blk t).view.emb (ix2 k p) = (ix2 k p : S512x1024.Idx) := by blk_ext [e]
  exact (congrArg (V m c main_v3) h).trans (wt_apply m c k p)
theorem whole8 (t : Fin cfg0.N) (k : Fin 512) (p : Fin 1024) : iblk m c 8 t (ix2 k p) = m (c.tc.loc main_arg7) (ix2 ⟨512 + k.val, by omega⟩ p) := by
  have e := (by decide +kernel : ∀ t : Fin grid0.N, win0_8.index t = ![0, 0]) t
  have h : ((cfg0.win 8).blk t).view.emb (ix2 k p) = (ix2 k p : S512x1024.Idx) := by blk_ext [e]
  exact (congrArg (V m c main_v4) h).trans (wl_apply m c k p)
theorem whole9 (t : Fin cfg0.N) (p : Fin 1024) : iblk m c 9 t (ix2 (0 : Fin 1) p) = m (c.tc.loc main_arg8) (ix1 p) := by
  have e := (by decide +kernel : ∀ t : Fin grid0.N, win0_9.index t = ![0, 0]) t
  have h : ((cfg0.win 9).blk t).view.emb (ix2 (0 : Fin 1) p) = (ix2 (0 : Fin 1) p : S1x1024.Idx) := by blk_ext [e]
  exact (congrArg (V m c main_v5) h).trans (gain_apply m c p)
theorem whole10 (t : Fin cfg0.N) (p : Fin 1024) (f : Fin 2816) : iblk m c 10 t (ix2 p f) = m (c.tc.loc main_arg9) (ix2 p f) := by
  have e := (by decide +kernel : ∀ t : Fin grid0.N, win0_10.index t = ![0, 0]) t
  have h : ((cfg0.win 10).blk t).view.emb (ix2 p f) = (ix2 p f : S1024x2816.Idx) := by blk_ext [e]
  exact (congrArg (V m c main_v6) h).trans (wg_apply m c p f)
theorem whole11 (t : Fin cfg0.N) (p : Fin 1024) (f : Fin 2816) : iblk m c 11 t (ix2 p f) = m (c.tc.loc main_arg10) (ix2 p f) := by
  have e := (by decide +kernel : ∀ t : Fin grid0.N, win0_11.index t = ![0, 0]) t
  have h : ((cfg0.win 11).blk t).view.emb (ix2 p f) = (ix2 p f : S1024x2816.Idx) := by blk_ext [e]
  exact (congrArg (V m c main_v7) h).trans (wu_apply m c p f)
theorem whole12 (t : Fin cfg0.N) (f : Fin 2816) (p : Fin 1024) : iblk m c 12 t (ix2 f p) = m (c.tc.loc main_arg11) (ix2 f p) := by
  have e := (by decide +kernel : ∀ t : Fin grid0.N, win0_12.index t = ![0, 0]) t
  have h : ((cfg0.win 12).blk t).view.emb (ix2 f p) = (ix2 f p : S2816x1024.Idx) := by blk_ext [e]
  exact (congrArg (V m c main_v8) h).trans (wd_apply m c f p)

/-- The result array ends as that function. -/
theorem final_o : (dats m 0 c).arrAt 13 cfg0.N = final m c := by
  refine (dats m 0 c).arrAt_eq_of_covers 13 _ (by decide +kernel) fun t hf y => ?_
  blk_simp
  rw [after0_13]
  obtain ⟨i, q, rfl⟩ : ∃ (i q : Fin 1024), y = ix2 i q := ⟨y 0, y 1, eq_ix2 y⟩
  have ht : t.val < 32 := t.isLt
  obtain ⟨r, hr⟩ : ∃ r : Fin 32768, r.val = t.val * 1024 + i.val := ⟨⟨t.val * 1024 + i.val, by omega⟩, rfl⟩
  have e := (by decide +kernel : ∀ t : Fin grid0.N, win0_13.index t = ![t.val, 0]) t
  have h : ((cfg0.win 13).blk t).view.emb (ix2 i q) = (ix2 r q : S32768x1024.Idx) := by blk_ext [e]
  refine Eq.trans ?_ (congrArg (final m c) h.symm)
  refine (block_apply _ _ _ _ _ _ _ _ _ _ _ _ _ i q).trans ?_
  exact same_swiglu (funext fun p => rows0 m c t i p r hr) (funext fun k => rows1 m c t i k r hr)
    (funext fun k => rows2 m c t i k r hr) (funext fun k => whole5 m c t k) (funext fun k => whole6 m c t k)
    (funext fun k => rows3 m c t i k r hr) (funext fun k => rows4 m c t i k r hr) (funext₂ fun k p => whole7 m c t k p)
    (funext₂ fun k p => whole8 m c t k p) (funext fun p => whole9 m c t p) (funext₂ fun p f => whole10 m c t p f)
    (funext₂ fun p f => whole11 m c t p f) (funext₂ fun f p => whole12 m c t f p) q

end Cert.Proof.Dense

end
-- ==== Proof.DenseClaim.lean ====
/-
  The second call's claims: the frames of its kernel, of the idealized kernel and of its reference, and that the two
  programs compute the same values.
-/
module

public import proofs.«01_k».proof.Proof.Gen.Kernel2.Frame
public import proofs.«01_k».proof.Proof.DenseValue
public import Idealize.ShloMosaic.Lib.Claim

@[expose] public section

set_option maxRecDepth 16384

noncomputable section

namespace Cert.Proof.Dense

open Idealize.ShloMosaic Idealize.ShloMosaic.TcCoe
open Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ref : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

theorem algebraic : Cert.algebraic_Kernel2Ideal_Reference2Ideal := by
  intro m g m' g' _ hargs
  refine ⟨fun c => final m c, (θ_run _ _ _).mono (fun r h c => ⟨((h.1 c).1 13).trans (final_o m c), h.2 c⟩)
      (θ_run_and (Cert.Kernel2Ideal.Gen.run_main (F := Ideal) m g) (Cert.Kernel2Ideal.Gen.unchanged (F := Ideal) m g)),
    (θ_run _ _ _).mono (fun r h c => ⟨(h c).1.trans ?_, (h c).2⟩) (Cert.Reference2Ideal.Value.run (F := Ideal) m' g')⟩
  obtain ⟨h0, h1, h2, h3, h4, h5, h6, h7, h8, h9, h10, h11⟩ := hargs c
  funext i
  have e : i = ix2 (i 0) (i 1) := eq_ix2 i
  rw [e]
  refine (ref_apply m' c (i 0) (i 1)).trans ?_
  rw [h0, h1, h2, h3, h4, h5, h6, h7, h8, h9, h10, h11]
  rfl

end Cert.Proof.Dense

end
-- ==== Proof.ExpertBody.lean ====
/- The body of the expert kernel (`_expert_swiglu`), run once at a grid point over its staging buffers and its
   two word tables: at a point below the count of used blocks it leaves the block's SwiGLU rows, at any other point
   zeros. Nothing here depends on which float values are meant, so the compiled program and its idealization
   share the module. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The body's two conditions read the same word and are each other's negation. -/
theorem cond2_iff (i : grid0.Coords) (w : BitVec 32) : k0_cond2 i w = 1#1 ↔ ¬ k0_cond1 i w = 1#1 := by
  unfold k0_cond1 k0_cond2
  simp only [Scalar.cmpi, Scalar.extui, IntOp.cmpi, BitVec.sle_eq_not_slt]
  cases (BitVec.ofNat 32 (i 0).val).slt w <;> decide

/-- The whole buffers the body loads and stores. -/
abbrev rX : Rect S512x512 := Rect.unit (s := S512x512) ![0, 0] S512x512.size inb_S512x512_S512x512_0_0
abbrev rW : Rect S1x1024x3584 := Rect.unit (s := S1x1024x3584) ![0, 0, 0] S1x1024x3584.size inb_S1x1024x3584_S1x1024x3584_0_0_0
abbrev rD : Rect S1x3584x1024 := Rect.unit (s := S1x3584x1024) ![0, 0, 0] S1x3584x1024.size inb_S1x3584x1024_S1x3584x1024_0_0_0
abbrev rO : Rect S512x1024 := Rect.unit (s := S512x1024) ![0, 0] S512x1024.size inb_S512x1024_S512x1024_0_0

/-- The count table as the body is handed it. -/
abbrev cntM : Memref sig .tc .smem S1 .i32 := Memref.whole main_arg2

/-- A table's buffer held at half the full share, the memref a variable, as the executor looks held buffers up. -/
abbrev half (c : Dev nD) {S : Shape} {e : EltTy} (M : Memref sig .tc .smem S e) (f : Buf (Elt F) (M.view.loc (c : Thread nD τ))) :
    sProp 𝕄 :=
  M.view.loc (c : Thread nD τ) ↦{fullShare.right} f

/-- The word the body's conditions read: the only one of the count table. -/
def used (n : (main_arg2).ty.Contents (Elt F)) : BitVec 32 := cntM.view.readAt (Elt F) (Rect.unit (s := S1) ![0] S1.size inb_S1_S1_0).toLoadRect n (Shape.Idx.first (numel1_S1.symm ▸ Nat.one_pos))

/-- What the body leaves in the result's buffer at a point of a used block. -/
def rows (x : Vec F S512x512 .i32) (g u : Vec F S1x1024x3584 .bf16) (d : Vec F S1x3584x1024 .bf16) : Vec F S512x1024 .bf16 :=
  View.canon [⟨rO, k0_pay1 (k0_pay3 (View.ld x rX) (View.ld g rW) (View.ld u rW)) (View.ld d rD)⟩]

/-- What it leaves there at any other point. -/
def blank : Vec F S512x1024 .bf16 := View.canon [⟨rO, k0_pay2 (F := F)⟩]

/-- One store over the whole buffer reaches each of its indices. -/
theorem reaches (p : Vec F S512x1024 .bf16) (y : S512x1024.Idx) :
    ∃ pc ∈ ([⟨rO, p⟩] : List (View.Piece (Elt F) S512x1024 .bf16)), y ∈ pc.1.set :=
  View.cover_of_tiled [⟨rO, p⟩] S512x1024.size (by rfl) y

/-- What the body leaves in the result's buffer, by the count word. -/
def left (i : grid0.Coords) (n : (main_arg2).ty.Contents (Elt F)) (x : Vec F S512x512 .i32) (g u : Vec F S1x1024x3584 .bf16)
    (d : Vec F S1x3584x1024 .bf16) : Vec F S512x1024 .bf16 :=
  if k0_cond1 i (used n) = 1#1 then rows x g u d else blank

set_option maxHeartbeats 2000000 in
/-- The body at any point: the inputs' buffers and the half of the count table are as they were, the result's buffer
    holds `left` of them. Either branch is run on its own, the other's store skipped. -/
theorem body_run (c : Dev nD) (E : Set ℕ) (i : grid0.Coords)
    (arg3 : Memref sig .tc .vmem S512x512 .i32) (harg3 : arg3.IsWhole)
    (arg4 : Memref sig .tc .vmem S1x1024x3584 .bf16) (harg4 : arg4.IsWhole)
    (arg5 : Memref sig .tc .vmem S1x1024x3584 .bf16) (harg5 : arg5.IsWhole)
    (arg6 : Memref sig .tc .vmem S1x3584x1024 .bf16) (harg6 : arg6.IsWhole)
    (arg7 : Memref sig .tc .vmem S512x1024 .bf16) (harg7 : arg7.IsWhole)
    (n : (main_arg2).ty.Contents (Elt F))
    (x : Vec F S512x512 .i32) (g u : Vec F S1x1024x3584 .bf16) (d : Vec F S1x3584x1024 .bf16) (K : PUnit → sProp 𝕄) :
    iprop(half c cntM n
        ∗ owns (c : Thread nD τ) arg3 fullShare x ∗ owns (c : Thread nD τ) arg4 fullShare g
        ∗ owns (c : Thread nD τ) arg5 fullShare u ∗ owns (c : Thread nD τ) arg6 fullShare d
        ∗ (∃ z, owns (c : Thread nD τ) arg7 fullShare z)
        ∗ (iprop(half c cntM n
            ∗ owns (c : Thread nD τ) arg3 fullShare x ∗ owns (c : Thread nD τ) arg4 fullShare g
            ∗ owns (c : Thread nD τ) arg5 fullShare u ∗ owns (c : Thread nD τ) arg6 fullShare d
            ∗ owns (c : Thread nD τ) arg7 fullShare (left i n x g u d)) -∗ K ⟨⟩))
      ⊢ wp frame (wpE (defs₀ (F := F)) Variants.none c none) E
          (cc0_expert_swiglu i (Memref.whole main_v11) (Memref.isWhole_whole _) cntM (Memref.isWhole_whole _)
            arg3 harg3 arg4 harg4 arg5 harg5 arg6 harg6 arg7 harg7) K := by
  simp only [cc0_expert_swiglu_eq_skeleton]; unfold cc0_expert_swiglu_skel
  simp only [k0_part1_eq_skeleton]
  by_cases hc : k0_cond1 i (used n) = 1#1
  · have hc2 : ¬ k0_cond2 i (used n) = 1#1 := fun h => (cond2_iff i _).mp h hc
    rw [show left i n x g u d = rows x g u d from if_pos hc]
    unfold used at hc hc2
    unfold owns
    iintro ⟨Ht, ⟨%f0, %hf0, H0⟩, ⟨%f1, %hf1, H1⟩, ⟨%f2, %hf2, H2⟩, ⟨%f3, %hf3, H3⟩, ⟨%z, %f4, -, H4⟩, Hk⟩
    subst hf0 hf1 hf2 hf3
    sl_exec
    sl_step
    iapply Hk
    isplitl [Ht]; · iexact Ht
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    iexists _; isplitr
    swap; · iexact H4
    ipureintro
    exact (View.read_writes_eq_canon _ _ _ (reaches _)).trans rfl
  · have hc2 : k0_cond2 i (used n) = 1#1 := (cond2_iff i _).mpr hc
    rw [show left i n x g u d = blank from if_neg hc]
    unfold used at hc hc2
    unfold owns
    iintro ⟨Ht, ⟨%f0, %hf0, H0⟩, ⟨%f1, %hf1, H1⟩, ⟨%f2, %hf2, H2⟩, ⟨%f3, %hf3, H3⟩, ⟨%z, %f4, -, H4⟩, Hk⟩
    subst hf0 hf1 hf2 hf3
    sl_exec
    sl_step
    iapply Hk
    isplitl [Ht]; · iexact Ht
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    iexists _; isplitr
    swap; · iexact H4
    ipureintro
    exact (View.read_writes_eq_canon _ _ _ (reaches _)).trans rfl

end Cert.Expert

end
-- ==== Proof.ExpertRun.lean ====
/- The run of the expert kernel's program (`_expert_swiglu`): the host lines compute the block table and cast the
   weights, then one pipelined region of 136 points reads its two word tables, fetches the row block and the weights
   those words name and writes back one block of the result a point. Under the side condition that each block named
   lies inside its array, the run ends with the result holding what the body left, block by block, every other buffer
   as the region found it and every counter at zero. -/
module

public import proofs.«01_k».proof.Proof.ExpertBody

@[expose] public section

set_option maxRecDepth 16384

noncomputable section

namespace Cert.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the region is entered. -/
abbrev E0 (c : Dev nD) (b : Ref sig .tc) : Buf (Elt F) ((c : Thread nD τ).loc b) :=
  StableHlo.after hostOps0 (fun b => m (c, b)) b

/-- The host lines bring no buffer into being. -/
theorem lines_fresh : (hostOps0 : List (HloOp τ sig (Elt F))).Forall fun op => op.fresh = ∅ := by
  simp only [List.Forall]; repeat' constructor

set_option maxHeartbeats 800000 in
/-- The program up to its region. -/
theorem entered (𝒱₀ : Variants) : Pipeline.HMainP (Ix := Unit) (Name := ℕ) (U := UR sig nD τ) (Lvl := ℕ) pcfgs 0 defs₀ 𝒱₀ m
    (main (F := F)) (E0 m) :=
  Pipeline.hmainP_prefix pcfgs 0 defs₀ 𝒱₀ m main hostOps0 hostOps0_sub lines_fresh main_chain

/-- A buffer no host line writes is entered as launched. -/
theorem entered_same (c : Dev nD) (b : Ref sig .tc)
    (h : (hostOps0 : List (HloOp τ sig (Elt F))).Forall fun op => Proc.devRef .tc b ∉ op.writes) :
    E0 m c b = m ((c : Thread nD τ).loc b) :=
  StableHlo.after_of_forall_not_mem (b := Proc.devRef .tc b) _ _ (List.forall_iff_forall_mem.mp h)

/-- The tables' words at the region's entry, and the side condition on them. -/
def words : pre0.Contents (Elt F) := fun k => E0 m 0 (pre0.ref k)
abbrev Inside : Prop := ok0 (F := F) (words m)
abbrev admitted (h : Inside m) : (pcfg0 (F := F)).Adm := ⟨words m, h⟩
abbrev pipe (h : Inside m) : Cfg sig Λ₀ := cfg0 (admitted m h)

/-- The two tables' halves as the region hands them over. -/
theorem tables_eq (f : pre0.Contents (Elt F)) (c : Dev nD) : (Pipeline.ΦT pre0 (f) c : sProp 𝕄)
    = iprop(half c (Memref.whole main_v11) (f 0) ∗ half c cntM (f 1)) := by
  unfold Pipeline.ΦT Pipeline.prefHeld
  rw [show (Finset.univ : Finset (Fin 2)) = insert (0 : Fin 2) {(1 : Fin 2)} from by decide, bigSep_insert (by decide), bigSep_singleton]
  rfl

variable (E : (c : Dev nD) → (b : Ref sig .tc) → Buf (Elt F) ((c : Thread nD τ).loc b)) (a : (pcfg0 (F := F)).Adm)

/-- What window `w` moves at point `t`. -/
def block (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (E c (Pipeline.arrRef spec0 w))

/-- The proof data: the arrays as entered, each input's buffer left at its block, the result's at `left` of them. -/
def data (_ : Fin 1) (c : Dev nD) : Dat τ (Elt F) Unit ℕ (UR sig nD τ) ℕ (cfg0 a) c where
  A w := E c (Pipeline.arrRef spec0 w)
  after w t := match w with
    | ⟨0, _⟩ => block E a c 0 t
    | ⟨1, _⟩ => block E a c 1 t
    | ⟨2, _⟩ => block E a c 2 t
    | ⟨3, _⟩ => block E a c 3 t
    | ⟨4, _⟩ => left (grid0.coords t) (a.1 1) (block E a c 0 t) (block E a c 1 t) (block E a c 2 t) (block E a c 3 t)
  Φ _ := iprop(Pipeline.ΦA spec0 c ∗ Pipeline.ΦT pre0 (a.1) c)
  q _ := fullShare
  owed _ := 0

theorem data_A (c : Dev nD) (w : Fin (cfg0 a).W) : (data E a 0 c).A w = E c (Pipeline.arrRef spec0 w) := by
  dsimp only [data]

theorem left_0 (c : Dev nD) (t : Fin (cfg0 a).N) : (data E a 0 c).after 0 t = block E a c 0 t := (rfl)
theorem left_1 (c : Dev nD) (t : Fin (cfg0 a).N) : (data E a 0 c).after 1 t = block E a c 1 t := (rfl)
theorem left_2 (c : Dev nD) (t : Fin (cfg0 a).N) : (data E a 0 c).after 2 t = block E a c 2 t := (rfl)
theorem left_3 (c : Dev nD) (t : Fin (cfg0 a).N) : (data E a 0 c).after 3 t = block E a c 3 t := (rfl)
theorem left_4 (c : Dev nD) (t : Fin (cfg0 a).N) : (data E a 0 c).after 4 t
    = left (grid0.coords t) (a.1 1) (block E a c 0 t) (block E a c 1 t) (block E a c 2 t) (block E a c 3 t) := by
  dsimp only [data]; rfl

/-- An input's buffer holds its block at every point, whether or not the point fetched it. -/
theorem found (c : Dev nD) (w : Fin (cfg0 a).W) (hw : ((cfg0 a).win w).isOut = false)
    (hi : ∀ i, (cfg0 a).idle w i = false)
    (hk : ∀ t, ((cfg0 a).win w).cut ((cfg0 a).grid.coords t) ((data E a 0 c).after w t) = (data E a 0 c).blockOf w t)
    (t : Fin (cfg0 a).N) (d) : (data E a 0 c).before w t d = (data E a 0 c).fetched w t d :=
  (data E a 0 c).before_in_eq_fetched w hw hi (fun _ _ _ => rfl) hk t d

theorem found_0 (c : Dev nD) (t : Fin (cfg0 a).N) (d) : (data E a 0 c).before 0 t d = block E a c 0 t :=
  (found E a c 0 rfl (fun _ => rfl) (fun t => by rw [left_0]; unfold Dat.blockOf block; rw [data_A]) t d).trans
    (by unfold Dat.fetched Dat.blockOf block; rw [data_A]; rfl)
theorem found_1 (c : Dev nD) (t : Fin (cfg0 a).N) (d) : (data E a 0 c).before 1 t d = block E a c 1 t :=
  (found E a c 1 rfl (fun _ => rfl) (fun t => by rw [left_1]; unfold Dat.blockOf block; rw [data_A]) t d).trans
    (by unfold Dat.fetched Dat.blockOf block; rw [data_A]; rfl)
theorem found_2 (c : Dev nD) (t : Fin (cfg0 a).N) (d) : (data E a 0 c).before 2 t d = block E a c 2 t :=
  (found E a c 2 rfl (fun _ => rfl) (fun t => by rw [left_2]; unfold Dat.blockOf block; rw [data_A]) t d).trans
    (by unfold Dat.fetched Dat.blockOf block; rw [data_A]; rfl)
theorem found_3 (c : Dev nD) (t : Fin (cfg0 a).N) (d) : (data E a 0 c).before 3 t d = block E a c 3 t :=
  (found E a c 3 rfl (fun _ => rfl) (fun t => by rw [left_3]; unfold Dat.blockOf block; rw [data_A]) t d).trans
    (by unfold Dat.fetched Dat.blockOf block; rw [data_A]; rfl)

/-- One of the body's two conditions holds, whatever the word. -/
theorem one_holds (i : grid0.Coords) (w : BitVec 32) : (!(k0_cond1 i w == 1#1) && !(k0_cond2 i w == 1#1)) = false := by
  by_cases e : k0_cond1 i w = 1#1
  · rw [e]; rfl
  · rw [(cond2_iff i w).mpr e, Bool.and_comm]; rfl

/-- So the result's window is written at every point. -/
theorem busy (a : (pcfg0 (F := F)).Adm) (i : grid0.Coords) : (cfg0 a).idle 4 i = false := one_holds i (a.1.atD 1 ![0])

/-- The body between the buffers as it finds them and as it leaves them. -/
theorem body_at (c : Dev nD) (t : Fin (cfg0 a).N) :
    iprop((data E a 0 c).Φ t.castSucc ∗ (data E a 0 c).owesAt () t.castSucc
      ∗ (∃ d, owns (c : Thread nD τ) (((cfg0 a).win 0).stage ((cfg0 a).slots t 0)) fullShare ((data E a 0 c).before 0 t d))
      ∗ (∃ d, owns (c : Thread nD τ) (((cfg0 a).win 1).stage ((cfg0 a).slots t 1)) fullShare ((data E a 0 c).before 1 t d))
      ∗ (∃ d, owns (c : Thread nD τ) (((cfg0 a).win 2).stage ((cfg0 a).slots t 2)) fullShare ((data E a 0 c).before 2 t d))
      ∗ (∃ d, owns (c : Thread nD τ) (((cfg0 a).win 3).stage ((cfg0 a).slots t 3)) fullShare ((data E a 0 c).before 3 t d))
      ∗ (∃ d, owns (c : Thread nD τ) (((cfg0 a).win 4).stage ((cfg0 a).slots t 4)) fullShare ((data E a 0 c).before 4 t d)))
    ⊢ wp frame (wpE (defs₀ (F := F)) Variants.none c none) Set.univ
        (defs₀ (F := F) .tc (cfg0 a).body ((cfg0 a).bodyArgs t ((cfg0 a).slots t)))
        (fun _ => iprop((data E a 0 c).Φ t.succ ∗ (data E a 0 c).owesAt () t.succ
          ∗ owns (c : Thread nD τ) (((cfg0 a).win 0).stage ((cfg0 a).slots t 0)) fullShare ((data E a 0 c).after 0 t)
          ∗ owns (c : Thread nD τ) (((cfg0 a).win 1).stage ((cfg0 a).slots t 1)) fullShare ((data E a 0 c).after 1 t)
          ∗ owns (c : Thread nD τ) (((cfg0 a).win 2).stage ((cfg0 a).slots t 2)) fullShare ((data E a 0 c).after 2 t)
          ∗ owns (c : Thread nD τ) (((cfg0 a).win 3).stage ((cfg0 a).slots t 3)) fullShare ((data E a 0 c).after 3 t)
          ∗ owns (c : Thread nD τ) (((cfg0 a).win 4).stage ((cfg0 a).slots t 4)) fullShare ((data E a 0 c).after 4 t))) := by
  unfold defs₀; rw [Defs.onTc_tc]
  simp only [found_0, found_1, found_2, found_3]
  rw [show (data E a 0 c).Φ t.succ = (data E a 0 c).Φ t.castSucc from rfl,
    show (data E a 0 c).owesAt () t.succ = (data E a 0 c).owesAt () t.castSucc from rfl,
    left_0, left_1, left_2, left_3, left_4,
    show (data E a 0 c).Φ t.castSucc = iprop(Pipeline.ΦA spec0 c ∗ Pipeline.ΦT pre0 (a.1) c) from rfl, tables_eq a.1]
  iintro ⟨⟨HA, Hb, Hn⟩, Ho, ⟨%d0, H0⟩, ⟨%d1, H1⟩, ⟨%d2, H2⟩, ⟨%d3, H3⟩, ⟨%d4, H4⟩⟩
  iapply (body_run c Set.univ (grid0.coords t) _ _ _ _ _ _ _ _ _ _ (a.1 1) (block E a c 0 t) (block E a c 1 t)
    (block E a c 2 t) (block E a c 3 t) _)
  isplitl [Hn]; · iexact Hn
  isplitl [H0]; · iexact H0
  isplitl [H1]; · iexact H1
  isplitl [H2]; · iexact H2
  isplitl [H3]; · iexact H3
  isplitl [H4]; · iexists _; iexact H4
  iintro ⟨Hn, H0, H1, H2, H3, H4⟩
  isplitl [HA Hb Hn]
  · isplitl [HA]; · iexact HA
    isplitl [Hb]; · iexact Hb
    iexact Hn
  isplitl [Ho]; · iexact Ho
  isplitl [H0]; · iexact H0
  isplitl [H1]; · iexact H1
  isplitl [H2]; · iexact H2
  isplitl [H3]; · iexact H3
  iexact H4

/-- The region's obligation on the body. -/
theorem obliged (c : Dev nD) : BodyObligation (data E a 0 c) (defs₀ (F := F)) Variants.none () Set.univ := fun t => by
  have e : (cfg0 a).idle 4 ((cfg0 a).grid.coords t) = false := busy a (grid0.coords t)
  rw [bigSep_W0, bigSep_W0]
  refine triple_restated (body_at E a c t) rfl .rfl fun _ => ?_
  refine sep_mono .rfl (sep_mono .rfl (sep_mono .rfl (sep_mono .rfl (sep_mono .rfl (sep_mono .rfl ?_)))))
  have r : ∀ P : sProp 𝕄, P ⊢ P := fun _ => .rfl
  dsimp only
  split
  · next hh => exact absurd (hh.symm.trans e) (by decide)
  · exact r _

set_option backward.isDefEq.respectTransparency.types false in
set_option maxHeartbeats 800000 in
/-- The run: arrays at what the proof data give, the other buffers as entered, the counters at zero. -/
theorem run (h : Inside m) : θ_run (defs (F := F)) (onTc (τ := τ) (main (F := F))) (s₀ m ρ) (fun r =>
    Pipeline.FramePost (Pipeline.pin (pcfgs (F := F)) fun _ => admitted m h) (data (E0 m) (admitted m h)) 0 (E0 m) r ∧ r.2.sem = fun _ => 0) :=
  Pipeline.θ_run_frameP (Q' := _) (pcfgs (F := F)) (fun _ => admitted m h) (data (E0 m) (admitted m h)) (0 : Fin 1) launch0 (defs₀ (F := F)) Variants.none m ρ (main (F := F))
    (hbody := fun c => (obliged (E0 m) (admitted m h) c).loose) (hshare := fun c => (data (E0 m) (admitted m h) 0 c).share_full fun _ => rfl)
    (howed := fun _ _ => rfl) (V := E0 m) (hmain := entered m Variants.none) (hA := data_A (E0 m) (admitted m h))
    (hpf := fun c k => by obtain rfl : c = 0 := Subsingleton.elim _ _; rfl) (hΦ := fun _ _ => rfl)

end Cert.Expert

end
-- ==== Proof.ExpertTables.lean ====
/- The two word tables of the expert kernel, as the region reads them: what the precondition says of the arguments, what
   the host lines put in the block table, and the blocks the index maps then name. -/
module

public import proofs.«01_k».proof.Proof.ExpertRun
public import proofs.«01_k».proof.Pre_tables_in_range
public import Idealize.ShloMosaic.Lib.ReduceAll
public import Idealize.ShloMosaic.Lib.Pointwise
public import Idealize.ShloMosaic.Lib.StableHlo.Predicate

@[expose] public section

set_option backward.isDefEq.respectTransparency.types false
set_option maxRecDepth 16384

noncomputable section

namespace Cert.Expert

open Cert.Kernel3Ideal Cert.Kernel3Ideal.Gen
open Idealize.ShloMosaic Idealize.ShloMosaic.TcCoe Idealize.ShloMosaic.Tactic

variable {F : FTy → Type} [FloatOps F]

/-- The experts' numbers lie in the bank, the count of used blocks between one and all of them. -/
def InRange (be : IVec S136 32) (n : IVec S1 32) : Prop :=
  (∀ b : Fin 136, (be (ix1 b)).toNat < 8) ∧ 1 ≤ (n (ix1 (0 : Fin 1))).toNat ∧ (n (ix1 (0 : Fin 1))).toNat ≤ 136

/-- A word between two small signed bounds lies between them as a natural number. -/
theorem between {x : BitVec 32} {lo hi : ℕ} (h1 : (lo : Int) ≤ x.toInt) (h2 : x.toInt ≤ (hi : Int)) (hh : hi < 2 ^ 31) :
    lo ≤ x.toNat ∧ x.toNat ≤ hi := by
  have hx := x.isLt
  rw [BitVec.toInt_eq_toNat_cond] at h1 h2
  split at h1 <;> split at h2 <;> omega

/-- The precondition, read. -/
theorem decoded [Cert.Pre_tables_in_range.Facts] (x : IVec S69632x512 32) (be : IVec S136 32) (n : IVec S1 32)
    (g u : FVec F S8x1024x3584 .f32) (d : FVec F S8x3584x1024 .f32)
    (h : Cert.Pre_tables_in_range.fn (F := F) x be n g u d = fun _ => 1#1) : InRange be n := by
  haveI : Subsingleton Cert.Pre_tables_in_range.S_.Idx := ⟨fun a b => funext fun k => k.elim0⟩
  have h0 := congrFun h (Shape.Idx.first Cert.Pre_tables_in_range.Facts.h_S_)
  unfold Cert.Pre_tables_in_range.fn at h0
  obtain ⟨h1, h2⟩ := IntOp.andi_eq_one.mp h0
  refine ⟨fun b => ?_, ?_⟩
  · obtain ⟨p, q⟩ := IntOp.andi_eq_one.mp (Host.reduce_andi_all _ _ _ _ _ h1 (ix1 b))
    have p' : (0 : Int) ≤ (be (ix1 b)).toInt := IntOp.cmpi_sge.mp p
    have q' : (be (ix1 b)).toInt < (8 : Int) := IntOp.cmpi_slt.mp q
    exact Nat.lt_succ_of_le (between (lo := 0) (hi := 7) p' (by omega) (by decide)).2
  · obtain ⟨p, q⟩ := IntOp.andi_eq_one.mp (Host.reduce_andi_all _ _ _ _ _ h2 (ix1 (0 : Fin 1)))
    have p' : (1 : Int) ≤ (n (ix1 (0 : Fin 1))).toInt := IntOp.cmpi_sge.mp p
    have q' : (n (ix1 (0 : Fin 1))).toInt ≤ (136 : Int) := IntOp.cmpi_sle.mp q
    exact between (lo := 1) (hi := 136) p' q' (by decide)

/-- The smaller of a block's number and the last used one's, as words. -/
theorem smaller (n : BitVec 32) (b : ℕ) (h1 : 1 ≤ n.toNat) (h2 : n.toNat ≤ 136) (hb : b < 136) :
    IntOp.minsi (BitVec.ofNat 32 b) (IntOp.subi n 1#32) = BitVec.ofNat 32 (min b (n.toNat - 1)) := by
  have hs : IntOp.subi n 1#32 = BitVec.ofNat 32 (n.toNat - 1) := by
    have := StableHlo.Predicate.sub_one_ofNat n.toNat h1 (by omega)
    rw [BitVec.ofNat_toNat, BitVec.setWidth_eq] at this
    exact this
  rw [hs]
  unfold IntOp.minsi
  have hc := StableHlo.Predicate.slt_ofNat_iff b (n.toNat - 1) (by omega) (by omega)
  rw [StableHlo.Predicate.ofBool_eq_one_iff] at hc
  by_cases h : b < n.toNat - 1
  · rw [if_pos (hc.mpr h), Nat.min_eq_left h.le]
  · rw [if_neg (fun e => h (hc.mp e)), Nat.min_eq_right (by omega)]

/-- The indices the host looks the experts up at. -/
abbrev last (n : IVec S1 32) : IVec S136 32 :=
  minsi (iotaInDim S136 32 0) (broadcastInDim S136 ![] bcast_S_S136 (subi (shapeCast S_ n shapeCasts_S1_S_) (constantI S_ 32 1#32)))
abbrev lookups (n : IVec S1 32) : IVec S136x1 32 :=
  broadcastInDim S136x1 ![0] bcast_S136_S136x1_0
    (select (cmpi CmpIPredicate.slt (last n) (broadcastInDim S136 ![] bcast_S_S136 (constantI S_ 32 0#32)))
      (addi (last n) (broadcastInDim S136 ![] bcast_S_S136 (constantI S_ 32 136#32))) (last n))

theorem lookups_apply (n : IVec S1 32) (h1 : 1 ≤ (n (ix1 (0 : Fin 1))).toNat) (h2 : (n (ix1 (0 : Fin 1))).toNat ≤ 136) (b : Fin 136) :
    lookups n (ix2 b (0 : Fin 1)) = BitVec.ofNat 32 (min b.val ((n (ix1 (0 : Fin 1))).toNat - 1)) := by
  unfold lookups last
  pointwise []
  have hm := smaller (n (ix1 (0 : Fin 1))) b.val h1 h2 b.isLt
  have hb := b.isLt
  have hz : ¬ IntOp.cmpi .slt (BitVec.ofNat 32 (min b.val ((n (ix1 (0 : Fin 1))).toNat - 1))) 0#32 = 1#1 := by
    rw [StableHlo.Predicate.slt_iff_toNat (by rw [BitVec.toNat_ofNat]; omega) (by decide)]
    exact Nat.not_lt_zero _
  have key : ∀ w : BitVec 32, w = BitVec.ofNat 32 (min b.val ((n (ix1 (0 : Fin 1))).toNat - 1)) →
      Scalar.select (IntOp.cmpi .slt w 0#32) (IntOp.addi w 136#32) w = BitVec.ofNat 32 (min b.val ((n (ix1 (0 : Fin 1))).toNat - 1)) := by
    rintro w rfl
    exact if_neg hz
  exact key _ hm

variable (m : (ℓ : Loc nD τ sig) → Buf (Elt F) ℓ)

/-- The count table is the argument. -/
theorem count_entered (c : Dev nD) : E0 m c main_arg2 = m (c.tc.loc main_arg2) := by
  show StableHlo.after hostOps0 _ _ = _
  first | (after_results_simp; done) | (after_results_simp; rfl) | rfl

/-- The block table as the host lines leave it. -/
theorem table_entered (c : Dev nD) : E0 m c main_v11
    = Host.gather gather_S136_S136x1_S136_n_0_n_n_0_1_1 (m (c.tc.loc main_arg1)) (lookups (m (c.tc.loc main_arg2))) := by
  show StableHlo.after hostOps0 _ _ = _
  first | (after_results_simp; done) | (after_results_simp; rfl) | rfl

/-- Its entry for a block: the expert of that block, or of the last used one. -/
theorem table_apply (c : Dev nD) (h1 : 1 ≤ (m (c.tc.loc main_arg2) (ix1 (0 : Fin 1)) : BitVec 32).toNat)
    (h2 : (m (c.tc.loc main_arg2) (ix1 (0 : Fin 1)) : BitVec 32).toNat ≤ 136) (b : Fin 136) :
    E0 m c main_v11 (ix1 b)
      = m (c.tc.loc main_arg1) (ix1 (⟨min b.val ((m (c.tc.loc main_arg2) (ix1 (0 : Fin 1)) : BitVec 32).toNat - 1), by omega⟩ : Fin 136)) := by
  have hb := b.isLt
  have e : ∀ k : Fin 136, (Shape.Idx.ofFin k : S136.Idx) = ix1 k := fun k => by
    funext a
    match a with
    | ⟨0, _⟩ => rfl
  have e2 : (StableHlo.Predicate.ixP b : S136x1.Idx) = ix2 b (0 : Fin 1) := by
    funext a
    match a with
    | ⟨0, _⟩ => rfl
    | ⟨1, _⟩ => rfl
  rw [table_entered m c, ← e b]
  refine (StableHlo.Predicate.gather_take gather_S136_S136x1_S136_n_0_n_n_0_1_1 rfl rfl rfl rfl _ _ b (by decide)).trans ?_
  rw [e]
  refine congrArg _ (congrArg ix1 (Fin.ext ?_))
  show min (lookups (m (c.tc.loc main_arg2)) (StableHlo.Predicate.ixP b)).toInt.toNat (136 - 1) = _
  rw [e2, lookups_apply _ h1 h2, StableHlo.Predicate.toInt_ofNat_small _ (by omega)]
  show min (Int.toNat (Int.ofNat _)) (136 - 1) = min b.val _
  rw [show ∀ k : ℕ, (Int.ofNat k).toNat = k from fun _ => rfl]
  omega

section Maps
variable (pf : pre0.Contents (Elt F)) (i : grid0.Coords)

theorem point_lt : (i 0).val < 136 := (i 0).isLt

/-- The word each index map loads. -/
theorem loads_count : pf.at 1 (Rect.unit (s := S1) ![0] S1.size inb_S1_S1_0) numel1_S1 = pf 1 (ix1 (0 : Fin 1)) := by
  refine congrArg (pf 1) (funext fun a => ?_)
  match a with
  | ⟨0, _⟩ => exact Subsingleton.elim (α := Fin 1) _ _

theorem loads_bank : pf.at 0 (Rect.unit (s := S136) ![(Scalar.indexCast (BitVec.ofNat 32 (i 0).val) : Index).toNat] S1.size (k0_off1_inb i)) numel1_S1
    = pf 0 (ix1 (⟨(i 0).val, point_lt i⟩ : Fin 136)) := by
  have hi := point_lt i
  refine congrArg (pf 0) (funext fun a => Fin.ext ?_)
  match a with
  | ⟨0, _⟩ =>
    have hw : (Scalar.indexCast (BitVec.ofNat 32 (i 0).val) : Index).toNat = (i 0).val := by
      show (BitVec.ofNat 32 (i 0).val).toNat = _
      rw [BitVec.toNat_ofNat]; omega
    refine Eq.trans ?_ hw
    rfl

/-- The rows' index map. -/
theorem row_eq (h1 : 1 ≤ (pf 1 (ix1 (0 : Fin 1)) : BitVec 32).toNat) (h2 : (pf 1 (ix1 (0 : Fin 1)) : BitVec 32).toNat ≤ 136) :
    cc0_transform_0 inb_S1_S1_0 numel1_S1 pf i = ![min (i 0).val ((pf 1 (ix1 (0 : Fin 1)) : BitVec 32).toNat - 1), 0] := by
  have hi := point_lt i
  unfold cc0_transform_0
  dsimp only
  rw [loads_count pf]
  have := congrArg BitVec.toNat (smaller (pf 1 (ix1 (0 : Fin 1))) (i 0).val h1 h2 hi)
  rw [BitVec.toNat_ofNat, Nat.mod_eq_of_lt (by omega)] at this
  exact congrArg (fun k => (![k, 0] : Fin 2 → ℕ)) this

/-- The weights' index maps. -/
theorem bank1_eq : cc0_transform_1 k0_off1_inb numel1_S1 pf i = ![(pf 0 (ix1 (⟨(i 0).val, point_lt i⟩ : Fin 136)) : BitVec 32).toNat, 0, 0] := by
  unfold cc0_transform_1
  dsimp only
  rw [loads_bank pf i]
  rfl
theorem bank2_eq : cc0_transform_2 k0_off1_inb numel1_S1 pf i = ![(pf 0 (ix1 (⟨(i 0).val, point_lt i⟩ : Fin 136)) : BitVec 32).toNat, 0, 0] := by
  unfold cc0_transform_2
  dsimp only
  rw [loads_bank pf i]
  rfl
theorem bank3_eq : cc0_transform_3 k0_off1_inb numel1_S1 pf i = ![(pf 0 (ix1 (⟨(i 0).val, point_lt i⟩ : Fin 136)) : BitVec 32).toNat, 0, 0] := by
  unfold cc0_transform_3
  dsimp only
  rw [loads_bank pf i]
  rfl

end Maps
end Cert.Expert

end
-- ==== Proof.ExpertFrames.lean ====
/- The expert call's run under its precondition: each block named lies inside its array, and the arguments end
   unchanged. The compiled program is the idealized one's text, so its frame is the same theorem read at bit patterns. -/
module

public import proofs.«01_k».proof.Proof.ExpertTables
public import proofs.«01_k».proof.Proof.Gen.Kernel3
public import proofs.«01_k».proof.Proof.Gen.Reference3Ideal.Run
public import proofs.«01_k».proof.Proof.Gen.Pre_tables_in_range
public import proofs.«01_k».proof.Defs

@[expose] public section

set_option backward.proofsInPublic true
set_option backward.isDefEq.respectTransparency.types false
set_option maxRecDepth 16384

noncomputable section

namespace Cert.Expert

open Cert.Kernel3Ideal Cert.Kernel3Ideal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The arguments' tables are in range. -/
abbrev Ranged : Prop := InRange (m ((0 : Dev nD).tc.loc main_arg1)) (m ((0 : Dev nD).tc.loc main_arg2))

theorem words_count : words m 1 (ix1 (0 : Fin 1)) = m ((0 : Dev nD).tc.loc main_arg2) (ix1 (0 : Fin 1)) :=
  congrFun (count_entered m 0) _

theorem words_bank (h : Ranged m) (b : Fin 136) : words m 0 (ix1 b)
    = m ((0 : Dev nD).tc.loc main_arg1) (ix1 (⟨min b.val ((m ((0 : Dev nD).tc.loc main_arg2) (ix1 (0 : Fin 1)) : BitVec 32).toNat - 1), by have := b.isLt; omega⟩ : Fin 136)) :=
  table_apply m 0 h.2.1 h.2.2 b

/-- Every block named lies inside its array, of tables whose words are in range. -/
theorem within (pf : pre0.Contents (Elt F)) (hn1 : 1 ≤ (pf 1 (ix1 (0 : Fin 1)) : BitVec 32).toNat)
    (hn2 : (pf 1 (ix1 (0 : Fin 1)) : BitVec 32).toNat ≤ 136) (hb : ∀ b : Fin 136, (pf 0 (ix1 b) : BitVec 32).toNat < 8) : ok0 pf := by
  refine ⟨fun i => ⟨fun a => ?_, .inl rfl⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [row_eq pf i hn1 hn2]
    have hi := point_lt i
    match a with
    | ⟨0, _⟩ =>
      show (min (i 0).val ((pf 1 (ix1 (0 : Fin 1)) : BitVec 32).toNat - 1) + 1) * 512 ≤ 69632
      omega
    | ⟨1, _⟩ => exact (by decide : (0 + 1) * 512 ≤ 512)
  · rw [bank1_eq pf i]
    have := hb ⟨(i 0).val, point_lt i⟩
    match a with
    | ⟨0, _⟩ =>
      show ((pf 0 (ix1 (⟨(i 0).val, point_lt i⟩ : Fin 136)) : BitVec 32).toNat + 1) * 1 ≤ 8
      omega
    | ⟨1, _⟩ => exact (by decide : (0 + 1) * 1024 ≤ 1024)
    | ⟨2, _⟩ => exact (by decide : (0 + 1) * 3584 ≤ 3584)
  · rw [bank2_eq pf i]
    have := hb ⟨(i 0).val, point_lt i⟩
    match a with
    | ⟨0, _⟩ =>
      show ((pf 0 (ix1 (⟨(i 0).val, point_lt i⟩ : Fin 136)) : BitVec 32).toNat + 1) * 1 ≤ 8
      omega
    | ⟨1, _⟩ => exact (by decide : (0 + 1) * 1024 ≤ 1024)
    | ⟨2, _⟩ => exact (by decide : (0 + 1) * 3584 ≤ 3584)
  · rw [bank3_eq pf i]
    have := hb ⟨(i 0).val, point_lt i⟩
    match a with
    | ⟨0, _⟩ =>
      show ((pf 0 (ix1 (⟨(i 0).val, point_lt i⟩ : Fin 136)) : BitVec 32).toNat + 1) * 1 ≤ 8
      omega
    | ⟨1, _⟩ => exact (by decide : (0 + 1) * 3584 ≤ 3584)
    | ⟨2, _⟩ => exact (by decide : (0 + 1) * 1024 ≤ 1024)

/-- The region's side condition, of arguments in range. -/
theorem inside (h : Ranged m) : Inside m :=
  within (words m) (by rw [words_count]; exact h.2.1) (by rw [words_count]; exact h.2.2)
    (fun b => by rw [words_bank m h b]; exact h.1 _)

/-- The arguments at the region's entry. -/
theorem entered0 (c : Dev nD) : E0 m c main_arg0 = m (c.tc.loc main_arg0) := by
  show StableHlo.after hostOps0 _ _ = _
  first | (after_results_simp; done) | (after_results_simp; rfl) | rfl
theorem entered1 (c : Dev nD) : E0 m c main_arg1 = m (c.tc.loc main_arg1) := by
  show StableHlo.after hostOps0 _ _ = _
  first | (after_results_simp; done) | (after_results_simp; rfl) | rfl
theorem entered3 (c : Dev nD) : E0 m c main_arg3 = m (c.tc.loc main_arg3) := by
  show StableHlo.after hostOps0 _ _ = _
  first | (after_results_simp; done) | (after_results_simp; rfl) | rfl
theorem entered4 (c : Dev nD) : E0 m c main_arg4 = m (c.tc.loc main_arg4) := by
  show StableHlo.after hostOps0 _ _ = _
  first | (after_results_simp; done) | (after_results_simp; rfl) | rfl
theorem entered5 (c : Dev nD) : E0 m c main_arg5 = m (c.tc.loc main_arg5) := by
  show StableHlo.after hostOps0 _ _ = _
  first | (after_results_simp; done) | (after_results_simp; rfl) | rfl

/-- The first window's array is read only. -/
theorem read_only (E : (c : Dev nD) → (b : Ref sig .tc) → Buf (Elt F) ((c : Thread nD τ).loc b)) (a : (pcfg0 (F := F)).Adm) (c : Dev nD) :
    (data E a 0 c).arrAt 0 (cfg0 a).N = E c main_arg0 :=
  ((data E a 0 c).arrAt_in 0 rfl _).trans (data_A E a c 0)

/-- The run's end: the result's array as the proof data give it, the arguments unchanged, the counters at zero. -/
theorem ends (h : Inside m) : θ_run (defs (F := F)) (onTc (τ := τ) (main (F := F))) ⟨m, fun _ => 0, ρ⟩ (fun r => (∀ c : Dev nD,
      r.2.mem (c.tc.loc main_v15) = (data (E0 m) (admitted m h) 0 c).arrAt 4 (cfg0 (admitted m h)).N
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5))
      ∧ r.2.sem = fun _ => 0) := by
  refine (θ_run _ _ _).mono (fun r hr => ⟨fun c => ⟨(hr.1 c).1 4, ?_, ?_, ?_, ?_, ?_, ?_⟩, hr.2⟩) (run m ρ h)
  · exact (((hr.1 c).1 0).trans (read_only (E0 m) (admitted m h) c)).trans (entered0 m c)
  · exact ((hr.1 c).2 main_arg1 (Pipeline.mem_restRefs_of main_arg1 rfl (fun w => by fin_cases w <;> exact fun h => by cases h))).trans (entered1 m c)
  · exact ((hr.1 c).2 main_arg2 (Pipeline.mem_restRefs_of main_arg2 rfl (fun w => by fin_cases w <;> exact fun h => by cases h))).trans (count_entered m c)
  · exact ((hr.1 c).2 main_arg3 (Pipeline.mem_restRefs_of main_arg3 rfl (fun w => by fin_cases w <;> exact fun h => by cases h))).trans (entered3 m c)
  · exact ((hr.1 c).2 main_arg4 (Pipeline.mem_restRefs_of main_arg4 rfl (fun w => by fin_cases w <;> exact fun h => by cases h))).trans (entered4 m c)
  · exact ((hr.1 c).2 main_arg5 (Pipeline.mem_restRefs_of main_arg5 rfl (fun w => by fin_cases w <;> exact fun h => by cases h))).trans (entered5 m c)

/-- The frame. -/
theorem run_frame (h : Inside m) : θ_run (defs (F := F)) (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5))
      ∧ r.2.sem = fun _ => 0) :=
  (θ_run _ _ _).mono (fun _ hr => ⟨fun c => (hr.1 c).2, hr.2⟩) (ends m ρ h)

/-- The precondition puts the tables in range. -/
theorem ranged_ideal (m : (ℓ : Loc nD τ sig) → Buf (Elt Ideal) ℓ) (h : Cert.Pre_Kernel3Ideal m) : Ranged m := decoded (F := Ideal) _ _ _ _ _ _ (h 0)
theorem ranged_kernel (m : (ℓ : Loc nD τ sig) → Buf (Elt Bits) ℓ) (h : Cert.Pre_Kernel3 m) : Ranged m := decoded (F := Bits) _ _ _ _ _ _ (h 0)

theorem frame_ideal : Cert.quiescent_Kernel3Ideal := fun m ρ h => run_frame m ρ (inside m (ranged_ideal m h))

/-- The two programs' tables are one. -/
theorem defs₀_same {F : FTy → Type} [FloatOps F] : (Cert.Kernel3.defs₀ (F := F)) = Cert.Kernel3Ideal.defs₀ := by
  unfold Cert.Kernel3.defs₀ Cert.Kernel3Ideal.defs₀
  refine congrArg Defs.onTc ?_
  funext l a
  obtain ⟨_ | n, h⟩ := l
  · rfl
  · exact absurd h (Nat.not_lt.2 (Nat.le_add_left _ _))
theorem defs_same {F : FTy → Type} [FloatOps F] : (Cert.Kernel3.defs (F := F)) = Cert.Kernel3Ideal.defs :=
  congrArg (Pipeline.defs Cert.Kernel3Ideal.pcfgs) defs₀_same

theorem frame_ref : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

theorem frame_ref_pre : Cert.quiescent_Reference3Ideal_pre_tables_in_range := fun m ρ _ =>
  (θ_run Cert.Reference3Ideal.defs _ _).mono
    (fun r h => ⟨fun c => (h c).2, sem_eq_zero_of_no_sems (by decide) r.2⟩) (Cert.Reference3Ideal.Value.run (F := Ideal) m ρ)

end Cert.Expert

end
-- ==== Proof.ExpertCompiled.lean ====
/- The compiled program's frame: its text is the idealized program's, so its run is that theorem at bit patterns. -/
module

public import proofs.«01_k».proof.Proof.ExpertFrames

@[expose] public section

set_option backward.proofsInPublic true
set_option backward.isDefEq.respectTransparency.types false
set_option maxRecDepth 16384

noncomputable section

namespace Cert.Expert

open Cert.Kernel3Ideal Cert.Kernel3Ideal.Gen
open Idealize.ShloMosaic Idealize.ShloMosaic.TcCoe Idealize.ShloMosaic.Tactic
open Idealize.SL.Sem

variable {F : FTy → Type} [FloatOps F]

set_option maxHeartbeats 1500000 in
theorem main_same : (Cert.Kernel3.main (F := F)) = Cert.Kernel3Ideal.main := by
  unfold Cert.Kernel3.main Cert.Kernel3Ideal.main
  rfl

set_option maxHeartbeats 1500000 in
theorem frame_kernel : Cert.quiescent_Kernel3 := by
  intro m ρ h
  have hr := run_frame (F := Bits) m ρ (inside m (ranged_kernel m h))
  rw [← defs_same, ← main_same] at hr
  exact hr

end Cert.Expert

end
-- ==== Proof.RefExpert.lean ====
/- The expert call's reference, read at an index: for a row of a block that is in use, the SwiGLU of its unpacked row
   with the block's expert's weights; zero in the other blocks. -/
module

public import proofs.«01_k».proof.Proof.Gen.Reference3Ideal.Run
public import proofs.«01_k».proof.Proof.Rows
public import Idealize.ShloMosaic.Lib.Pointwise
public import Idealize.ShloMosaic.Lib.Tactic.CleanTypes
public import Idealize.ShloMosaic.Lib.StableHlo.Predicate

@[expose] public section

set_option backward.isDefEq.respectTransparency.types false
set_option maxRecDepth 16384

noncomputable section

namespace Cert.Expert

open Cert.Reference3Ideal
open Idealize.ShloMosaic Idealize.ShloMosaic.TcCoe Idealize.ShloMosaic.Tactic
open Cert.Proof.Combine (half)

/-- A hidden channel of one row: the gate through its own logistic, times the other product. -/
def channel (W : Fin 512 → BitVec 32) (wg wu : Fin 1024 → Fin 3584 → EReal) (f : Fin 3584) : EReal :=
  ((∑ k : Fin 1024, half W k * wg k f) * Ideal.div 1 (1 + Ideal.exp (-∑ k : Fin 1024, half W k * wg k f)))
    * ∑ k : Fin 1024, half W k * wu k f

/-- One row through one expert. -/
def through (W : Fin 512 → BitVec 32) (wg wu : Fin 1024 → Fin 3584 → EReal) (wd : Fin 3584 → Fin 1024 → EReal)
    (q : Fin 1024) : EReal := ∑ f : Fin 3584, channel W wg wu f * wd f q

/-- The dimension numbers of one matrix of a bank per block. -/
abbrev bankDims (N n A B : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The gather of matrices out of a bank, where the index lies in the bank. -/
theorem bank_apply {N n A B : ℕ} (hN : N < 2 ^ 31)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → EReal) (idx : IVec ⟨2, ![n, 1]⟩ 32) (b : Fin n) (p : Fin A) (f : Fin B)
    (e : Fin N) (he : (idx (ix2 b (0 : Fin 1))).toNat = e.val) :
    Host.gather (bankDims N n A B wf) x idx (ix3 b p f) = x (ix3 e p f) := by
  unfold Host.gather
  refine congrArg x (funext fun a => Fin.ext ?_)
  show (bankDims N n A B wf).start (ix3 b p f) idx a + (bankDims N n A B wf).batchCoord (ix3 b p f) a
    + (bankDims N n A B wf).offCoord (ix3 b p f) a = _
  rw [GatherDims.batchCoord_eq_zero _ _ _ List.not_mem_nil, Nat.add_zero]
  have el := e.isLt
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    rw [Nat.add_zero]
    unfold GatherDims.start
    rw [dif_pos (show (0 : Fin 3) ∈ (bankDims N n A B wf).startIndexMap from List.mem_singleton.mpr rfl)]
    have hs : (bankDims N n A B wf).siIdx (ix3 b p f) ⟨List.idxOf (0 : Fin 3) (bankDims N n A B wf).startIndexMap,
        List.idxOf_lt_length_iff.2 (List.mem_singleton.mpr rfl)⟩ = ix2 b (0 : Fin 1) := by
      funext k; refine Fin.ext ?_
      match k with
      | ⟨0, _⟩ => rfl
      | ⟨1, _⟩ => rfl
    rw [hs, StableHlo.Predicate.toInt_eq_toNat_of_lt (by omega), he]
    show min ((e.val : Int)).toNat (N - 1) = e.val
    omega
  · unfold GatherDims.start GatherDims.offCoord
    rw [dif_neg (show ¬ (1 : Fin 3) ∈ (bankDims N n A B wf).startIndexMap from by simp),
      dif_pos (show (1 : Fin 3) ∈ (bankDims N n A B wf).sKept from by rw [GatherDims.mem_sKept]; simp), Nat.zero_add]
    rfl
  · unfold GatherDims.start GatherDims.offCoord
    rw [dif_neg (show ¬ (2 : Fin 3) ∈ (bankDims N n A B wf).startIndexMap from by simp),
      dif_pos (show (2 : Fin 3) ∈ (bankDims N n A B wf).sKept from by rw [GatherDims.mem_sKept]; simp), Nat.zero_add]
    rfl

/-- The experts' numbers as the reference looks them up: a negative one would count from the end. -/
abbrev looked (be : IVec S136 32) : IVec S136x1 32 :=
  broadcastInDim S136x1 ![0] Gen.bcast_S136_S136x1_0
    (select (cmpi CmpIPredicate.slt be (broadcastInDim S136 ![] Gen.bcast_S_S136 (constantI S_ 32 0#32)))
      (addi be (broadcastInDim S136 ![] Gen.bcast_S_S136 (constantI S_ 32 8#32))) be)

theorem looked_apply (be : IVec S136 32) (b : Fin 136) (hb : (be (ix1 b)).toNat < 8) : looked be (ix2 b (0 : Fin 1)) = be (ix1 b) := by
  unfold looked
  pointwise []
  have h : ¬ IntOp.cmpi .slt (be (ix1 b)) 0#32 = 1#1 := by
    rw [StableHlo.Predicate.slt_iff_toNat (by omega) (by decide)]
    exact Nat.not_lt_zero _
  exact if_neg h

/-- The reference's result at a row and a column. -/
theorem ref_apply (m : (ℓ : Loc nD τ sig) → Buf (Elt Ideal) ℓ) (c : Dev nD)
    (hb : ∀ b : Fin 136, (m (c.tc.loc main_arg1) (ix1 b) : BitVec 32).toNat < 8) (r : Fin 69632) (q : Fin 1024) :
    Value.res_main_v40 (F := Ideal) m c (ix2 r q)
      = Scalar.select (IntOp.cmpi .slt (BitVec.ofNat 32 (r.val / 512)) (m (c.tc.loc main_arg2) (ix1 (0 : Fin 1))))
        (through (fun t => m (c.tc.loc main_arg0) (ix2 r t))
          (fun p f => m (c.tc.loc main_arg3) (ix3 (⟨_, hb ⟨r.val / 512, by omega⟩⟩ : Fin 8) p f))
          (fun p f => m (c.tc.loc main_arg4) (ix3 (⟨_, hb ⟨r.val / 512, by omega⟩⟩ : Fin 8) p f))
          (fun f p => m (c.tc.loc main_arg5) (ix3 (⟨_, hb ⟨r.val / 512, by omega⟩⟩ : Fin 8) f p)) q)
        (0 : EReal) := by
  have hl := looked_apply (m (c.tc.loc main_arg1)) ⟨r.val / 512, by omega⟩ (hb _)
  have h3 : ∀ p f, Host.gather gather_S8x1024x3584_S136x1_S136x1024x3584_12_0_n_n_0_1_110243584 (m (c.tc.loc main_arg3))
      (looked (m (c.tc.loc main_arg1))) (ix3 (⟨r.val / 512, by omega⟩ : Fin 136) p f) = m (c.tc.loc main_arg3) (ix3 (⟨_, hb ⟨r.val / 512, by omega⟩⟩ : Fin 8) p f) :=
    fun p f => bank_apply (by decide) _ _ _ _ p f _ (congrArg BitVec.toNat hl)
  have h4 : ∀ p f, Host.gather gather_S8x1024x3584_S136x1_S136x1024x3584_12_0_n_n_0_1_110243584 (m (c.tc.loc main_arg4))
      (looked (m (c.tc.loc main_arg1))) (ix3 (⟨r.val / 512, by omega⟩ : Fin 136) p f) = m (c.tc.loc main_arg4) (ix3 (⟨_, hb ⟨r.val / 512, by omega⟩⟩ : Fin 8) p f) :=
    fun p f => bank_apply (by decide) _ _ _ _ p f _ (congrArg BitVec.toNat hl)
  have h5 : ∀ f p, Host.gather gather_S8x3584x1024_S136x1_S136x3584x1024_12_0_n_n_0_1_135841024 (m (c.tc.loc main_arg5))
      (looked (m (c.tc.loc main_arg1))) (ix3 (⟨r.val / 512, by omega⟩ : Fin 136) f p) = m (c.tc.loc main_arg5) (ix3 (⟨_, hb ⟨r.val / 512, by omega⟩⟩ : Fin 8) f p) :=
    fun f p => bank_apply (by decide) _ _ _ _ f p _ (congrArg BitVec.toNat hl)
  unfold Value.res_main_v40
  clean_types
  pointwise []
  unfold looked at h3 h4 h5
  simp only [h3, h4, h5]
  have hz : (id (constant (F := Ideal) S_ FTy.f32 0#32 ix0) : EReal) = 0 := by
    show Ideal.ofBits .f32 0#32 = 0
    simp
  exact (congrArg (Scalar.select _ _) hz).trans rfl

end Cert.Expert

end
-- ==== Proof.ExpertBlock.lean ====
/- What the expert kernel's body leaves in its result's buffer, read at an index. -/
module

public import proofs.«01_k».proof.Proof.ExpertBody
public import proofs.«01_k».proof.Proof.RefExpert

@[expose] public section

set_option backward.isDefEq.respectTransparency.types false
set_option maxRecDepth 16384

noncomputable section

namespace Cert.Expert

open Cert.Kernel3Ideal Cert.Kernel3Ideal.Gen
open Idealize.ShloMosaic Idealize.ShloMosaic.TcCoe Idealize.ShloMosaic.Tactic
open Cert.Proof.Combine (half ladder)

/-- The hidden channels of a row of the block. -/
theorem acts_apply (x : Vec Ideal S512x512 .i32) (g u : Vec Ideal S1x1024x3584 .bf16) (i : Fin 512) (f : Fin 3584) :
    k0_pay3 (F := Ideal) x g u (ix2 i f)
      = channel (fun t => x (ix2 i t)) (fun p f => g (ix3 0 p f)) (fun p f => u (ix3 0 p f)) f := by
  pointwise [k0_pay3]
  exact (congrArg₂ (· * ·)
    (congrArg (fun s : EReal => s * Ideal.logistic s)
      (Finset.sum_congr rfl fun p _ => congrArg (· * g (ix3 0 p f)) (ladder (fun t => x (ix2 i t)) p)))
    (Finset.sum_congr rfl fun p _ => congrArg (· * u (ix3 0 p f)) (ladder (fun t => x (ix2 i t)) p))).trans rfl

/-- The product with the down weights. -/
theorem down_apply (v : Vec Ideal S512x3584 .bf16) (d : Vec Ideal S1x3584x1024 .bf16) (i : Fin 512) (q : Fin 1024) :
    k0_pay1 (F := Ideal) v d (ix2 i q) = ∑ f : Fin 3584, v (ix2 i f) * d (ix3 0 f q) := by
  pointwise [k0_pay1]

/-- The zeros stored at a point that is not in use. -/
theorem zero_apply (i : Fin 512) (q : Fin 1024) : k0_pay2 (F := Ideal) (ix2 i q) = (0 : EReal) := by
  pointwise [k0_pay2]

/-- A load or a store of a whole buffer is at the index itself. -/
theorem at_start2 {n w : ℕ} (h : ∀ a, (![0, 0] : Fin 2 → ℕ) a + (![n, w] : Fin 2 → ℕ) a ≤ (![n, w] : Fin 2 → ℕ) a)
    (p : Fin n) (q : Fin w) : (Rect.unit (s := ⟨2, ![n, w]⟩) ![0, 0] ![n, w] h).idx (ix2 p q) = ix2 p q := by
  funext a
  refine Fin.ext ?_
  fin_cases a
  · show 0 + 1 * p.val = p.val; omega
  · show 0 + 1 * q.val = q.val; omega
theorem at_start3 {k n w : ℕ} (h : ∀ a, (![0, 0, 0] : Fin 3 → ℕ) a + (![k, n, w] : Fin 3 → ℕ) a ≤ (![k, n, w] : Fin 3 → ℕ) a)
    (b : Fin k) (p : Fin n) (q : Fin w) : (Rect.unit (s := ⟨3, ![k, n, w]⟩) ![0, 0, 0] ![k, n, w] h).idx (ix3 b p q) = ix3 b p q := by
  funext a
  refine Fin.ext ?_
  fin_cases a
  · show 0 + 1 * b.val = b.val; omega
  · show 0 + 1 * p.val = p.val; omega
  · show 0 + 1 * q.val = q.val; omega

/-- What the body leaves at a point of a used block: the rows through the block's expert. -/
theorem rows_apply (x : Vec Ideal S512x512 .i32) (g u : Vec Ideal S1x1024x3584 .bf16) (d : Vec Ideal S1x3584x1024 .bf16)
    (i : Fin 512) (q : Fin 1024) :
    rows (F := Ideal) x g u d (ix2 i q)
      = through (fun t => x (ix2 i t)) (fun p f => g (ix3 0 p f)) (fun p f => u (ix3 0 p f)) (fun f p => d (ix3 0 f p)) q := by
  unfold rows
  refine View.canon_apply_of_pieces (Val := Elt Ideal) (S := S512x1024) (e := .bf16)
    (fun y => through (fun t => x (ix2 (y 0) t)) (fun p f => g (ix3 0 p f)) (fun p f => u (ix3 0 p f)) (fun f p => d (ix3 0 f p)) (y 1))
    _ ?_ (ix2 i q) (reaches _ _)
  refine List.forall_mem_cons.mpr ⟨fun y => ?_, fun _ h => absurd h (List.not_mem_nil)⟩
  obtain ⟨a, b, rfl⟩ : ∃ (a : Fin 512) (b : Fin 1024), y = ix2 a b := ⟨y 0, y 1, eq_ix2 y⟩
  have hO : rO.emb (ix2 a b) = (ix2 a b : S512x1024.Idx) := at_start2 _ _ _
  refine Eq.trans ?_ (congrArg (fun y : S512x1024.Idx => through (fun t => x (ix2 (y 0) t)) (fun p f => g (ix3 0 p f))
    (fun p f => u (ix3 0 p f)) (fun f p => d (ix3 0 f p)) (y 1)) hO.symm)
  refine (down_apply _ _ a b).trans ?_
  unfold through
  refine Finset.sum_congr rfl fun f _ => congrArg₂ (· * ·) ((acts_apply _ _ _ a f).trans ?_) (congrArg d (at_start3 _ _ _ _))
  have ex : (fun t => View.ld x rX (ix2 a t)) = fun t => x (ix2 a t) := funext fun t => congrArg x (at_start2 _ _ _)
  have eg : (fun p f => View.ld g rW (ix3 0 p f)) = fun p f => g (ix3 0 p f) := funext₂ fun p f => congrArg g (at_start3 _ _ _ _)
  have eu : (fun p f => View.ld u rW (ix3 0 p f)) = fun p f => u (ix3 0 p f) := funext₂ fun p f => congrArg u (at_start3 _ _ _ _)
  exact congrFun (congr (congr (congrArg channel ex) eg) eu) f

/-- What it leaves at any other point: zeros. -/
theorem blank_apply (i : Fin 512) (q : Fin 1024) : blank (F := Ideal) (ix2 i q) = (0 : EReal) := by
  unfold blank
  refine View.canon_apply_of_pieces (Val := Elt Ideal) (S := S512x1024) (e := .bf16) (fun _ => (0 : EReal)) _ ?_ (ix2 i q) (reaches _ _)
  refine List.forall_mem_cons.mpr ⟨fun y => ?_, fun _ h => absurd h (List.not_mem_nil)⟩
  obtain ⟨a, b, rfl⟩ : ∃ (a : Fin 512) (b : Fin 1024), y = ix2 a b := ⟨y 0, y 1, eq_ix2 y⟩
  exact zero_apply a b

end Cert.Expert

end
-- ==== Proof.ExpertValue.lean ====
/- The expert call's value: the blocks the windows move at their places in the arrays, the result array from its blocks,
   and the claim that the kernel's result is the reference's. -/
module

public import proofs.«01_k».proof.Proof.ExpertFrames
public import proofs.«01_k».proof.Proof.ExpertBlock
public import Idealize.ShloMosaic.Lib.Pipeline.ValueKit

@[expose] public section

set_option backward.isDefEq.respectTransparency.types false
set_option maxRecDepth 16384

noncomputable section

namespace Cert.Expert

open Cert.Kernel3Ideal Cert.Kernel3Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The weights as the host casts them: the arguments. -/
theorem gate_entered : E0 m c main_v12 = m (c.tc.loc main_arg3) := by
  show StableHlo.after hostOps0 _ _ = _
  first | (after_results_simp; done) | (after_results_simp; rfl) | rfl
theorem up_entered : E0 m c main_v13 = m (c.tc.loc main_arg4) := by
  show StableHlo.after hostOps0 _ _ = _
  first | (after_results_simp; done) | (after_results_simp; rfl) | rfl
theorem down_entered : E0 m c main_v14 = m (c.tc.loc main_arg5) := by
  show StableHlo.after hostOps0 _ _ = _
  first | (after_results_simp; done) | (after_results_simp; rfl) | rfl

section Blocks
variable (E : (c : Dev nD) → (b : Ref sig .tc) → Buf (Elt Ideal) ((c : Thread nD τ).loc b)) (a : (pcfg0 (F := Ideal)).Adm)

/-- The only coordinate of a point is its number. -/
theorem coord (t : Fin (cfg0 a).N) : (grid0.coords t 0).val = t.val :=
  (by decide +kernel : ∀ t : Fin grid0.N, (grid0.coords t 0).val = t.val) t

/-- A block's element is the array's, at the block's index times its size and the element's own. -/
theorem rows_at (t : Fin (cfg0 a).N) (i q : Fin 512) (r : Fin 69632)
    (hr : r.val = cc0_transform_0 inb_S1_S1_0 numel1_S1 a.1 (grid0.coords t) 0 * 512 + i.val) :
    block E a c 0 t (ix2 i q) = E c main_arg0 (ix2 r q) := by
  have h : (((cfg0 a).win 0).blk t).view.emb (ix2 i q) = (ix2 r q : S69632x512.Idx) := by
    funext k
    refine Fin.ext ?_
    match k with
    | ⟨0, _⟩ =>
      refine Eq.trans (b := cc0_transform_0 inb_S1_S1_0 numel1_S1 a.1 (grid0.coords t) 0 * 512 + 1 * i.val) rfl ?_
      show _ = r.val
      omega
    | ⟨1, _⟩ =>
      refine Eq.trans (b := 0 * 512 + 1 * q.val) rfl ?_
      show _ = q.val
      omega
  exact congrArg (E c main_arg0) h

theorem gate_at (t : Fin (cfg0 a).N) (p : Fin 1024) (f : Fin 3584) (e : Fin 8)
    (he : cc0_transform_1 k0_off1_inb numel1_S1 a.1 (grid0.coords t) 0 = e.val) :
    block E a c 1 t (ix3 (0 : Fin 1) p f) = E c main_v12 (ix3 e p f) := by
  have h : (((cfg0 a).win 1).blk t).view.emb (ix3 (0 : Fin 1) p f) = (ix3 e p f : S8x1024x3584.Idx) := by
    funext k
    refine Fin.ext ?_
    match k with
    | ⟨0, _⟩ =>
      refine Eq.trans (b := cc0_transform_1 k0_off1_inb numel1_S1 a.1 (grid0.coords t) 0 * 1 + 1 * 0) rfl ?_
      show _ = e.val
      omega
    | ⟨1, _⟩ =>
      refine Eq.trans (b := 0 * 1024 + 1 * p.val) rfl ?_
      show _ = p.val
      omega
    | ⟨2, _⟩ =>
      refine Eq.trans (b := 0 * 3584 + 1 * f.val) rfl ?_
      show _ = f.val
      omega
  exact congrArg (E c main_v12) h

theorem up_at (t : Fin (cfg0 a).N) (p : Fin 1024) (f : Fin 3584) (e : Fin 8)
    (he : cc0_transform_2 k0_off1_inb numel1_S1 a.1 (grid0.coords t) 0 = e.val) :
    block E a c 2 t (ix3 (0 : Fin 1) p f) = E c main_v13 (ix3 e p f) := by
  have h : (((cfg0 a).win 2).blk t).view.emb (ix3 (0 : Fin 1) p f) = (ix3 e p f : S8x1024x3584.Idx) := by
    funext k
    refine Fin.ext ?_
    match k with
    | ⟨0, _⟩ =>
      refine Eq.trans (b := cc0_transform_2 k0_off1_inb numel1_S1 a.1 (grid0.coords t) 0 * 1 + 1 * 0) rfl ?_
      show _ = e.val
      omega
    | ⟨1, _⟩ =>
      refine Eq.trans (b := 0 * 1024 + 1 * p.val) rfl ?_
      show _ = p.val
      omega
    | ⟨2, _⟩ =>
      refine Eq.trans (b := 0 * 3584 + 1 * f.val) rfl ?_
      show _ = f.val
      omega
  exact congrArg (E c main_v13) h

theorem down_at (t : Fin (cfg0 a).N) (f : Fin 3584) (p : Fin 1024) (e : Fin 8)
    (he : cc0_transform_3 k0_off1_inb numel1_S1 a.1 (grid0.coords t) 0 = e.val) :
    block E a c 3 t (ix3 (0 : Fin 1) f p) = E c main_v14 (ix3 e f p) := by
  have h : (((cfg0 a).win 3).blk t).view.emb (ix3 (0 : Fin 1) f p) = (ix3 e f p : S8x3584x1024.Idx) := by
    funext k
    refine Fin.ext ?_
    match k with
    | ⟨0, _⟩ =>
      refine Eq.trans (b := cc0_transform_3 k0_off1_inb numel1_S1 a.1 (grid0.coords t) 0 * 1 + 1 * 0) rfl ?_
      show _ = e.val
      omega
    | ⟨1, _⟩ =>
      refine Eq.trans (b := 0 * 3584 + 1 * f.val) rfl ?_
      show _ = f.val
      omega
    | ⟨2, _⟩ =>
      refine Eq.trans (b := 0 * 1024 + 1 * p.val) rfl ?_
      show _ = p.val
      omega
  exact congrArg (E c main_v14) h

/-- Where the result's blocks lie. -/
theorem out_emb (t : Fin (cfg0 a).N) (i : Fin 512) (q : Fin 1024) (r : Fin 69632) (hr : r.val = t.val * 512 + i.val) :
    (((cfg0 a).win 4).blk t).view.emb (ix2 i q) = (ix2 r q : S69632x1024.Idx) := by
  have ht := (by decide +kernel : ∀ t : Fin grid0.N, cc0_transform_4 (grid0.coords t) 0 = t.val) t
  funext k
  refine Fin.ext ?_
  match k with
  | ⟨0, _⟩ =>
    refine Eq.trans (b := cc0_transform_4 (grid0.coords t) 0 * 512 + 1 * i.val) rfl ?_
    show _ = r.val
    omega
  | ⟨1, _⟩ =>
    refine Eq.trans (b := 0 * 1024 + 1 * q.val) rfl ?_
    show _ = q.val
    omega

/-- Every point writes its block back. -/
theorem out_flush (t : Fin (cfg0 a).N) : ((cfg0 a).win 4).flush t = true :=
  (by decide +kernel : ∀ t : Fin grid0.N, Window.flushOf grid0 true cc0_transform_4 t = true) t

/-- The result's blocks cover it. -/
theorem out_cover (y : S69632x1024.Idx) : ∃ t : Fin (cfg0 a).N, ((cfg0 a).win 4).flush t = true ∧ y ∈ (((cfg0 a).win 4).blk t).view.set := by
  obtain ⟨r, q, rfl⟩ : ∃ (r : Fin 69632) (q : Fin 1024), y = ix2 r q := ⟨y 0, y 1, eq_ix2 y⟩
  have hr := r.isLt
  refine ⟨(⟨r.val / 512, by show _ < 136; omega⟩ : Fin 136), out_flush a _, ?_⟩
  have e := out_emb a (⟨r.val / 512, by show _ < 136; omega⟩ : Fin 136) (⟨r.val % 512, by omega⟩ : Fin 512) q r (by show r.val = r.val / 512 * 512 + r.val % 512; omega)
  rw [← e]
  exact View.emb_mem_set _ _

/-- The word the body's condition reads is the count's only one. -/
theorem used_eq (n : (main_arg2).ty.Contents (Elt Ideal)) : used n = n (ix1 (0 : Fin 1)) := by
  refine congrArg n (funext fun k => ?_)
  match k with
  | ⟨0, _⟩ => exact Subsingleton.elim (α := Fin 1) _ _

/-- The condition is the comparison of the point with the count. -/
theorem cond1_iff (i : grid0.Coords) (w : BitVec 32) : k0_cond1 i w = 1#1 ↔ IntOp.cmpi .slt (BitVec.ofNat 32 (i 0).val) w = 1#1 := by
  unfold k0_cond1
  dsimp only
  show Scalar.cmpi .ne (Scalar.extui (IntOp.cmpi .slt (BitVec.ofNat 32 (i 0).val) w)) 0#32 = 1#1 ↔ _
  generalize IntOp.cmpi .slt (BitVec.ofNat 32 (i 0).val) w = b
  revert b
  decide

/-- What the body leaves, read at an index. -/
theorem left_apply (i : grid0.Coords) (n : (main_arg2).ty.Contents (Elt Ideal)) (x : Vec Ideal S512x512 .i32)
    (g u : Vec Ideal S1x1024x3584 .bf16) (d : Vec Ideal S1x3584x1024 .bf16) (p : Fin 512) (q : Fin 1024) :
    left i n x g u d (ix2 p q) = Scalar.select (IntOp.cmpi .slt (BitVec.ofNat 32 (i 0).val) (n (ix1 (0 : Fin 1))))
      (through (fun t => x (ix2 p t)) (fun p f => g (ix3 0 p f)) (fun p f => u (ix3 0 p f)) (fun f p => d (ix3 0 f p)) q) (0 : EReal) := by
  unfold left
  rw [used_eq]
  by_cases e : IntOp.cmpi .slt (BitVec.ofNat 32 (i 0).val) (n (ix1 (0 : Fin 1))) = 1#1
  · rw [if_pos ((cond1_iff _ _).mpr e)]
    exact (rows_apply x g u d p q).trans (if_pos e).symm
  · rw [if_neg (fun h => e ((cond1_iff _ _).mp h))]
    exact (blank_apply p q).trans (if_neg e).symm

/-- What both programs compute at a row and a column: the row through the expert of its block if the block is in use,
    zero if not. -/
def spec (X : S69632x512.Idx → BitVec 32) (be : S136.Idx → BitVec 32) (n : S1.Idx → BitVec 32) (G U : S8x1024x3584.Idx → EReal)
    (D : S8x3584x1024.Idx → EReal) (hb : ∀ b : Fin 136, (be (ix1 b)).toNat < 8) (r : Fin 69632) (q : Fin 1024) : EReal :=
  Scalar.select (IntOp.cmpi .slt (BitVec.ofNat 32 (r.val / 512)) (n (ix1 (0 : Fin 1))))
    (through (fun t => X (ix2 r t)) (fun p f => G (ix3 (⟨_, hb ⟨r.val / 512, by omega⟩⟩ : Fin 8) p f))
      (fun p f => U (ix3 (⟨_, hb ⟨r.val / 512, by omega⟩⟩ : Fin 8) p f))
      (fun f p => D (ix3 (⟨_, hb ⟨r.val / 512, by omega⟩⟩ : Fin 8) f p)) q) (0 : EReal)

theorem spec_congr {X X' : S69632x512.Idx → BitVec 32} {be be' : S136.Idx → BitVec 32} {n n' : S1.Idx → BitVec 32}
    {G G' U U' : S8x1024x3584.Idx → EReal} {D D' : S8x3584x1024.Idx → EReal} (hX : X = X') (hbe : be = be') (hn : n = n')
    (hG : G = G') (hU : U = U') (hD : D = D') (hb : ∀ b : Fin 136, (be (ix1 b)).toNat < 8)
    (hb' : ∀ b : Fin 136, (be' (ix1 b)).toNat < 8) (r : Fin 69632) (q : Fin 1024) :
    spec X be n G U D hb r q = spec X' be' n' G' U' D' hb' r q := by
  subst hX hbe hn hG hU hD
  rfl

/-- What a point leaves in its block is that, of tables that name the block's expert. -/
theorem point_apply (X : S69632x512.Idx → BitVec 32) (be : S136.Idx → BitVec 32) (n : S1.Idx → BitVec 32) (G U : S8x1024x3584.Idx → EReal)
    (D : S8x3584x1024.Idx → EReal) (hb : ∀ b : Fin 136, (be (ix1 b)).toNat < 8)
    (h1 : 1 ≤ (n (ix1 (0 : Fin 1))).toNat) (h2 : (n (ix1 (0 : Fin 1))).toNat ≤ 136)
    (hX : E c main_arg0 = X) (hG : E c main_v12 = G) (hU : E c main_v13 = U) (hD : E c main_v14 = D)
    (hn : a.1 1 (ix1 (0 : Fin 1)) = n (ix1 (0 : Fin 1)))
    (ht : ∀ b : Fin 136, a.1 0 (ix1 b) = be (ix1 (⟨min b.val ((n (ix1 (0 : Fin 1))).toNat - 1), by have := b.isLt; omega⟩ : Fin 136)))
    (t : Fin (cfg0 a).N) (i : Fin 512) (q : Fin 1024) (r : Fin 69632) (hr : r.val = t.val * 512 + i.val) :
    left (grid0.coords t) (a.1 1) (block E a c 0 t) (block E a c 1 t) (block E a c 2 t) (block E a c 3 t) (ix2 i q)
      = spec X be n G U D hb r q := by
  have hc := coord a t
  have hi := i.isLt
  have htl : t.val < 136 := t.isLt
  have hrt : r.val / 512 = t.val := by omega
  refine (left_apply _ _ _ _ _ _ i q).trans ?_
  rw [hn, hc, ← hrt]
  unfold spec
  by_cases e : IntOp.cmpi .slt (BitVec.ofNat 32 (r.val / 512)) (n (ix1 (0 : Fin 1))) = 1#1
  · refine (if_pos e).trans (Eq.trans ?_ (if_pos e).symm)
    have hlt : t.val < (n (ix1 (0 : Fin 1))).toNat := by
      have := (StableHlo.Predicate.slt_iff_toNat (by rw [BitVec.toNat_ofNat]; omega) (by omega)).mp e
      rw [BitVec.toNat_ofNat] at this
      omega
    have hrow : cc0_transform_0 inb_S1_S1_0 numel1_S1 a.1 (grid0.coords t) 0 = t.val := by
      rw [row_eq a.1 (grid0.coords t) (by rw [hn]; exact h1) (by rw [hn]; exact h2)]
      show min (grid0.coords t 0).val _ = _
      rw [hn, hc]
      omega
    have hbank : a.1 0 (ix1 (⟨(grid0.coords t 0).val, point_lt (grid0.coords t)⟩ : Fin 136)) = be (ix1 (⟨r.val / 512, by omega⟩ : Fin 136)) := by
      rw [ht]
      refine congrArg be (congrArg ix1 (Fin.ext ?_))
      show min (grid0.coords t 0).val _ = r.val / 512
      omega
    have ex : (fun k => block E a c 0 t (ix2 i k)) = fun k => X (ix2 r k) := funext fun k =>
      (rows_at c E a t i k r (by rw [hrow]; exact hr)).trans (congrFun hX _)
    have eg : (fun p f => block E a c 1 t (ix3 0 p f)) = fun p f => G (ix3 (⟨_, hb ⟨r.val / 512, by omega⟩⟩ : Fin 8) p f) := funext₂ fun p f =>
      (gate_at c E a t p f _ (by rw [bank1_eq]; exact congrArg BitVec.toNat hbank)).trans (congrFun hG _)
    have eu : (fun p f => block E a c 2 t (ix3 0 p f)) = fun p f => U (ix3 (⟨_, hb ⟨r.val / 512, by omega⟩⟩ : Fin 8) p f) := funext₂ fun p f =>
      (up_at c E a t p f _ (by rw [bank2_eq]; exact congrArg BitVec.toNat hbank)).trans (congrFun hU _)
    have ed : (fun f p => block E a c 3 t (ix3 0 f p)) = fun f p => D (ix3 (⟨_, hb ⟨r.val / 512, by omega⟩⟩ : Fin 8) f p) := funext₂ fun f p =>
      (down_at c E a t f p _ (by rw [bank3_eq]; exact congrArg BitVec.toNat hbank)).trans (congrFun hD _)
    exact congrFun (congr (congr (congr (congrArg through ex) eg) eu) ed) q
  · exact (if_neg e).trans (if_neg e).symm

/-- The result's array from its blocks. -/
theorem array_of_blocks (f : S69632x1024.Idx → EReal)
    (hf : ∀ (t : Fin (cfg0 a).N) (i : Fin 512) (q : Fin 1024) (r : Fin 69632), r.val = t.val * 512 + i.val →
      left (grid0.coords t) (a.1 1) (block E a c 0 t) (block E a c 1 t) (block E a c 2 t) (block E a c 3 t) (ix2 i q) = f (ix2 r q)) :
    (data E a 0 c).arrAt 4 (cfg0 a).N = f := by
  refine (data E a 0 c).arrAt_eq_of_emb 4 f (fun t _ y => ?_) (out_cover a)
  have htl : t.val < 136 := t.isLt
  revert y
  show ∀ y : S512x1024.Idx, _
  intro y
  obtain ⟨i, q, rfl⟩ : ∃ (i : Fin 512) (q : Fin 1024), y = ix2 i q := ⟨y 0, y 1, eq_ix2 y⟩
  obtain ⟨r, hr⟩ : ∃ r : Fin 69632, r.val = t.val * 512 + i.val := ⟨⟨t.val * 512 + i.val, by have := i.isLt; omega⟩, rfl⟩
  refine Eq.trans ?_ (congrArg f (out_emb a t i q r hr).symm)
  rw [left_4]
  exact hf t i q r hr

end Blocks

/-- The result as a function of the arguments. -/
def final (hb : ∀ b : Fin 136, (m (c.tc.loc main_arg1) (ix1 b) : BitVec 32).toNat < 8) : S69632x1024.Idx → EReal := fun y =>
  spec (m (c.tc.loc main_arg0)) (m (c.tc.loc main_arg1)) (m (c.tc.loc main_arg2)) (m (c.tc.loc main_arg3)) (m (c.tc.loc main_arg4))
    (m (c.tc.loc main_arg5)) hb (y 0) (y 1)

/-- The result's array ends as that function. -/
theorem final_o (hr : Ranged m) (h : Inside m) (hb : ∀ b : Fin 136, (m (c.tc.loc main_arg1) (ix1 b) : BitVec 32).toNat < 8) :
    (data (E0 m) (admitted m h) 0 c).arrAt 4 (cfg0 (admitted m h)).N = final m c hb := by
  obtain rfl : c = 0 := Subsingleton.elim _ _
  refine array_of_blocks 0 (E0 m) (admitted m h) _ fun t i q r ht => ?_
  exact point_apply 0 (E0 m) (admitted m h) _ _ _ _ _ _ hb hr.2.1 hr.2.2 (entered0 m 0) (gate_entered m 0) (up_entered m 0)
    (down_entered m 0) (words_count m) (words_bank m hr) t i q r ht

theorem algebraic : Cert.algebraic_Kernel3Ideal_Reference3Ideal := by
  intro m g m' g' hpre hargs
  have hr := ranged_ideal m hpre
  have h := inside m hr
  have hb : ∀ (c : Dev nD) (b : Fin 136), (m (c.tc.loc main_arg1) (ix1 b) : BitVec 32).toNat < 8 := fun c =>
    (decoded (F := Ideal) _ _ _ _ _ _ (hpre c)).1
  refine ⟨fun c => final m c (hb c),
    (θ_run _ _ _).mono (fun r hh c => ⟨(hh.1 c).1.trans (final_o m c hr h (hb c)), (hh.1 c).2⟩) (ends m g h),
    (θ_run _ _ _).mono (fun r hh c => ⟨(hh c).1.trans ?_, (hh c).2⟩) (Cert.Reference3Ideal.Value.run (F := Ideal) m' g')⟩
  obtain ⟨h0, h1, h2, h3, h4, h5⟩ := hargs c
  have hb' : ∀ b : Fin 136, (m' (c.tc.loc Cert.Reference3Ideal.main_arg1) (ix1 b) : BitVec 32).toNat < 8 := fun b => by
    rw [h1]; exact hb c b
  funext y
  have e : y = ix2 (y 0) (y 1) := eq_ix2 y
  rw [e]
  exact (ref_apply m' c hb' (y 0) (y 1)).trans (spec_congr h0 h1 h2 h3 h4 h5 hb' (hb c) (y 0) (y 1))

end Cert.Expert

end
-- ==== Proof.lean ====
/-
  The certificate's proof: `v21`'s closing call, its dense SwiGLU and its experts' SwiGLU each compute what the plain
  reference of the call computes. The parts are the modules under Proof/.
-/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal.Run
public import proofs.«01_k».proof.Proof.Gen.Pre_tables_in_range
public import proofs.«01_k».proof.Proof.Frames
public import proofs.«01_k».proof.Proof.Value
public import proofs.«01_k».proof.Proof.DenseClaim
public import proofs.«01_k».proof.Proof.ExpertCompiled
public import proofs.«01_k».proof.Proof.ExpertValue

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_tables_in_range.Gen.facts,
    Combine.frame_kernel, Combine.frame_ideal, Combine.frame_ref, Dense.frame_kernel, Dense.frame_ideal, Dense.frame_ref,
    Cert.Expert.frame_kernel, Cert.Expert.frame_ideal, Cert.Expert.frame_ref, Cert.Expert.frame_ref_pre,
    trivial, Combine.algebraic, trivial, Dense.algebraic, trivial, Cert.Expert.algebraic⟩

end Cert.Proof

end
